-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_numbers [hPre_numbers : Cert.Pre_numbers.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_numbers [hPre_numbers : Cert.Pre_numbers.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_numbers [hKernel4Ideal : Cert.Kernel4Ideal.Facts] [hPre_numbers : Cert.Pre_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_numbers m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_numbers [hReference4Ideal : Cert.Reference4Ideal.Facts] [hPre_numbers : Cert.Pre_numbers.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_numbers m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_numbers [hKernel4Ideal : Cert.Kernel4Ideal.Facts] [hReference4Ideal : Cert.Reference4Ideal.Facts] [hPre_numbers : Cert.Pre_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_numbers m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v81_0)) (v1 : (c : Dev Cert.Kernel4Ideal.nD) → Buf (Elt Ideal) ((c.tc : Thread Cert.Kernel4Ideal.nD Cert.Kernel4Ideal.τ).loc Cert.Kernel4Ideal.main_v81_1)) (v2 : (c : Dev Cert.Kernel4Ideal.nD) → Buf (Elt Ideal) ((c.tc : Thread Cert.Kernel4Ideal.nD Cert.Kernel4Ideal.τ).loc Cert.Kernel4Ideal.main_v81_2)) (v3 : (c : Dev Cert.Kernel4Ideal.nD) → Buf (Elt Ideal) ((c.tc : Thread Cert.Kernel4Ideal.nD Cert.Kernel4Ideal.τ).loc Cert.Kernel4Ideal.main_v81_3)) (v4 : (c : Dev Cert.Kernel4Ideal.nD) → Buf (Elt Ideal) ((c.tc : Thread Cert.Kernel4Ideal.nD Cert.Kernel4Ideal.τ).loc Cert.Kernel4Ideal.main_v81_4)) (v5 : (c : Dev Cert.Kernel4Ideal.nD) → Buf (Elt Ideal) ((c.tc : Thread Cert.Kernel4Ideal.nD Cert.Kernel4Ideal.τ).loc Cert.Kernel4Ideal.main_v81_5)) (v6 : (c : Dev Cert.Kernel4Ideal.nD) → Buf (Elt Ideal) ((c.tc : Thread Cert.Kernel4Ideal.nD Cert.Kernel4Ideal.τ).loc Cert.Kernel4Ideal.main_v81_6)) (v7 : (c : Dev Cert.Kernel4Ideal.nD) → Buf (Elt Ideal) ((c.tc : Thread Cert.Kernel4Ideal.nD Cert.Kernel4Ideal.τ).loc Cert.Kernel4Ideal.main_v81_7)) (v8 : (c : Dev Cert.Kernel4Ideal.nD) → Buf (Elt Ideal) ((c.tc : Thread Cert.Kernel4Ideal.nD Cert.Kernel4Ideal.τ).loc Cert.Kernel4Ideal.main_v81_8)) (v9 : (c : Dev Cert.Kernel4Ideal.nD) → Buf (Elt Ideal) ((c.tc : Thread Cert.Kernel4Ideal.nD Cert.Kernel4Ideal.τ).loc Cert.Kernel4Ideal.main_v81_9)) (v10 : (c : Dev Cert.Kernel4Ideal.nD) → Buf (Elt Ideal) ((c.tc : Thread Cert.Kernel4Ideal.nD Cert.Kernel4Ideal.τ).loc Cert.Kernel4Ideal.main_v81_10)) (v11 : (c : Dev Cert.Kernel4Ideal.nD) → Buf (Elt Ideal) ((c.tc : Thread Cert.Kernel4Ideal.nD Cert.Kernel4Ideal.τ).loc Cert.Kernel4Ideal.main_v81_11)) (v12 : (c : Dev Cert.Kernel4Ideal.nD) → Buf (Elt Ideal) ((c.tc : Thread Cert.Kernel4Ideal.nD Cert.Kernel4Ideal.τ).loc Cert.Kernel4Ideal.main_v81_12)) (v13 : (c : Dev Cert.Kernel4Ideal.nD) → Buf (Elt Ideal) ((c.tc : Thread Cert.Kernel4Ideal.nD Cert.Kernel4Ideal.τ).loc Cert.Kernel4Ideal.main_v81_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v81_0) = v0 c
          ∧ r.2.mem ((c.tc : Thread Cert.Kernel4Ideal.nD Cert.Kernel4Ideal.τ).loc Cert.Kernel4Ideal.main_v81_1) = v1 c
          ∧ r.2.mem ((c.tc : Thread Cert.Kernel4Ideal.nD Cert.Kernel4Ideal.τ).loc Cert.Kernel4Ideal.main_v81_2) = v2 c
          ∧ r.2.mem ((c.tc : Thread Cert.Kernel4Ideal.nD Cert.Kernel4Ideal.τ).loc Cert.Kernel4Ideal.main_v81_3) = v3 c
          ∧ r.2.mem ((c.tc : Thread Cert.Kernel4Ideal.nD Cert.Kernel4Ideal.τ).loc Cert.Kernel4Ideal.main_v81_4) = v4 c
          ∧ r.2.mem ((c.tc : Thread Cert.Kernel4Ideal.nD Cert.Kernel4Ideal.τ).loc Cert.Kernel4Ideal.main_v81_5) = v5 c
          ∧ r.2.mem ((c.tc : Thread Cert.Kernel4Ideal.nD Cert.Kernel4Ideal.τ).loc Cert.Kernel4Ideal.main_v81_6) = v6 c
          ∧ r.2.mem ((c.tc : Thread Cert.Kernel4Ideal.nD Cert.Kernel4Ideal.τ).loc Cert.Kernel4Ideal.main_v81_7) = v7 c
          ∧ r.2.mem ((c.tc : Thread Cert.Kernel4Ideal.nD Cert.Kernel4Ideal.τ).loc Cert.Kernel4Ideal.main_v81_8) = v8 c
          ∧ r.2.mem ((c.tc : Thread Cert.Kernel4Ideal.nD Cert.Kernel4Ideal.τ).loc Cert.Kernel4Ideal.main_v81_9) = v9 c
          ∧ r.2.mem ((c.tc : Thread Cert.Kernel4Ideal.nD Cert.Kernel4Ideal.τ).loc Cert.Kernel4Ideal.main_v81_10) = v10 c
          ∧ r.2.mem ((c.tc : Thread Cert.Kernel4Ideal.nD Cert.Kernel4Ideal.τ).loc Cert.Kernel4Ideal.main_v81_11) = v11 c
          ∧ r.2.mem ((c.tc : Thread Cert.Kernel4Ideal.nD Cert.Kernel4Ideal.τ).loc Cert.Kernel4Ideal.main_v81_12) = v12 c
          ∧ r.2.mem ((c.tc : Thread Cert.Kernel4Ideal.nD Cert.Kernel4Ideal.τ).loc Cert.Kernel4Ideal.main_v81_13) = v13 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v126) = v0 c
          ∧ r.2.mem ((c.tc : Thread Cert.Reference4Ideal.nD Cert.Reference4Ideal.τ).loc Cert.Reference4Ideal.main_v187) = v1 c
          ∧ r.2.mem ((c.tc : Thread Cert.Reference4Ideal.nD Cert.Reference4Ideal.τ).loc Cert.Reference4Ideal.main_v188) = v2 c
          ∧ r.2.mem ((c.tc : Thread Cert.Reference4Ideal.nD Cert.Reference4Ideal.τ).loc Cert.Reference4Ideal.main_v240) = v3 c
          ∧ r.2.mem ((c.tc : Thread Cert.Reference4Ideal.nD Cert.Reference4Ideal.τ).loc Cert.Reference4Ideal.main_v288) = v4 c
          ∧ r.2.mem ((c.tc : Thread Cert.Reference4Ideal.nD Cert.Reference4Ideal.τ).loc Cert.Reference4Ideal.main_v289) = v5 c
          ∧ r.2.mem ((c.tc : Thread Cert.Reference4Ideal.nD Cert.Reference4Ideal.τ).loc Cert.Reference4Ideal.main_v292) = v6 c
          ∧ r.2.mem ((c.tc : Thread Cert.Reference4Ideal.nD Cert.Reference4Ideal.τ).loc Cert.Reference4Ideal.main_v293) = v7 c
          ∧ r.2.mem ((c.tc : Thread Cert.Reference4Ideal.nD Cert.Reference4Ideal.τ).loc Cert.Reference4Ideal.main_v294) = v8 c
          ∧ r.2.mem ((c.tc : Thread Cert.Reference4Ideal.nD Cert.Reference4Ideal.τ).loc Cert.Reference4Ideal.main_v36) = v9 c
          ∧ r.2.mem ((c.tc : Thread Cert.Reference4Ideal.nD Cert.Reference4Ideal.τ).loc Cert.Reference4Ideal.main_v298) = v10 c
          ∧ r.2.mem ((c.tc : Thread Cert.Reference4Ideal.nD Cert.Reference4Ideal.τ).loc Cert.Reference4Ideal.main_v301) = v11 c
          ∧ r.2.mem ((c.tc : Thread Cert.Reference4Ideal.nD Cert.Reference4Ideal.τ).loc Cert.Reference4Ideal.main_v302) = v12 c
          ∧ r.2.mem ((c.tc : Thread Cert.Reference4Ideal.nD Cert.Reference4Ideal.τ).loc Cert.Reference4Ideal.main_v303) = v13 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_numbers : Cert.Pre_numbers.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_numbers (hKernel4Ideal := hKernel4Ideal) (hPre_numbers := hPre_numbers)
    ∧ quiescent_Reference4Ideal (hReference4Ideal := hReference4Ideal)
    ∧ quiescent_Reference4Ideal_pre_numbers (hReference4Ideal := hReference4Ideal) (hPre_numbers := hPre_numbers)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_numbers (hKernel4Ideal := hKernel4Ideal) (hReference4Ideal := hReference4Ideal) (hPre_numbers := hPre_numbers)
-- ==== Pre_finite.lean ====
abbrev S2x8192x256 : Shape := ⟨3, ![2, 8192, 256]⟩
abbrev S2x8192x128 : Shape := ⟨3, ![2, 8192, 128]⟩
abbrev S2x256x128 : Shape := ⟨3, ![2, 256, 128]⟩
abbrev S_ : Shape := ⟨0, ![]⟩

class Facts : Prop where
  bitsLt_bf16_f32 : FTy.bits .bf16 < FTy.bits .f32
  bcast_S_S2x8192x256 : S_.BroadcastsInDim S2x8192x256 (![] : Fin 0 → Fin S2x8192x256.rank)
  reducesTo_S2x8192x256_S_d0_1_2 : S2x8192x256.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_

variable [Facts]

def fn {F : FTy → Type} [FloatOps F] (main_arg0 : FVec F S2x8192x256 .bf16) (main_arg1 : FVec F S2x8192x128 .bf16) (main_arg2 : FVec F S2x8192x128 .bf16) (main_arg3 : FVec F S2x256x128 .bf16) (main_arg4 : FVec F S2x256x128 .bf16) : IVec S_ 1 :=
  let main_v0 : FVec F S2x8192x256 .f32 := (extf .f32 · bitsLt_bf16_f32) main_arg0
  let main_v1 : FVec F S2x8192x256 .f32 := Host.absf main_v0
  let main_cst : FVec F S_ .f32 := constant S_ .f32 0x7F800000#32
  let main_v2 : FVec F S2x8192x256 .f32 := broadcastInDim S2x8192x256 ![] bcast_S_S2x8192x256 main_cst
  let main_v3 : IVec S2x8192x256 1 := cmpf .olt main_v1 main_v2
  let main_c : IVec S_ 1 := constantI S_ 1 1#1
  let main_v4 : IVec S_ 1 := (fun x v => Host.reduce IntOp.andi x v reducesTo_S2x8192x256_S_d0_1_2 h_S_) main_v3 main_c
  let main_v5 : FVec F S2x8192x128 .f32 := (extf .f32 · bitsLt_bf16_f32) main_arg1
  let main_v6 : FVec F S2x8192x128 .f32 := Host.absf main_v5
  let main_cst_0 : FVec F S_ .f32 := constant S_ .f32 0x7F800000#32
  let main_v7 : FVec F S2x8192x128 .f32 := broadcastInDim S2x8192x128 ![] bcast_S_S2x8192x128 main_cst_0
  let main_v8 : IVec S2x8192x128 1 := cmpf .olt main_v6 main_v7
  let main_c_1 : IVec S_ 1 := constantI S_ 1 1#1
  let main_v9 : IVec S_ 1 := (fun x v => Host.reduce IntOp.andi x v reducesTo_S2x8192x128_S_d0_1_2 h_S_) main_v8 main_c_1
  let main_v10 : IVec S_ 1 := andi main_v4 main_v9
  let main_v11 : FVec F S2x256x128 .f32 := (extf .f32 · bitsLt_bf16_f32) main_arg3
  let main_v12 : FVec F S2x256x128 .f32 := Host.absf main_v11
  let main_cst_2 : FVec F S_ .f32 := constant S_ .f32 0x7F800000#32
  let main_v13 : FVec F S2x256x128 .f32 := broadcastInDim S2x256x128 ![] bcast_S_S2x256x128 main_cst_2
  let main_v14 : IVec S2x256x128 1 := cmpf .olt main_v12 main_v13
  let main_c_3 : IVec S_ 1 := constantI S_ 1 1#1
  let main_v15 : IVec S_ 1 := (fun x v => Host.reduce IntOp.andi x v reducesTo_S2x256x128_S_d0_1_2 h_S_) main_v14 main_c_3
  let main_v16 : IVec S_ 1 := andi main_v10 main_v15
  main_v16
-- ==== Pre_numbers.lean ====
abbrev S2x8192x1024 : Shape := ⟨3, ![2, 8192, 1024]⟩
abbrev S8x1x6144 : Shape := ⟨3, ![8, 1, 6144]⟩
abbrev S1024 : Shape := ⟨1, ![1024]⟩
abbrev S1024x2832 : Shape := ⟨2, ![1024, 2832]⟩
abbrev S64 : Shape := ⟨1, ![64]⟩
abbrev S16 : Shape := ⟨1, ![16]⟩
abbrev S_ : Shape := ⟨0, ![]⟩

class Facts : Prop where
  bcast_S_S8x1x6144 : S_.BroadcastsInDim S8x1x6144 (![] : Fin 0 → Fin S8x1x6144.rank)
  reducesTo_S8x1x6144_S_d0_1_2 : S8x1x6144.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2832 : S_.BroadcastsInDim S1024x2832 (![] : Fin 0 → Fin S1024x2832.rank)
  reducesTo_S1024x2832_S_d0_1 : S1024x2832.ReducesTo [0, 1] S_

variable [Facts]

def fn {F : FTy → Type} [FloatOps F] (main_arg0 : FVec F S2x8192x1024 .f32) (main_arg1 : FVec F S8x1x6144 .f32) (main_arg2 : FVec F S1024 .f32) (main_arg3 : FVec F S1024x2832 .f32) (main_arg4 : FVec F S64 .f32) (main_arg5 : FVec F S64 .f32) (main_arg6 : FVec F S16 .f32) : IVec S_ 1 :=
  let main_v0 : FVec F S8x1x6144 .f32 := Host.absf main_arg1
  let main_cst : FVec F S_ .f32 := constant S_ .f32 0x7F800000#32
  let main_v1 : FVec F S8x1x6144 .f32 := broadcastInDim S8x1x6144 ![] bcast_S_S8x1x6144 main_cst
  let main_v2 : IVec S8x1x6144 1 := cmpf .olt main_v0 main_v1
  let main_c : IVec S_ 1 := constantI S_ 1 1#1
  let main_v3 : IVec S_ 1 := (fun x v => Host.reduce IntOp.andi x v reducesTo_S8x1x6144_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2832 .f32 := Host.absf main_arg3
  let main_cst_2 : FVec F S_ .f32 := constant S_ .f32 0x7F800000#32
  let main_v10 : FVec F S1024x2832 .f32 := broadcastInDim S1024x2832 ![] bcast_S_S1024x2832 main_cst_2
  let main_v11 : IVec S1024x2832 1 := cmpf .olt main_v9 main_v10
  let main_c_3 : IVec S_ 1 := constantI S_ 1 1#1
  let main_v12 : IVec S_ 1 := (fun x v => Host.reduce IntOp.andi x v reducesTo_S1024x2832_S_d0_1 h_S_) main_v11 main_c_3
  let main_v13 : IVec S_ 1 := andi main_v8 main_v12
  main_v13
-- ==== Kernel.lean ====
abbrev S2x8192x256 : Shape := ⟨3, ![2, 8192, 256]⟩
abbrev S2x8192x128 : Shape := ⟨3, ![2, 8192, 128]⟩
abbrev S2x256x128 : Shape := ⟨3, ![2, 256, 128]⟩
abbrev S1x256x256 : Shape := ⟨3, ![1, 256, 256]⟩
abbrev S1x8192x128 : Shape := ⟨3, ![1, 8192, 128]⟩
abbrev S1x256x128 : Shape := ⟨3, ![1, 256, 128]⟩
abbrev S1024x1 : Shape := ⟨2, ![1024, 1]⟩
abbrev S1024x128 : Shape := ⟨2, ![1024, 128]⟩
abbrev S256x256 : Shape := ⟨2, ![256, 256]⟩
abbrev S256x128 : Shape := ⟨2, ![256, 128]⟩
abbrev S1024x256 : Shape := ⟨2, ![1024, 256]⟩
abbrev S1024 : Shape := ⟨1, ![1024]⟩
abbrev S1x512x128 : Shape := ⟨3, ![1, 512, 128]⟩
abbrev S512x128 : Shape := ⟨2, ![512, 128]⟩
abbrev S1024x512 : Shape := ⟨2, ![1024, 512]⟩

abbrev nBuf : Space → Nat
  | .hbm => 6
  | .vmem => 15
  | .smem => 0
  | _ => 0

abbrev bufTy : (tb : Table) → Fin (tcTables nBuf tb) → BufTy
  | .hbm, ⟨0, _⟩ => ⟨S2x8192x256, .bf16⟩
  | .hbm, ⟨1, _⟩ => ⟨S2x8192x128, .bf16⟩
  | .hbm, ⟨2, _⟩ => ⟨S2x8192x128, .bf16⟩
  | .hbm, ⟨3, _⟩ => ⟨S2x256x128, .bf16⟩
  | .hbm, ⟨4, _⟩ => ⟨S2x256x128, .bf16⟩
  | .hbm, ⟨5, _⟩ => ⟨S2x8192x256, .f32⟩
  | .local _ .vmem, ⟨0, _⟩ => ⟨S1x256x256, .bf16⟩
  | .local _ .vmem, ⟨1, _⟩ => ⟨S1x256x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x256, .f32⟩
  | .local _ .vmem, ⟨11, _⟩ => ⟨S1x256x256, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | _, _ => ⟨S2x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c16_i32 : BitVec 32 := 16#32
  let v36 : BitVec 32 := Scalar.addi c0_i32 c16_i32
  let c1_i32 : BitVec 32 := 1#32
  ⟨c0_i32, v36, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v54 : BitVec 32 := Scalar.muli arg11 c512_i32
  v54
def k0_off1 (k0_t1 : Fin k0_t1_loop.trips) : Fin 3 → Nat :=
  let c0_27 : Index := 0#32
  let c0_i32 : BitVec 32 := 0#32
  let c1_i32 : BitVec 32 := 1#32
  let arg11 : BitVec 32 := Scf.iv c0_i32 c1_i32 k0_t1
  let c512_i32 : BitVec 32 := 512#32
  let v54 : BitVec 32 := Scalar.muli arg11 c512_i32
  let v55 : BitVec 32 := v54
  let v56 : Index := Scalar.indexCast v55
  let c0_28 : Index := 0#32
  ![0, v56.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x8192x256 : Shape := ⟨3, ![2, 8192, 256]⟩
abbrev S2x8192x128 : Shape := ⟨3, ![2, 8192, 128]⟩
abbrev S2x256x128 : Shape := ⟨3, ![2, 256, 128]⟩
abbrev S2x8448x128 : Shape := ⟨3, ![2, 8448, 128]⟩
abbrev S2x8448x2x64 : Shape := ⟨4, ![2, 8448, 2, 64]⟩
abbrev S2x8192x2x2x64 : Shape := ⟨5, ![2, 8192, 2, 2, 64]⟩
abbrev S2x2x8448x8192x2 : Shape := ⟨5, ![2, 2, 8448, 8192, 2]⟩
abbrev S2x2x2x8192x8448 : Shape := ⟨5, ![2, 2, 2, 8192, 8448]⟩
abbrev S_ : Shape := ⟨0, ![]⟩
abbrev S2x2x2x8192 : Shape := ⟨4, ![2, 2, 2, 8192]⟩
abbrev S2x2x2x8192x1 : Shape := ⟨5, ![2, 2, 2, 8192, 1]⟩
abbrev S2x2x64x2x8192 : Shape := ⟨5, ![2, 2, 64, 2, 8192]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x256, .bf16⟩
  | .hbm, ⟨1, _⟩ => ⟨S2x8192x128, .bf16⟩
  | .hbm, ⟨2, _⟩ => ⟨S2x8192x128, .bf16⟩
  | .hbm, ⟨3, _⟩ => ⟨S2x256x128, .bf16⟩
  | .hbm, ⟨4, _⟩ => ⟨S2x256x128, .bf16⟩
  | .hbm, ⟨5, _⟩ => ⟨S2x256x128, .f32⟩
  | .hbm, ⟨6, _⟩ => ⟨S2x8192x128, .f32⟩
  | .hbm, ⟨7, _⟩ => ⟨S2x8448x128, .f32⟩
  | .hbm, ⟨8, _⟩ => ⟨S2x8448x2x64, .f32⟩
  | .hbm, ⟨9, _⟩ => ⟨S2x256x128, .f32⟩
  | .hbm, ⟨10, _⟩ => ⟨S2x8192x128, .f32⟩
  | .hbm, ⟨11, _⟩ => ⟨S2x8448x128, .f32⟩
  | .hbm, ⟨12, _⟩ => ⟨S2x8448x2x64, .f32⟩
  | .hbm, ⟨13, _⟩ => ⟨S2x8192x256, .f32⟩
  | .hbm, ⟨14, _⟩ => ⟨S2x8192x2x2x64, .f32⟩
  | .hbm, ⟨15, _⟩ => ⟨S2x2x8448x8192x2, .f32⟩
  | .hbm, ⟨16, _⟩ => ⟨S2x2x2x8192x8448, .f32⟩
  | .hbm, ⟨17, _⟩ => ⟨S_, .f32⟩
  | .hbm, ⟨18, _⟩ => ⟨S2x2x2x8192, .f32⟩
  | .hbm, ⟨19, _⟩ => ⟨S_, .f32⟩
  | .hbm, ⟨20, _⟩ => ⟨S2x2x2x8192, .f32⟩
  | .hbm, ⟨21, _⟩ => ⟨S2x2x2x8192, .f32⟩
  | .hbm, ⟨22, _⟩ => ⟨S2x2x2x8192x1, .f32⟩
  | .hbm, ⟨23, _⟩ => ⟨S2x2x2x8192x8448, .f32⟩
  | .hbm, ⟨24, _⟩ => ⟨S2x2x2x8192x8448, .f32⟩
  | .hbm, ⟨25, _⟩ => ⟨S2x2x2x8192x8448, .f32⟩
  | .hbm, ⟨26, _⟩ => ⟨S_, .f32⟩
  | .hbm, ⟨27, _⟩ => ⟨S2x2x2x8192, .f32⟩
  | .hbm, ⟨28, _⟩ => ⟨S2x2x2x8192x1, .f32⟩
  | .hbm, ⟨29, _⟩ => ⟨S2x2x2x8192x8448, .f32⟩
  | .hbm, ⟨30, _⟩ => ⟨S2x2x2x8192x8448, .f32⟩
  | .hbm, ⟨31, _⟩ => ⟨S2x2x2x8192x8448, .bf16⟩
  | .hbm, ⟨32, _⟩ => ⟨S2x2x2x8192x8448, .f32⟩
  | .hbm, ⟨33, _⟩ => ⟨S2x2x64x2x8192, .f32⟩
  | .hbm, ⟨34, _⟩ => ⟨S2x8192x2x2x64, .f32⟩
  | .hbm, ⟨35, _⟩ => ⟨S2x8192x256, .f32⟩
  | _, _ => ⟨S2x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel2.lean ====
abbrev S2x8192x1024 : Shape := ⟨3, ![2, 8192, 1024]⟩
abbrev S8x1x6144 : Shape := ⟨3, ![8, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1024x2x11x256 : Shape := ⟨4, ![1024, 2, 11, 256]⟩
abbrev S2x11x1024x256 : Shape := ⟨4, ![2, 11, 1024, 256]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S8x2x11x256 : Shape := ⟨4, ![8, 2, 11, 256]⟩
abbrev S2x11x8x256 : Shape := ⟨4, ![2, 11, 8, 256]⟩
abbrev S11x256x1024 : Shape := ⟨3, ![11, 256, 1024]⟩
abbrev S1x11x1024x256 : Shape := ⟨4, ![1, 11, 1024, 256]⟩
abbrev S11x1024x256 : Shape := ⟨3, ![11, 1024, 256]⟩
abbrev S1x11x8x256 : Shape := ⟨4, ![1, 11, 8, 256]⟩
abbrev S11x8x256 : Shape := ⟨3, ![11, 8, 256]⟩
abbrev S1x512x1024 : Shape := ⟨3, ![1, 512, 1024]⟩
abbrev S1x8x1024 : Shape := ⟨3, ![1, 8, 1024]⟩
abbrev S1x1x6144 : Shape := ⟨3, ![1, 1, 6144]⟩
abbrev S512x1024 : Shape := ⟨2, ![512, 1024]⟩
abbrev S1x6144 : Shape := ⟨2, ![1, 6144]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S528x1024 : Shape := ⟨2, ![528, 1024]⟩
abbrev S1x1024x256 : Shape := ⟨3, ![1, 1024, 256]⟩
abbrev S1024x256 : Shape := ⟨2, ![1024, 256]⟩
abbrev S528x256 : Shape := ⟨2, ![528, 256]⟩
abbrev S1x8x256 : Shape := ⟨3, ![1, 8, 256]⟩
abbrev S8x256 : Shape := ⟨2, ![8, 256]⟩
abbrev S1x256 : Shape := ⟨2, ![1, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 30
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S8x1x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x5632, .bf16⟩
  | .hbm, ⟨10, _⟩ => ⟨S1024x2x11x256, .bf16⟩
  | .hbm, ⟨11, _⟩ => ⟨S2x11x1024x256, .bf16⟩
  | .hbm, ⟨12, _⟩ => ⟨S1x5632, .f32⟩
  | .hbm, ⟨13, _⟩ => ⟨S_, .f32⟩
  | .hbm, ⟨14, _⟩ => ⟨S4x5632, .f32⟩
  | .hbm, ⟨15, _⟩ => ⟨S8x5632, .f32⟩
  | .hbm, ⟨16, _⟩ => ⟨S8x2x11x256, .f32⟩
  | .hbm, ⟨17, _⟩ => ⟨S2x11x8x256, .f32⟩
  | .hbm, ⟨18, _⟩ => ⟨S2816x1024, .bf16⟩
  | .hbm, ⟨19, _⟩ => ⟨S11x256x1024, .bf16⟩
  | .hbm, ⟨20, _⟩ => ⟨S1x11x1024x256, .bf16⟩
  | .hbm, ⟨21, _⟩ => ⟨S11x1024x256, .bf16⟩
  | .hbm, ⟨22, _⟩ => ⟨S1x11x1024x256, .bf16⟩
  | .hbm, ⟨23, _⟩ => ⟨S11x1024x256, .bf16⟩
  | .hbm, ⟨24, _⟩ => ⟨S1x11x8x256, .f32⟩
  | .hbm, ⟨25, _⟩ => ⟨S11x8x256, .f32⟩
  | .hbm, ⟨26, _⟩ => ⟨S1x11x8x256, .f32⟩
  | .hbm, ⟨27, _⟩ => ⟨S11x8x256, .f32⟩
  | .hbm, ⟨28, _⟩ => ⟨S1x1024, .f32⟩
  | .hbm, ⟨29, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S11x1024x256, .bf16⟩
  | .local _ .vmem, ⟨10, _⟩ => ⟨S11x1024x256, .bf16⟩
  | .local _ .vmem, ⟨11, _⟩ => ⟨S11x8x256, .f32⟩
  | .local _ .vmem, ⟨12, _⟩ => ⟨S11x8x256, .f32⟩
  | .local _ .vmem, ⟨13, _⟩ => ⟨S11x256x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_27 : BitVec 32 := 0#32
  let c11_i32 : BitVec 32 := 11#32
  let v86 : BitVec 32 := Scalar.addi c0_i32_27 c11_i32
  let c1_i32 : BitVec 32 := 1#32
  ⟨c0_i32_27, v86, c1_i32⟩
def k0_off1 (k0_t1 : Fin k0_t1_loop.trips) : Fin 3 → Nat :=
  let c0_i32_27 : BitVec 32 := 0#32
  let c1_i32 : BitVec 32 := 1#32
  let arg15 : BitVec 32 := Scf.iv c0_i32_27 c1_i32 k0_t1
  let v109 : Index := Scalar.indexCast arg15
  let c0_39 : Index := 0#32
  let c0_40 : Index := 0#32
  ![v109.toNat, 0, 0]
def k0_off2 (k0_t1 : Fin k0_t1_loop.trips) : Fin 3 → Nat :=
  let c0_i32_27 : BitVec 32 := 0#32
  let c1_i32 : BitVec 32 := 1#32
  let arg15 : BitVec 32 := Scf.iv c0_i32_27 c1_i32 k0_t1
  let v113 : Index := Scalar.indexCast arg15
  let c0_42 : Index := 0#32
  let c0_43 : Index := 0#32
  ![v113.toNat, 0, 0]
def k0_off3 (k0_t1 : Fin k0_t1_loop.trips) : Fin 3 → Nat :=
  let c0_i32_27 : BitVec 32 := 0#32
  let c1_i32 : BitVec 32 := 1#32
  let arg15 : BitVec 32 := Scf.iv c0_i32_27 c1_i32 k0_t1
  let v162 : Index := Scalar.indexCast arg15
  let c0_54 : Index := 0#32
  let c0_55 : Index := 0#32
  ![v162.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S2x8192x1024 : Shape := ⟨3, ![2, 8192, 1024]⟩
abbrev S8x1x6144 : Shape := ⟨3, ![8, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x1x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x5632, .f32⟩
  | .hbm, ⟨39, _⟩ => ⟨S_, .i32⟩
  | .hbm, ⟨40, _⟩ => ⟨S_, .f32⟩
  | .hbm, ⟨41, _⟩ => ⟨S2x8194x5632, .f32⟩
  | .hbm, ⟨42, _⟩ => ⟨S2x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S2x8192x5632, .f32⟩
  | .hbm, ⟨53, _⟩ => ⟨S2x8192x5632, .f32⟩
  | .hbm, ⟨54, _⟩ => ⟨S2x8192x5632, .f32⟩
  | .hbm, ⟨55, _⟩ => ⟨S2x8192x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S2x8192x5632, .f32⟩
  | .hbm, ⟨60, _⟩ => ⟨S2x8192x5632, .f32⟩
  | .hbm, ⟨61, _⟩ => ⟨S2x8192x5632, .f32⟩
  | .hbm, ⟨62, _⟩ => ⟨S1x1x5632, .f32⟩
  | .hbm, ⟨63, _⟩ => ⟨S2x8192x5632, .f32⟩
  | .hbm, ⟨64, _⟩ => ⟨S2x8192x5632, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S_, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S_, .f32⟩
  | .hbm, ⟨83, _⟩ => ⟨S2x8192, .f32⟩
  | .hbm, ⟨84, _⟩ => ⟨S2x8192x1, .f32⟩
  | .hbm, ⟨85, _⟩ => ⟨S_, .f32⟩
  | .hbm, ⟨86, _⟩ => ⟨S2x8192x1, .f32⟩
  | .hbm, ⟨87, _⟩ => ⟨S2x8192x1, .f32⟩
  | .hbm, ⟨88, _⟩ => ⟨S_, .f32⟩
  | .hbm, ⟨89, _⟩ => ⟨S2x8192x1, .f32⟩
  | .hbm, ⟨90, _⟩ => ⟨S2x8192x1, .f32⟩
  | .hbm, ⟨91, _⟩ => ⟨S2x8192x1, .f32⟩
  | .hbm, ⟨92, _⟩ => ⟨S2x8192x1024, .f32⟩
  | .hbm, ⟨93, _⟩ => ⟨S2x8192x1024, .f32⟩
  | .hbm, ⟨94, _⟩ => ⟨S1x1x1024, .f32⟩
  | .hbm, ⟨95, _⟩ => ⟨S2x8192x1024, .f32⟩
  | .hbm, ⟨96, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_3 : Ref sig .tc := ⟨.hbm, 82, rfl⟩
abbrev main_v60 : Ref sig .tc := ⟨.hbm, 83, rfl⟩
abbrev main_v61 : Ref sig .tc := ⟨.hbm, 84, rfl⟩
abbrev main_cst_4 : Ref sig .tc := ⟨.hbm, 85, rfl⟩
abbrev main_v62 : Ref sig .tc := ⟨.hbm, 86, rfl⟩
abbrev main_v63 : Ref sig .tc := ⟨.hbm, 87, rfl⟩
abbrev main_cst_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x256 : Shape := ⟨3, ![2, 8192, 256]⟩
abbrev S8x1x6144 : Shape := ⟨3, ![8, 1, 6144]⟩
abbrev S1024 : Shape := ⟨1, ![1024]⟩
abbrev S1024x1024 : Shape := ⟨2, ![1024, 1024]⟩
abbrev S4x256 : Shape := ⟨2, ![4, 256]⟩
abbrev S2x256 : Shape := ⟨2, ![2, 256]⟩
abbrev S2x64 : Shape := ⟨2, ![2, 64]⟩
abbrev S256x1024 : Shape := ⟨2, ![256, 1024]⟩
abbrev S64x1024 : Shape := ⟨2, ![64, 1024]⟩
abbrev S512x1024 : Shape := ⟨2, ![512, 1024]⟩
abbrev S1x512x1024 : Shape := ⟨3, ![1, 512, 1024]⟩
abbrev S1x512x256 : Shape := ⟨3, ![1, 512, 256]⟩
abbrev S1x1x6144 : Shape := ⟨3, ![1, 1, 6144]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1x6144 : Shape := ⟨2, ![1, 6144]⟩
abbrev S1x1024 : Shape := ⟨2, ![1, 1024]⟩

abbrev nBuf : Space → Nat
  | .hbm => 33
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S8x1x6144, .f32⟩
  | .hbm, ⟨6, _⟩ => ⟨S1024, .f32⟩
  | .hbm, ⟨7, _⟩ => ⟨S1024x1024, .f32⟩
  | .hbm, ⟨8, _⟩ => ⟨S4x256, .f32⟩
  | .hbm, ⟨9, _⟩ => ⟨S2x256, .f32⟩
  | .hbm, ⟨10, _⟩ => ⟨S2x64, .f32⟩
  | .hbm, ⟨11, _⟩ => ⟨S2x64, .f32⟩
  | .hbm, ⟨12, _⟩ => ⟨S2x64, .f32⟩
  | .hbm, ⟨13, _⟩ => ⟨S2x64, .f32⟩
  | .hbm, ⟨14, _⟩ => ⟨S2x256, .f32⟩
  | .hbm, ⟨15, _⟩ => ⟨S2x256, .f32⟩
  | .hbm, ⟨16, _⟩ => ⟨S4x256, .f32⟩
  | .hbm, ⟨17, _⟩ => ⟨S256x1024, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S64x1024, .f32⟩
  | .hbm, ⟨22, _⟩ => ⟨S256x1024, .f32⟩
  | .hbm, ⟨23, _⟩ => ⟨S256x1024, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S256x1024, .f32⟩
  | .hbm, ⟨29, _⟩ => ⟨S512x1024, .f32⟩
  | .hbm, ⟨30, _⟩ => ⟨S1024x1024, .f32⟩
  | .hbm, ⟨31, _⟩ => ⟨S1024x1024, .bf16⟩
  | .hbm, ⟨32, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x1x6144, .f32⟩
  | .local _ .vmem, ⟨11, _⟩ => ⟨S1x1x6144, .f32⟩
  | .local _ .vmem, ⟨12, _⟩ => ⟨S4x256, .f32⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x8192x1024 : Shape := ⟨3, ![2, 8192, 1024]⟩
abbrev S2x8192x256 : Shape := ⟨3, ![2, 8192, 256]⟩
abbrev S8x1x6144 : Shape := ⟨3, ![8, 1, 6144]⟩
abbrev S1024 : Shape := ⟨1, ![1024]⟩
abbrev S1024x1024 : Shape := ⟨2, ![1024, 1024]⟩
abbrev S2x1x6144 : Shape := ⟨3, ![2, 1, 6144]⟩
abbrev S2x1x1024 : Shape := ⟨3, ![2, 1, 1024]⟩
abbrev S2x8192x2x2x64 : Shape := ⟨5, ![2, 8192, 2, 2, 64]⟩
abbrev S2x8192x4x256 : Shape := ⟨4, ![2, 8192, 4, 256]⟩
abbrev S4x256 : Shape := ⟨2, ![4, 256]⟩
abbrev S_ : Shape := ⟨0, ![]⟩
abbrev S2x8192x4 : Shape := ⟨3, ![2, 8192, 4]⟩
abbrev S2x8192x4x1 : Shape := ⟨4, ![2, 8192, 4, 1]⟩
abbrev S1x1x4x256 : Shape := ⟨4, ![1, 1, 4, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S8x1x6144, .f32⟩
  | .hbm, ⟨6, _⟩ => ⟨S1024, .f32⟩
  | .hbm, ⟨7, _⟩ => ⟨S1024x1024, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x8192x2x2x64, .f32⟩
  | .hbm, ⟨16, _⟩ => ⟨S2x8192x2x2x64, .f32⟩
  | .hbm, ⟨17, _⟩ => ⟨S2x8192x256, .f32⟩
  | .hbm, ⟨18, _⟩ => ⟨S2x8192x2x2x64, .f32⟩
  | .hbm, ⟨19, _⟩ => ⟨S2x8192x2x2x64, .f32⟩
  | .hbm, ⟨20, _⟩ => ⟨S2x8192x256, .f32⟩
  | .hbm, ⟨21, _⟩ => ⟨S2x8192x1024, .f32⟩
  | .hbm, ⟨22, _⟩ => ⟨S2x8192x4x256, .f32⟩
  | .hbm, ⟨23, _⟩ => ⟨S4x256, .f32⟩
  | .hbm, ⟨24, _⟩ => ⟨S2x8192x4x256, .f32⟩
  | .hbm, ⟨25, _⟩ => ⟨S_, .f32⟩
  | .hbm, ⟨26, _⟩ => ⟨S2x8192x4, .f32⟩
  | .hbm, ⟨27, _⟩ => ⟨S2x8192x4x1, .f32⟩
  | .hbm, ⟨28, _⟩ => ⟨S_, .f32⟩
  | .hbm, ⟨29, _⟩ => ⟨S2x8192x4x1, .f32⟩
  | .hbm, ⟨30, _⟩ => ⟨S2x8192x4x1, .f32⟩
  | .hbm, ⟨31, _⟩ => ⟨S_, .f32⟩
  | .hbm, ⟨32, _⟩ => ⟨S2x8192x4x1, .f32⟩
  | .hbm, ⟨33, _⟩ => ⟨S2x8192x4x1, .f32⟩
  | .hbm, ⟨34, _⟩ => ⟨S2x8192x4x1, .f32⟩
  | .hbm, ⟨35, _⟩ => ⟨S2x8192x4x256, .f32⟩
  | .hbm, ⟨36, _⟩ => ⟨S2x8192x4x256, .f32⟩
  | .hbm, ⟨37, _⟩ => ⟨S1x1x4x256, .f32⟩
  | .hbm, ⟨38, _⟩ => ⟨S2x8192x4x256, .f32⟩
  | .hbm, ⟨39, _⟩ => ⟨S2x8192x4x256, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S2x8192x1024 : Shape := ⟨3, ![2, 8192, 1024]⟩
abbrev S8x1x6144 : Shape := ⟨3, ![8, 1, 6144]⟩
abbrev S1024 : Shape := ⟨1, ![1024]⟩
abbrev S1024x2832 : Shape := ⟨2, ![1024, 2832]⟩
abbrev S64 : Shape := ⟨1, ![64]⟩
abbrev S16 : Shape := ⟨1, ![16]⟩
abbrev S8192 : Shape := ⟨1, ![8192]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1024x112 : Shape := ⟨2, ![1024, 112]⟩
abbrev S1024x256 : Shape := ⟨2, ![1024, 256]⟩
abbrev S1024x64 : Shape := ⟨2, ![1024, 64]⟩
abbrev S1024x1024 : Shape := ⟨2, ![1024, 1024]⟩
abbrev S1024x768 : Shape := ⟨2, ![1024, 768]⟩
abbrev S1024x16 : Shape := ⟨2, ![1024, 16]⟩
abbrev S1024x2944 : Shape := ⟨2, ![1024, 2944]⟩
abbrev S1x64 : Shape := ⟨2, ![1, 64]⟩
abbrev S4x64 : Shape := ⟨2, ![4, 64]⟩
abbrev S2x64 : Shape := ⟨2, ![2, 64]⟩
abbrev S128 : Shape := ⟨1, ![128]⟩
abbrev S1x128 : Shape := ⟨2, ![1, 128]⟩
abbrev S2x8192x256 : Shape := ⟨3, ![2, 8192, 256]⟩
abbrev S2x8192x128 : Shape := ⟨3, ![2, 8192, 128]⟩
abbrev S1x512x1024 : Shape := ⟨3, ![1, 512, 1024]⟩
abbrev S1x1x6144 : Shape := ⟨3, ![1, 1, 6144]⟩
abbrev S512x128 : Shape := ⟨2, ![512, 128]⟩
abbrev S1x512x256 : Shape := ⟨3, ![1, 512, 256]⟩
abbrev S1x512x128 : Shape := ⟨3, ![1, 512, 128]⟩
abbrev S1x6144 : Shape := ⟨2, ![1, 6144]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S128x128 : Shape := ⟨2, ![128, 128]⟩
abbrev S1024x128 : Shape := ⟨2, ![1024, 128]⟩

abbrev nBuf : Space → Nat
  | .hbm => 183
  | .vmem => 42
  | .smem => 0
  | _ => 0

abbrev hbmTy0_0 (i : Nat) : BufTy := match i % 128 with
  | 0 => ⟨S2x8192x1024, .f32⟩
  | 1 => ⟨S8x1x6144, .f32⟩
  | 2 => ⟨S1024, .f32⟩
  | 3 => ⟨S1024x2832, .f32⟩
  | 4 => ⟨S64, .f32⟩
  | 5 => ⟨S64, .f32⟩
  | 6 => ⟨S16, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S8192, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i1⟩
  | 41 => ⟨S_, .i32⟩
  | 42 => ⟨S_, .i1⟩
  | 43 => ⟨S8192, .i1⟩
  | 44 => ⟨S8192, .i1⟩
  | 45 => ⟨S8192, .i1⟩
  | 46 => ⟨S8192, .i32⟩
  | 47 => ⟨S8192, .i32⟩
  | 48 => ⟨S8192, .i32⟩
  | 49 => ⟨S8192, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S8192x1, .f32⟩
  | 59 => ⟨S1x16, .f32⟩
  | 60 => ⟨S8192x16, .f32⟩
  | 61 => ⟨S8192x16, .f32⟩
  | 62 => ⟨S8192x16, .f32⟩
  | 63 => ⟨S8192x1, .f32⟩
  | 64 => ⟨S1x16, .f32⟩
  | 65 => ⟨S8192x16, .f32⟩
  | 66 => ⟨S8192x16, .f32⟩
  | 67 => ⟨S8192x16, .f32⟩
  | 68 => ⟨S8192x16, .f32⟩
  | 69 => ⟨S8192x16, .f32⟩
  | 70 => ⟨S8192x16, .f32⟩
  | 71 => ⟨S8192x16, .f32⟩
  | 72 => ⟨S8192x64, .f32⟩
  | 73 => ⟨S8192x16, .f32⟩
  | 74 => ⟨S8192x16, .f32⟩
  | 75 => ⟨S8192x16, .f32⟩
  | 76 => ⟨S8192x16, .f32⟩
  | 77 => ⟨S8192x16, .f32⟩
  | 78 => ⟨S8192x16, .f32⟩
  | 79 => ⟨S8192x64, .f32⟩
  | 80 => ⟨S1x8192x1x64, .f32⟩
  | 81 => ⟨S1x8192x2x64, .f32⟩
  | 82 => ⟨S8192x128, .f32⟩
  | 83 => ⟨S1x8192x1x64, .f32⟩
  | 84 => ⟨S1x8192x2x64, .f32⟩
  | 85 => ⟨S8192x128, .f32⟩
  | 86 => ⟨S256, .i32⟩
  | 87 => ⟨S256x1, .i32⟩
  | 88 => ⟨S_, .i32⟩
  | 89 => ⟨S_, .i32⟩
  | 90 => ⟨S256x1, .i32⟩
  | 91 => ⟨S256x1, .i32⟩
  | 92 => ⟨S256x1, .i32⟩
  | 93 => ⟨S_, .i32⟩
  | 94 => ⟨S256x1, .i32⟩
  | 95 => ⟨S256x1, .i1⟩
  | 96 => ⟨S256x1, .i32⟩
  | 97 => ⟨S256x1, .i32⟩
  | 98 => ⟨S_, .i32⟩
  | 99 => ⟨S256x1, .i32⟩
  | 100 => ⟨S256x1, .i1⟩
  | 101 => ⟨S256x1, .i1⟩
  | 102 => ⟨S_, .i32⟩
  | 103 => ⟨S256x1, .i32⟩
  | 104 => ⟨S256x1, .i32⟩
  | 105 => ⟨S256x1, .i32⟩
  | 106 => ⟨S256, .i32⟩
  | 107 => ⟨S1x256, .i32⟩
  | 108 => ⟨S_, .i32⟩
  | 109 => ⟨S_, .i32⟩
  | 110 => ⟨S1x256, .i32⟩
  | 111 => ⟨S1x256, .i32⟩
  | 112 => ⟨S1x256, .i32⟩
  | 113 => ⟨S_, .i32⟩
  | 114 => ⟨S1x256, .i32⟩
  | 115 => ⟨S1x256, .i1⟩
  | 116 => ⟨S1x256, .i32⟩
  | 117 => ⟨S1x256, .i32⟩
  | 118 => ⟨S_, .i32⟩
  | 119 => ⟨S1x256, .i32⟩
  | 120 => ⟨S1x256, .i1⟩
  | 121 => ⟨S1x256, .i1⟩
  | 122 => ⟨S_, .i32⟩
  | 123 => ⟨S1x256, .i32⟩
  | 124 => ⟨S1x256, .i32⟩
  | 125 => ⟨S1x256, .i32⟩
  | 126 => ⟨S256x256, .i32⟩
  | 127 => ⟨S256x256, .i32⟩
  | _ => ⟨S2x8192x1024, .f32⟩

abbrev hbmTy0_1 (i : Nat) : BufTy := match i % 128 with
  | 0 => ⟨S256x256, .i1⟩
  | 1 => ⟨S_, .f32⟩
  | 2 => ⟨S_, .f32⟩
  | 3 => ⟨S256x256, .f32⟩
  | 4 => ⟨S256x256, .f32⟩
  | 5 => ⟨S256x256, .f32⟩
  | 6 => ⟨S256x256, .bf16⟩
  | 7 => ⟨S1x1024, .f32⟩
  | 8 => ⟨S_, .f32⟩
  | 9 => ⟨S1024x112, .f32⟩
  | 10 => ⟨S1024x256, .f32⟩
  | 11 => ⟨S1024x64, .f32⟩
  | 12 => ⟨S1024x64, .f32⟩
  | 13 => ⟨S1024x64, .f32⟩
  | 14 => ⟨S1024x64, .f32⟩
  | 15 => ⟨S1024x256, .f32⟩
  | 16 => ⟨S1024x256, .f32⟩
  | 17 => ⟨S1024x256, .f32⟩
  | 18 => ⟨S1024x64, .f32⟩
  | 19 => ⟨S1024x64, .f32⟩
  | 20 => ⟨S1024x64, .f32⟩
  | 21 => ⟨S1024x64, .f32⟩
  | 22 => ⟨S1024x256, .f32⟩
  | 23 => ⟨S1024x256, .f32⟩
  | 24 => ⟨S1024x1024, .f32⟩
  | 25 => ⟨S1024x768, .f32⟩
  | 26 => ⟨S1024x16, .f32⟩
  | 27 => ⟨S1024x2944, .f32⟩
  | 28 => ⟨S1024x2944, .bf16⟩
  | 29 => ⟨S1x64, .f32⟩
  | 30 => ⟨S4x64, .f32⟩
  | 31 => ⟨S256, .f32⟩
  | 32 => ⟨S1x256, .f32⟩
  | 33 => ⟨S1x64, .f32⟩
  | 34 => ⟨S2x64, .f32⟩
  | 35 => ⟨S128, .f32⟩
  | 36 => ⟨S1x128, .f32⟩
  | 37 => ⟨S_, .i32⟩
  | 38 => ⟨S_, .f32⟩
  | 39 => ⟨S128, .f32⟩
  | 40 => ⟨S1x128, .f32⟩
  | 41 => ⟨S2x8192x256, .bf16⟩
  | 42 => ⟨S2x8192x128, .bf16⟩
  | 43 => ⟨S2x8192x128, .bf16⟩
  | 44 => ⟨S2x8192x256, .bf16⟩
  | 45 => ⟨S2x8192x128, .bf16⟩
  | 46 => ⟨S2x8192x128, .bf16⟩
  | 47 => ⟨S2x8192x256, .bf16⟩
  | 48 => ⟨S2x8192x256, .bf16⟩
  | 49 => ⟨S2x8192x256, .bf16⟩
  | 50 => ⟨S2x8192x256, .f32⟩
  | 51 => ⟨S2x8192x128, .f32⟩
  | 52 => ⟨S2x8192x256, .bf16⟩
  | 53 => ⟨S2x8192x256, .bf16⟩
  | 54 => ⟨S2x8192x256, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2944, .bf16⟩
  | .local _ .vmem, ⟨6, _⟩ => ⟨S256x256, .bf16⟩
  | .local _ .vmem, ⟨7, _⟩ => ⟨S1x256, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x128, .f32⟩
  | .local _ .vmem, ⟨14, _⟩ => ⟨S1x512x256, .bf16⟩
  | .local _ .vmem, ⟨15, _⟩ => ⟨S1x512x256, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .bf16⟩
  | .local _ .vmem, ⟨25, _⟩ => ⟨S1x512x128, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x256, .f32⟩
  | .local _ .vmem, ⟨33, _⟩ => ⟨S1x512x256, .f32⟩
  | .local _ .vmem, ⟨34, _⟩ => ⟨S1x512x128, .f32⟩
  | .local _ .vmem, ⟨35, _⟩ => ⟨S1x512x128, .f32⟩
  | .local _ .vmem, ⟨36, _⟩ => ⟨S1x512x256, .bf16⟩
  | .local _ .vmem, ⟨37, _⟩ => ⟨S1x512x256, .bf16⟩
  | .local _ .vmem, ⟨38, _⟩ => ⟨S1x512x256, .bf16⟩
  | .local _ .vmem, ⟨39, _⟩ => ⟨S1x512x256, .bf16⟩
  | .local _ .vmem, ⟨40, _⟩ => ⟨S1x512x256, .bf16⟩
  | .local _ .vmem, ⟨41, _⟩ => ⟨S1x512x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst : Ref sig .tc := ⟨.hbm, 52, rfl⟩
abbrev main_v7 : Ref sig .tc := ⟨.hbm, 53, rfl⟩
abbrev main_v8 : Ref sig .tc := ⟨.hbm, 54, rfl⟩
abbrev main_cst_1 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_c_2 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_c : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_0 : Ref sig .tc := ⟨.hbm, 102, rfl⟩
abbrev main_call2_v12 : Ref sig .tc := ⟨.hbm, 103, rfl⟩
abbrev main_call2_v13 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_c_3 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_c : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_0 : Ref sig .tc := ⟨.hbm, 122, rfl⟩
abbrev main_call3_v12 : Ref sig .tc := ⟨.hbm, 123, rfl⟩
abbrev main_call3_v13 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_cst_4 : Ref sig .tc := ⟨.hbm, 129, rfl⟩
abbrev main_cst_5 : Ref sig .tc := ⟨.hbm, 130, rfl⟩
abbrev main_call4_v0 : Ref sig .tc := ⟨.hbm, 131, rfl⟩
abbrev main_call4_v1 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_cst_6 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_c_7 : Ref sig .tc := ⟨.hbm, 165, rfl⟩
abbrev main_call5_v0 : Ref sig .tc := ⟨.hbm, 166, rfl⟩
abbrev main_v79 : Ref sig .tc := ⟨.hbm, 167, rfl⟩
abbrev main_v80 : Ref sig .tc := ⟨.hbm, 168, rfl⟩
abbrev main_v81_0 : Ref sig .tc := ⟨.hbm, 169, rfl⟩
abbrev main_v81_1 : Ref sig .tc := ⟨.hbm, 170, rfl⟩
abbrev main_v81_2 : Ref sig .tc := ⟨.hbm, 171, rfl⟩
abbrev main_v81_3 : Ref sig .tc := ⟨.hbm, 172, rfl⟩
abbrev main_v81_4 : Ref sig .tc := ⟨.hbm, 173, rfl⟩
abbrev main_v81_5 : Ref sig .tc := ⟨.hbm, 174, rfl⟩
abbrev main_v81_6 : Ref sig .tc := ⟨.hbm, 175, rfl⟩
abbrev main_v81_7 : Ref sig .tc := ⟨.hbm, 176, rfl⟩
abbrev main_v81_8 : Ref sig .tc := ⟨.hbm, 177, rfl⟩
abbrev main_v81_9 : Ref sig .tc := ⟨.hbm, 178, rfl⟩
abbrev main_v81_10 : Ref sig .tc := ⟨.hbm, 179, rfl⟩
abbrev main_v81_11 : Ref sig .tc := ⟨.hbm, 180, rfl⟩
abbrev main_v81_12 : Ref sig .tc := ⟨.hbm, 181, rfl⟩
abbrev main_v81_13 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference4Ideal.lean ====
abbrev S2x8192x1024 : Shape := ⟨3, ![2, 8192, 1024]⟩
abbrev S8x1x6144 : Shape := ⟨3, ![8, 1, 6144]⟩
abbrev S1024 : Shape := ⟨1, ![1024]⟩
abbrev S1024x2832 : Shape := ⟨2, ![1024, 2832]⟩
abbrev S64 : Shape := ⟨1, ![64]⟩
abbrev S16 : Shape := ⟨1, ![16]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2832 : Shape := ⟨3, ![2, 8192, 2832]⟩
abbrev S2x8192x256 : Shape := ⟨3, ![2, 8192, 256]⟩
abbrev S2x8192x128 : Shape := ⟨3, ![2, 8192, 128]⟩
abbrev S2x8192x16 : Shape := ⟨3, ![2, 8192, 16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S2x8192x4x32 : Shape := ⟨4, ![2, 8192, 4, 32]⟩
abbrev S2x8192x4x16 : Shape := ⟨4, ![2, 8192, 4, 16]⟩
abbrev S8192x1x16 : Shape := ⟨3, ![8192, 1, 16]⟩
abbrev S1x8192x1x16 : Shape := ⟨4, ![1, 8192, 1, 16]⟩
abbrev S2x8192x2x2x64 : Shape := ⟨5, ![2, 8192, 2, 2, 64]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x2x32 : Shape := ⟨4, ![2, 8192, 2, 32]⟩
abbrev S2x8192x2x16 : Shape := ⟨4, ![2, 8192, 2, 16]⟩
abbrev S1x1x16 : Shape := ⟨3, ![1, 1, 16]⟩

abbrev nBuf : Space → Nat
  | .hbm => 367
  | .vmem => 0
  | .smem => 0
  | _ => 0

abbrev hbmTy0_0 (i : Nat) : BufTy := match i % 128 with
  | 0 => ⟨S2x8192x1024, .f32⟩
  | 1 => ⟨S8x1x6144, .f32⟩
  | 2 => ⟨S1024, .f32⟩
  | 3 => ⟨S1024x2832, .f32⟩
  | 4 => ⟨S64, .f32⟩
  | 5 => ⟨S64, .f32⟩
  | 6 => ⟨S16, .f32⟩
  | 7 => ⟨S2x1x6144, .f32⟩
  | 8 => ⟨S2x1x1024, .f32⟩
  | 9 => ⟨S2x1x1024, .f32⟩
  | 10 => ⟨S2x1x1024, .f32⟩
  | 11 => ⟨S2x1x1024, .f32⟩
  | 12 => ⟨S2x1x1024, .f32⟩
  | 13 => ⟨S2x1x1024, .f32⟩
  | 14 => ⟨S2x8192x1024, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S_, .f32⟩
  | 31 => ⟨S2x1x1024, .f32⟩
  | 32 => ⟨S2x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S2x8192x2832, .f32⟩
  | 38 => ⟨S2x8192x256, .f32⟩
  | 39 => ⟨S2x8192x128, .f32⟩
  | 40 => ⟨S2x8192x128, .f32⟩
  | 41 => ⟨S2x8192x256, .f32⟩
  | 42 => ⟨S2x8192x128, .f32⟩
  | 43 => ⟨S2x8192x128, .f32⟩
  | 44 => ⟨S2x8192x256, .f32⟩
  | 45 => ⟨S2x8192x256, .f32⟩
  | 46 => ⟨S2x8192x256, .f32⟩
  | 47 => ⟨S2x8192x256, .f32⟩
  | 48 => ⟨S2x8192x16, .f32⟩
  | 49 => ⟨S2x8192x256, .f32⟩
  | 50 => ⟨S2x8192x256, .f32⟩
  | 51 => ⟨S2x8192x256, .f32⟩
  | 52 => ⟨S8192, .i32⟩
  | 53 => ⟨S_, .i32⟩
  | 54 => ⟨S_, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i1⟩
  | 61 => ⟨S8192, .i32⟩
  | 62 => ⟨S8192, .i32⟩
  | 63 => ⟨S_, .i32⟩
  | 64 => ⟨S8192, .i32⟩
  | 65 => ⟨S8192, .i1⟩
  | 66 => ⟨S8192, .i1⟩
  | 67 => ⟨S_, .i32⟩
  | 68 => ⟨S8192, .i32⟩
  | 69 => ⟨S8192, .i32⟩
  | 70 => ⟨S8192, .i32⟩
  | 71 => ⟨S8192, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8192, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i1⟩
  | 86 => ⟨S_, .i32⟩
  | 87 => ⟨S_, .i1⟩
  | 88 => ⟨S8192, .i1⟩
  | 89 => ⟨S8192, .i1⟩
  | 90 => ⟨S8192, .i1⟩
  | 91 => ⟨S8192, .i32⟩
  | 92 => ⟨S8192, .i32⟩
  | 93 => ⟨S8192, .i32⟩
  | 94 => ⟨S8192, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S8192x1, .f32⟩
  | 104 => ⟨S1x16, .f32⟩
  | 105 => ⟨S8192x16, .f32⟩
  | 106 => ⟨S8192x16, .f32⟩
  | 107 => ⟨S8192x16, .f32⟩
  | 108 => ⟨S8192x1, .f32⟩
  | 109 => ⟨S1x16, .f32⟩
  | 110 => ⟨S8192x16, .f32⟩
  | 111 => ⟨S8192x16, .f32⟩
  | 112 => ⟨S8192x16, .f32⟩
  | 113 => ⟨S2x8192x4x64, .f32⟩
  | 114 => ⟨S2x8192x4x64, .f32⟩
  | 115 => ⟨S_, .f32⟩
  | 116 => ⟨S2x8192x4, .f32⟩
  | 117 => ⟨S2x8192x4x1, .f32⟩
  | 118 => ⟨S_, .f32⟩
  | 119 => ⟨S2x8192x4x1, .f32⟩
  | 120 => ⟨S2x8192x4x1, .f32⟩
  | 121 => ⟨S_, .f32⟩
  | 122 => ⟨S2x8192x4x1, .f32⟩
  | 123 => ⟨S2x8192x4x1, .f32⟩
  | 124 => ⟨S2x8192x4x1, .f32⟩
  | 125 => ⟨S2x8192x4x64, .f32⟩
  | 126 => ⟨S2x8192x4x64, .f32⟩
  | 127 => ⟨S1x1x1x64, .f32⟩
  | _ => ⟨S2x8192x1024, .f32⟩

abbrev hbmTy0_1 (i : Nat) : BufTy := match i % 128 with
  | 0 => ⟨S2x8192x4x64, .f32⟩
  | 1 => ⟨S2x8192x4x64, .f32⟩
  | 2 => ⟨S2x8192x4x32, .f32⟩
  | 3 => ⟨S2x8192x4x32, .f32⟩
  | 4 => ⟨S2x8192x4x16, .f32⟩
  | 5 => ⟨S2x8192x4x16, .f32⟩
  | 6 => ⟨S8192x16, .f32⟩
  | 7 => ⟨S8192x1x16, .f32⟩
  | 8 => ⟨S8192x16, .f32⟩
  | 9 => ⟨S8192x1x16, .f32⟩
  | 10 => ⟨S1x8192x1x16, .f32⟩
  | 11 => ⟨S2x8192x4x16, .f32⟩
  | 12 => ⟨S2x8192x4x16, .f32⟩
  | 13 => ⟨S1x8192x1x16, .f32⟩
  | 14 => ⟨S2x8192x4x16, .f32⟩
  | 15 => ⟨S2x8192x4x16, .f32⟩
  | 16 => ⟨S2x8192x4x16, .f32⟩
  | 17 => ⟨S1x8192x1x16, .f32⟩
  | 18 => ⟨S2x8192x4x16, .f32⟩
  | 19 => ⟨S2x8192x4x16, .f32⟩
  | 20 => ⟨S1x8192x1x16, .f32⟩
  | 21 => ⟨S2x8192x4x16, .f32⟩
  | 22 => ⟨S2x8192x4x16, .f32⟩
  | 23 => ⟨S2x8192x4x16, .f32⟩
  | 24 => ⟨S2x8192x4x32, .f32⟩
  | 25 => ⟨S2x8192x4x16, .f32⟩
  | 26 => ⟨S2x8192x4x16, .f32⟩
  | 27 => ⟨S8192x16, .f32⟩
  | 28 => ⟨S8192x1x16, .f32⟩
  | 29 => ⟨S8192x16, .f32⟩
  | 30 => ⟨S8192x1x16, .f32⟩
  | 31 => ⟨S1x8192x1x16, .f32⟩
  | 32 => ⟨S2x8192x4x16, .f32⟩
  | 33 => ⟨S2x8192x4x16, .f32⟩
  | 34 => ⟨S1x8192x1x16, .f32⟩
  | 35 => ⟨S2x8192x4x16, .f32⟩
  | 36 => ⟨S2x8192x4x16, .f32⟩
  | 37 => ⟨S2x8192x4x16, .f32⟩
  | 38 => ⟨S1x8192x1x16, .f32⟩
  | 39 => ⟨S2x8192x4x16, .f32⟩
  | 40 => ⟨S2x8192x4x16, .f32⟩
  | 41 => ⟨S1x8192x1x16, .f32⟩
  | 42 => ⟨S2x8192x4x16, .f32⟩
  | 43 => ⟨S2x8192x4x16, .f32⟩
  | 44 => ⟨S2x8192x4x16, .f32⟩
  | 45 => ⟨S2x8192x4x32, .f32⟩
  | 46 => ⟨S2x8192x4x64, .f32⟩
  | 47 => ⟨S_, .f32⟩
  | 48 => ⟨S2x8192x4x64, .f32⟩
  | 49 => ⟨S2x8192x4x64, .f32⟩
  | 50 => ⟨S2x8192x2x2x64, .f32⟩
  | 51 => ⟨S2x8192x2x2x64, .f32⟩
  | 52 => ⟨S2x8192x256, .f32⟩
  | 53 => ⟨S2x8192x256, .bf16⟩
  | 54 => ⟨S2x8192x2x64, .f32⟩
  | 55 => ⟨S2x8192x2x64, .f32⟩
  | 56 => ⟨S_, .f32⟩
  | 57 => ⟨S2x8192x2, .f32⟩
  | 58 => ⟨S2x8192x2x1, .f32⟩
  | 59 => ⟨S_, .f32⟩
  | 60 => ⟨S2x8192x2x1, .f32⟩
  | 61 => ⟨S2x8192x2x1, .f32⟩
  | 62 => ⟨S_, .f32⟩
  | 63 => ⟨S2x8192x2x1, .f32⟩
  | 64 => ⟨S2x8192x2x1, .f32⟩
  | 65 => ⟨S2x8192x2x1, .f32⟩
  | 66 => ⟨S2x8192x2x64, .f32⟩
  | 67 => ⟨S2x8192x2x64, .f32⟩
  | 68 => ⟨S1x1x1x64, .f32⟩
  | 69 => ⟨S2x8192x2x64, .f32⟩
  | 70 => ⟨S2x8192x2x64, .f32⟩
  | 71 => ⟨S2x8192x2x32, .f32⟩
  | 72 => ⟨S2x8192x2x32, .f32⟩
  | 73 => ⟨S2x8192x2x16, .f32⟩
  | 74 => ⟨S2x8192x2x16, .f32⟩
  | 75 => ⟨S8192x16, .f32⟩
  | 76 => ⟨S8192x1x16, .f32⟩
  | 77 => ⟨S8192x16, .f32⟩
  | 78 => ⟨S8192x1x16, .f32⟩
  | 79 => ⟨S1x8192x1x16, .f32⟩
  | 80 => ⟨S2x8192x2x16, .f32⟩
  | 81 => ⟨S2x8192x2x16, .f32⟩
  | 82 => ⟨S1x8192x1x16, .f32⟩
  | 83 => ⟨S2x8192x2x16, .f32⟩
  | 84 => ⟨S2x8192x2x16, .f32⟩
  | 85 => ⟨S2x8192x2x16, .f32⟩
  | 86 => ⟨S1x8192x1x16, .f32⟩
  | 87 => ⟨S2x8192x2x16, .f32⟩
  | 88 => ⟨S2x8192x2x16, .f32⟩
  | 89 => ⟨S1x8192x1x16, .f32⟩
  | 90 => ⟨S2x8192x2x16, .f32⟩
  | 91 => ⟨S2x8192x2x16, .f32⟩
  | 92 => ⟨S2x8192x2x16, .f32⟩
  | 93 => ⟨S2x8192x2x32, .f32⟩
  | 94 => ⟨S2x8192x2x16, .f32⟩
  | 95 => ⟨S2x8192x2x16, .f32⟩
  | 96 => ⟨S8192x16, .f32⟩
  | 97 => ⟨S8192x1x16, .f32⟩
  | 98 => ⟨S8192x16, .f32⟩
  | 99 => ⟨S8192x1x16, .f32⟩
  | 100 => ⟨S1x8192x1x16, .f32⟩
  | 101 => ⟨S2x8192x2x16, .f32⟩
  | 102 => ⟨S2x8192x2x16, .f32⟩
  | 103 => ⟨S1x8192x1x16, .f32⟩
  | 104 => ⟨S2x8192x2x16, .f32⟩
  | 105 => ⟨S2x8192x2x16, .f32⟩
  | 106 => ⟨S2x8192x2x16, .f32⟩
  | 107 => ⟨S1x8192x1x16, .f32⟩
  | 108 => ⟨S2x8192x2x16, .f32⟩
  | 109 => ⟨S2x8192x2x16, .f32⟩
  | 110 => ⟨S1x8192x1x16, .f32⟩
  | 111 => ⟨S2x8192x2x16, .f32⟩
  | 112 => ⟨S2x8192x2x16, .f32⟩
  | 113 => ⟨S2x8192x2x16, .f32⟩
  | 114 => ⟨S2x8192x2x32, .f32⟩
  | 115 => ⟨S2x8192x2x64, .f32⟩
  | 116 => ⟨S2x8192x128, .f32⟩
  | 117 => ⟨S2x8192x128, .bf16⟩
  | 118 => ⟨S2x8192x128, .bf16⟩
  | 119 => ⟨S2x8192x4x64, .f32⟩
  | 120 => ⟨S2x8192x4x32, .f32⟩
  | 121 => ⟨S2x8192x4x32, .f32⟩
  | 122 => ⟨S2x8192x4x16, .f32⟩
  | 123 => ⟨S2x8192x4x16, .f32⟩
  | 124 => ⟨S8192x16, .f32⟩
  | 125 => ⟨S8192x1x16, .f32⟩
  | 126 => ⟨S8192x16, .f32⟩
  | 127 => ⟨S8192x1x16, .f32⟩
  | _ => ⟨S2x8192x1024, .f32⟩

abbrev hbmTy0_2 (i : Nat) : BufTy := match i % 128 with
  | 0 => ⟨S1x8192x1x16, .f32⟩
  | 1 => ⟨S2x8192x4x16, .f32⟩
  | 2 => ⟨S2x8192x4x16, .f32⟩
  | 3 => ⟨S1x8192x1x16, .f32⟩
  | 4 => ⟨S2x8192x4x16, .f32⟩
  | 5 => ⟨S2x8192x4x16, .f32⟩
  | 6 => ⟨S2x8192x4x16, .f32⟩
  | 7 => ⟨S1x8192x1x16, .f32⟩
  | 8 => ⟨S2x8192x4x16, .f32⟩
  | 9 => ⟨S2x8192x4x16, .f32⟩
  | 10 => ⟨S1x8192x1x16, .f32⟩
  | 11 => ⟨S2x8192x4x16, .f32⟩
  | 12 => ⟨S2x8192x4x16, .f32⟩
  | 13 => ⟨S2x8192x4x16, .f32⟩
  | 14 => ⟨S2x8192x4x32, .f32⟩
  | 15 => ⟨S2x8192x4x16, .f32⟩
  | 16 => ⟨S2x8192x4x16, .f32⟩
  | 17 => ⟨S8192x16, .f32⟩
  | 18 => ⟨S8192x1x16, .f32⟩
  | 19 => ⟨S8192x16, .f32⟩
  | 20 => ⟨S8192x1x16, .f32⟩
  | 21 => ⟨S1x8192x1x16, .f32⟩
  | 22 => ⟨S2x8192x4x16, .f32⟩
  | 23 => ⟨S2x8192x4x16, .f32⟩
  | 24 => ⟨S1x8192x1x16, .f32⟩
  | 25 => ⟨S2x8192x4x16, .f32⟩
  | 26 => ⟨S2x8192x4x16, .f32⟩
  | 27 => ⟨S2x8192x4x16, .f32⟩
  | 28 => ⟨S1x8192x1x16, .f32⟩
  | 29 => ⟨S2x8192x4x16, .f32⟩
  | 30 => ⟨S2x8192x4x16, .f32⟩
  | 31 => ⟨S1x8192x1x16, .f32⟩
  | 32 => ⟨S2x8192x4x16, .f32⟩
  | 33 => ⟨S2x8192x4x16, .f32⟩
  | 34 => ⟨S2x8192x4x16, .f32⟩
  | 35 => ⟨S2x8192x4x32, .f32⟩
  | 36 => ⟨S2x8192x4x64, .f32⟩
  | 37 => ⟨S_, .f32⟩
  | 38 => ⟨S2x8192x4x64, .f32⟩
  | 39 => ⟨S2x8192x4x64, .f32⟩
  | 40 => ⟨S2x8192x2x2x64, .f32⟩
  | 41 => ⟨S2x8192x2x2x64, .f32⟩
  | 42 => ⟨S2x8192x256, .f32⟩
  | 43 => ⟨S2x8192x256, .bf16⟩
  | 44 => ⟨S2x8192x2x64, .f32⟩
  | 45 => ⟨S2x8192x2x32, .f32⟩
  | 46 => ⟨S2x8192x2x32, .f32⟩
  | 47 => ⟨S2x8192x2x16, .f32⟩
  | 48 => ⟨S2x8192x2x16, .f32⟩
  | 49 => ⟨S8192x16, .f32⟩
  | 50 => ⟨S8192x1x16, .f32⟩
  | 51 => ⟨S8192x16, .f32⟩
  | 52 => ⟨S8192x1x16, .f32⟩
  | 53 => ⟨S1x8192x1x16, .f32⟩
  | 54 => ⟨S2x8192x2x16, .f32⟩
  | 55 => ⟨S2x8192x2x16, .f32⟩
  | 56 => ⟨S1x8192x1x16, .f32⟩
  | 57 => ⟨S2x8192x2x16, .f32⟩
  | 58 => ⟨S2x8192x2x16, .f32⟩
  | 59 => ⟨S2x8192x2x16, .f32⟩
  | 60 => ⟨S1x8192x1x16, .f32⟩
  | 61 => ⟨S2x8192x2x16, .f32⟩
  | 62 => ⟨S2x8192x2x16, .f32⟩
  | 63 => ⟨S1x8192x1x16, .f32⟩
  | 64 => ⟨S2x8192x2x16, .f32⟩
  | 65 => ⟨S2x8192x2x16, .f32⟩
  | 66 => ⟨S2x8192x2x16, .f32⟩
  | 67 => ⟨S2x8192x2x32, .f32⟩
  | 68 => ⟨S2x8192x2x16, .f32⟩
  | 69 => ⟨S2x8192x2x16, .f32⟩
  | 70 => ⟨S8192x16, .f32⟩
  | 71 => ⟨S8192x1x16, .f32⟩
  | 72 => ⟨S8192x16, .f32⟩
  | 73 => ⟨S8192x1x16, .f32⟩
  | 74 => ⟨S1x8192x1x16, .f32⟩
  | 75 => ⟨S2x8192x2x16, .f32⟩
  | 76 => ⟨S2x8192x2x16, .f32⟩
  | 77 => ⟨S1x8192x1x16, .f32⟩
  | 78 => ⟨S2x8192x2x16, .f32⟩
  | 79 => ⟨S2x8192x2x16, .f32⟩
  | 80 => ⟨S2x8192x2x16, .f32⟩
  | 81 => ⟨S1x8192x1x16, .f32⟩
  | 82 => ⟨S2x8192x2x16, .f32⟩
  | 83 => ⟨S2x8192x2x16, .f32⟩
  | 84 => ⟨S1x8192x1x16, .f32⟩
  | 85 => ⟨S2x8192x2x16, .f32⟩
  | 86 => ⟨S2x8192x2x16, .f32⟩
  | 87 => ⟨S2x8192x2x16, .f32⟩
  | 88 => ⟨S2x8192x2x32, .f32⟩
  | 89 => ⟨S2x8192x2x64, .f32⟩
  | 90 => ⟨S2x8192x128, .f32⟩
  | 91 => ⟨S2x8192x128, .bf16⟩
  | 92 => ⟨S2x8192x128, .bf16⟩
  | 93 => ⟨S_, .f32⟩
  | 94 => ⟨S2x8192x256, .f32⟩
  | 95 => ⟨S2x8192x256, .f32⟩
  | 96 => ⟨S2x8192x256, .bf16⟩
  | 97 => ⟨S2x8192x256, .bf16⟩
  | 98 => ⟨S2x8192x256, .bf16⟩
  | 99 => ⟨S1x1x16, .f32⟩
  | 100 => ⟨S2x8192x16, .f32⟩
  | 101 => ⟨S2x8192x16, .f32⟩
  | 102 => ⟨S_, .i32⟩
  | 103 => ⟨S_, .f32⟩
  | 104 => ⟨S2x8192x128, .f32⟩
  | 105 => ⟨S_, .f32⟩
  | 106 => ⟨S2x8192x256, .f32⟩
  | 107 => ⟨S2x8192x256, .f32⟩
  | 108 => ⟨S2x8192x256, .bf16⟩
  | 109 => ⟨S2x8192x256, .bf16⟩
  | 110 => ⟨S2x8192x256, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v42 : Ref sig .tc := ⟨.hbm, 70, rfl⟩
abbrev main_v43 : Ref sig .tc := ⟨.hbm, 71, rfl⟩
abbrev main_c_3 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_1 : Ref sig .tc := ⟨.hbm, 80, rfl⟩
abbrev main_call1_v5 : Ref sig .tc := ⟨.hbm, 81, rfl⟩
abbrev main_call1_v6 : Ref sig .tc := ⟨.hbm, 82, rfl⟩
abbrev main_call1_c_2 : Ref sig .tc := ⟨.hbm, 83, rfl⟩
abbrev main_call1_v7 : Ref sig .tc := ⟨.hbm, 84, rfl⟩
abbrev main_call1_v8 : Ref sig .tc := ⟨.hbm, 85, rfl⟩
abbrev main_call1_c_3 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_4 : Ref sig .tc := ⟨.hbm, 97, rfl⟩
abbrev main_v48 : Ref sig .tc := ⟨.hbm, 98, rfl⟩
abbrev main_v49 : Ref sig .tc := ⟨.hbm, 99, rfl⟩
abbrev main_cst_5 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_6 : Ref sig .tc := ⟨.hbm, 115, rfl⟩
abbrev main_v64 : Ref sig .tc := ⟨.hbm, 116, rfl⟩
abbrev main_v65 : Ref sig .tc := ⟨.hbm, 117, rfl⟩
abbrev main_cst_7 : Ref sig .tc := ⟨.hbm, 118, rfl⟩
abbrev main_v66 : Ref sig .tc := ⟨.hbm, 119, rfl⟩
abbrev main_v67 : Ref sig .tc := ⟨.hbm, 120, rfl⟩
abbrev main_cst_8 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_9 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_10 : Ref sig .tc := ⟨.hbm, 184, rfl⟩
abbrev main_v129 : Ref sig .tc := ⟨.hbm, 185, rfl⟩
abbrev main_v130 : Ref sig .tc := ⟨.hbm, 186, rfl⟩
abbrev main_cst_11 : Ref sig .tc := ⟨.hbm, 187, rfl⟩
abbrev main_v131 : Ref sig .tc := ⟨.hbm, 188, rfl⟩
abbrev main_v132 : Ref sig .tc := ⟨.hbm, 189, rfl⟩
abbrev main_cst_12 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_cst_13 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_cst_14 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_c_15 : Ref sig .tc := ⟨.hbm, 358, rfl⟩
abbrev main_call2_v0 : Ref sig .tc := ⟨.hbm, 359, rfl⟩
abbrev main_v298 : Ref sig .tc := ⟨.hbm, 360, rfl⟩
abbrev main_cst_16 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩

abbrev nD : Nat := 1
abbrev τ : Topo := Topo.v7x

variable {F : FTy → Type} [FloatOps F]
-- ==== Proof.Trip.lean ====
/-
  One trip of the attention kernel's loop over key blocks, as three functions of what the scratch buffers hold.

  The loop keeps three buffers per stacked query row: the running maximum of the scores, the running sum of their
  exponentials, and the running weighted sum of the values. Each trip stores each of them once, whole. This module
  reads those stores back: after a trip the buffers hold `k0_pay5`, `k0_pay8` and `k0_pay9` of what they held before
  and of the trip's 512 keys and values, and so after `k` trips they hold `st … k`.
-/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows trip `k` reads of a key or value array: rows `512 k` to `512 k + 511`. -/
def rows (X : Vec F S1x8192x128 .bf16) (k : Fin k0_t1_loop.trips) : Vec F S1x512x128 .bf16 :=
  View.ld X (Rect.unit (s := S1x8192x128) (k0_off1 k) S1x512x128.size (k0_off1_inb k))

/-- What reads back through a buffer after a store of its whole shape, whatever was stored before. -/
theorem read_whole_store {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self .., View.mem_set_unit_zero h inb y⟩]
  exact View.canon_cons_unit_zero h inb w L

/-- The three stores of one trip: the new maximum, the new sum and the new weighted sum, each over the whole buffer. -/
theorem trip_pieces (𝒱 : Variants) (c : Dev nD) (bd : Option 𝒱.V) (i : grid0.Coords) (arg2 : Memref sig .tc .vmem S1x256x256 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x256 .f32) (harg7 : arg7.IsWhole)
    (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (v12 : FVec F S1024x128 .bf16) (x1 x2 : Vec F S1x8192x128 .bf16) (k : Fin k0_t1_loop.trips)
    (f8 : BufTy.Contents (Elt F) arg8.view.ty) (f9 : BufTy.Contents (Elt F) arg9.view.ty) (f10 : BufTy.Contents (Elt F) arg10.view.ty) :
    tripL_k0_t1 (F := F) 𝒱 c bd i arg2 harg2 arg3 harg3 arg4 harg4 arg5 harg5 arg6 harg6 arg7 harg7 arg8 harg8 arg9 harg9 arg10 harg10 v12 (harg3.unread x1) (harg4.unread x2) k f8 f9 f10
      = ([⟨Rect.unit ![0, 0] S1024x1.size inb_S1024x1_S1024x1_0_0, k0_pay5 v12 (rows x1 k) (arg8.view.read (Elt F) f8)⟩],
         [⟨Rect.unit ![0, 0] S1024x1.size inb_S1024x1_S1024x1_0_0, k0_pay8 v12 (rows x1 k) (arg8.view.read (Elt F) f8) (arg9.view.read (Elt F) f9)⟩],
         [⟨Rect.unit ![0, 0] S1024x128.size inb_S1024x128_S1024x128_0_0, k0_pay9 v12 (rows x1 k) (arg8.view.read (Elt F) f8) (arg10.view.read (Elt F) f10) (rows x2 k)⟩]) := by
  unfold tripL_k0_t1 trip_k0_t1
  dsimp only
  sl_unfold_words
  unfold k0_pay2
  simp only [View.readAt_eq_ld, harg3.read_unread, harg4.read_unread, View.ld_unit_zero (S := S1024x1) hz2,
    View.ld_unit_zero (S := S1024x128) hz2, shapeCast_self]
  rfl

/-- The running maximum, sum and weighted sum of one trip, from those before it. -/
def stepSt (v12 : FVec F S1024x128 .bf16) (x1 x2 : Vec F S1x8192x128 .bf16) (k : Fin k0_t1_loop.trips)
    (s : Vec F S1024x1 .f32 × Vec F S1024x1 .f32 × Vec F S1024x128 .f32) :
    Vec F S1024x1 .f32 × Vec F S1024x1 .f32 × Vec F S1024x128 .f32 :=
  (k0_pay5 v12 (rows x1 k) s.1, k0_pay8 v12 (rows x1 k) s.1 s.2.1, k0_pay9 v12 (rows x1 k) s.1 s.2.2 (rows x2 k))

/-- The three buffers after the first `n` trips, from what they hold when the loop is entered. -/
def st (v12 : FVec F S1024x128 .bf16) (x1 x2 : Vec F S1x8192x128 .bf16)
    (s0 : Vec F S1024x1 .f32 × Vec F S1024x1 .f32 × Vec F S1024x128 .f32) :
    ℕ → Vec F S1024x1 .f32 × Vec F S1024x1 .f32 × Vec F S1024x128 .f32
  | 0 => s0
  | n + 1 => if h : n < k0_t1_loop.trips then stepSt v12 x1 x2 ⟨n, h⟩ (st v12 x1 x2 s0 n) else st v12 x1 x2 s0 n

/-- After `n` trips the three buffers read `st … n`. -/
theorem loop_reads (𝒱 : Variants) (c : Dev nD) (bd : Option 𝒱.V) (i : grid0.Coords) (arg2 : Memref sig .tc .vmem S1x256x256 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x256 .f32) (harg7 : arg7.IsWhole)
    (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (v12 : FVec F S1024x128 .bf16) (x1 x2 : Vec F S1x8192x128 .bf16)
    (G8 : BufTy.Contents (Elt F) arg8.view.ty) (G9 : BufTy.Contents (Elt F) arg9.view.ty) (G10 : BufTy.Contents (Elt F) arg10.view.ty)
    (n : ℕ) (hn : n ≤ k0_t1_loop.trips) :
    arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 v12 (harg3.unread x1) (harg4.unread x2) G8 G9 G10 n).1)
        = (st v12 x1 x2 (arg8.view.read (Elt F) G8, arg9.view.read (Elt F) G9, arg10.view.read (Elt F) G10) n).1
    ∧ arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 v12 (harg3.unread x1) (harg4.unread x2) G8 G9 G10 n).2.1)
        = (st v12 x1 x2 (arg8.view.read (Elt F) G8, arg9.view.read (Elt F) G9, arg10.view.read (Elt F) G10) n).2.1
    ∧ arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 v12 (harg3.unread x1) (harg4.unread x2) G8 G9 G10 n).2.2)
        = (st v12 x1 x2 (arg8.view.read (Elt F) G8, arg9.view.read (Elt F) G9, arg10.view.read (Elt F) G10) n).2.2 := by
  induction n with
  | zero => exact ⟨rfl, rfl, rfl⟩
  | succ n ih =>
    obtain ⟨h8, h9, h10⟩ := ih (Nat.le_of_succ_le hn)
    have hs := pb_k0_t1_succ (F := F) 𝒱 c bd i arg2 harg2 arg3 harg3 arg4 harg4 arg5 harg5 arg6 harg6 arg7 harg7 arg8 harg8 arg9 harg9 arg10 harg10 v12 (harg3.unread x1) (harg4.unread x2) G8 G9 G10 ⟨n, hn⟩
    rw [trip_pieces, h8, h9, h10] at hs
    have hst : ∀ s0, st v12 x1 x2 s0 (n + 1) = stepSt v12 x1 x2 ⟨n, hn⟩ (st v12 x1 x2 s0 n) := fun s0 => dif_pos hn
    rw [hs, hst]
    exact ⟨read_whole_store _ _ hz2 _ _ _, read_whole_store _ _ hz2 _ _ _, read_whole_store _ _ hz2 _ _ _⟩

end Cert.KernelIdeal.Value

end
-- ==== Proof.Block.lean ====
/-
  What one grid point of the attention kernel leaves in its output block: the division `k0_pay3` of the weighted sum
  by the sum of exponentials, both as the loop leaves them after its sixteen trips (`st`, Trip.lean), the loop having
  been entered with the values of the context block (`k0_pay14`, `k0_pay15`, `k0_pay16`).
-/
module

public import proofs.«01_k».proof.Proof.Trip

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- A load of a buffer's whole shape after the stores `L`, made over the store `p`: the buffer read back. -/
theorem readCov_whole_append {sig : RefSig} {κ : Kind} {sp : Space} {S : Shape} {e : EltTy} (v : View sig κ sp S e)
    {off : Fin S.rank → Nat} (h : off = fun _ => 0) (inb : ∀ a, off a + S.size a ≤ S.size a)
    (L : List (View.Piece (Elt F) S e)) (p : View.Piece (Elt F) S e) :
    v.readCov (L ++ [p]) (Rect.unit off S.size inb).toLoadRect
      = v.read (Elt F) (v.writes (Elt F) (v.writes (Elt F) v.junk [p]) L) := by
  rw [← View.writes_append]
  exact View.ld_unit_zero h inb (v.read (Elt F) (v.writes (Elt F) v.junk (L ++ [p])))

/-- The three buffers after the context block and the sixteen blocks of keys. -/
def final (x0 : Vec F S1x256x256 .bf16) (x1 x2 : Vec F S1x8192x128 .bf16) (x3 x4 : Vec F S1x256x128 .bf16) :
    Vec F S1024x1 .f32 × Vec F S1024x1 .f32 × Vec F S1024x128 .f32 :=
  st (k0_pay10 x0) x1 x2 (k0_pay14 x0 x3, k0_pay15 x0 x3, k0_pay16 x0 x3 x4) k0_t1_loop.trips

/-- The output block is the last weighted sum divided by the last sum of exponentials, heads laid side by side. -/
theorem out_eq (c : Dev nD) (i : grid0.Coords) (arg2 : Memref sig .tc .vmem S1x256x256 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x256 .f32) (harg7 : arg7.IsWhole)
    (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (x0 : Vec F S1x256x256 .bf16) (x1 x2 : Vec F S1x8192x128 .bf16) (x3 x4 : Vec F S1x256x128 .bf16) :
    out0_A_5 c i arg2 harg2 arg3 harg3 arg4 harg4 arg5 harg5 arg6 harg6 arg7 harg7 arg8 harg8 arg9 harg9 arg10 harg10 x0 x1 x2 x3 x4
      = k0_pay3 (final x0 x1 x2 x3 x4).2.2 (final x0 x1 x2 x3 x4).2.1 := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero hz3]
  simp only [View.readAt_eq_ld, harg2.read_unread, harg5.read_unread, harg6.read_unread,
    View.ld_unit_zero (S := S1x256x256) hz3, View.ld_unit_zero (S := S1x256x128) hz3]
  have h := loop_reads (F := F) Variants.none c none i arg2 harg2 arg3 harg3 arg4 harg4 arg5 harg5 arg6 harg6 arg7 harg7 arg8 harg8 arg9 harg9 arg10 harg10
    (k0_pay10 x0) x1 x2
    (arg8.view.writes (Elt F) arg8.view.junk [⟨Rect.unit ![0, 0] S1024x1.size inb_S1024x1_S1024x1_0_0, k0_pay14 x0 x3⟩])
    (arg9.view.writes (Elt F) arg9.view.junk [⟨Rect.unit ![0, 0] S1024x1.size inb_S1024x1_S1024x1_0_0, k0_pay15 x0 x3⟩])
    (arg10.view.writes (Elt F) arg10.view.junk [⟨Rect.unit ![0, 0] S1024x128.size inb_S1024x128_S1024x128_0_0, k0_pay1 (k0_pay16 x0 x3 x4)⟩])
    k0_t1_loop.trips le_rfl
  rw [read_whole_store _ _ hz2, read_whole_store _ _ hz2, read_whole_store _ _ hz2] at h
  have e1 : k0_pay1 (k0_pay16 x0 x3 x4) = k0_pay16 x0 x3 x4 := by unfold k0_pay1; exact shapeCast_self _ _
  rw [e1] at h ⊢
  rw [show Scf.trips k0_t1_loop.lb k0_t1_loop.ub k0_t1_loop.st = k0_t1_loop.trips from rfl]
  unfold final
  revert h
  generalize k0_t1_loop.trips = n
  intro h
  refine congrArg₂ k0_pay3 ?_ ?_
  · rw [← h.2.2]
    exact readCov_whole_append _ hz2 _ _ _
  · rw [← h.2.1]
    exact readCov_whole_append _ hz2 _ _ _

end Cert.KernelIdeal.Value

end
-- ==== Proof.Online.lean ====
/-
  The softmax average of values, taken at once or block by block.

  Scores are real numbers `s 0, s 1, …`, values `v 0, v 1, …` are extended reals (they may be infinite). The average of
  the first `n` values is `avg s v n = Σ_{j<n} (exp (s j) / Σ_{i<n} exp (s i)) · v j`.

  Taken block by block, three numbers are kept: a shift `m`, the sum `l` of `exp (s j − m)` and the sum `a` of
  `exp (s j − m) · v j`, over the `j` met so far (`Met`). A block of further scores changes the shift and rescales the
  sums (`Met.step`). In the end `a / l` is the average (`Met.div_eq`), whatever the shift is: that the shift is the
  maximum is of no consequence to the value, only that it is a real number.
-/
module

public import Idealize.ShloMosaic.PureOps.Ideal
public import Idealize.ShloMosaic.PureOps.Ideal.Laws
public import Idealize.ShloMosaic.Lib.Pointwise

@[expose] public section

noncomputable section

namespace Cert.Online

open Idealize.ShloMosaic

/-! ## Sums of extended reals times real constants -/

theorem coe_sum {ι : Type} (A : Finset ι) (f : ι → ℝ) : ((∑ i ∈ A, f i : ℝ) : EReal) = ∑ i ∈ A, ((f i : ℝ) : EReal) := by
  classical
  induction A using Finset.induction_on with
  | empty => simp
  | insert a A ha ih => rw [Finset.sum_insert ha, Finset.sum_insert ha, EReal.coe_add, ih]

/-- A real factor that is not negative goes into a sum of extended reals. -/
theorem mul_sum {ι : Type} (A : Finset ι) (x : ℝ) (hx : 0 ≤ x) (f : ι → EReal) :
    (x : EReal) * ∑ i ∈ A, f i = ∑ i ∈ A, (x : EReal) * f i := by
  classical
  induction A using Finset.induction_on with
  | empty => simp
  | insert a A ha ih =>
    rw [Finset.sum_insert ha, Finset.sum_insert ha,
      EReal.left_distrib_of_nonneg_of_ne_top (EReal.coe_nonneg.2 hx) (EReal.coe_ne_top x), ih]

/-- The larger of two real numbers, as an extended real. -/
theorem max_real (x y : ℝ) : max (x : EReal) (y : EReal) = ((max x y : ℝ) : EReal) :=
  (EReal.coe_strictMono.monotone.map_max (a := x) (b := y)).symm

/-- A maximum of real numbers is a real number, over a set that is not empty. -/
theorem fold_max_real {ι : Type} (A : Finset ι) (hA : A.Nonempty) (f : ι → ℝ) :
    ∃ μ : ℝ, A.fold max (⊥ : EReal) (fun i => ((f i : ℝ) : EReal)) = (μ : EReal) := by
  classical
  induction A using Finset.induction_on with
  | empty => exact absurd hA (by simp)
  | insert a A ha ih =>
    rw [Finset.fold_insert ha]
    rcases A.eq_empty_or_nonempty with rfl | hne
    · exact ⟨f a, by simp⟩
    · obtain ⟨μ, hμ⟩ := ih hne
      exact ⟨max (f a) μ, by rw [hμ]; exact max_real _ _⟩

/-- The pattern of −∞, from which a maximum is taken. -/
theorem ofBits_neg_inf : Ideal.ofBits FTy.f32 4286578688#32 = (⊥ : EReal) := by
  simp [Ideal.ofBits, Ideal.ieee]

/-! ## The average -/

/-- The first `n` values averaged with the weights `exp (s j) / Σ exp (s i)`. -/
def avg (s : ℕ → ℝ) (v : ℕ → EReal) (n : ℕ) : EReal :=
  ∑ j ∈ Finset.range n, ((Real.exp (s j) / ∑ i ∈ Finset.range n, Real.exp (s i) : ℝ) : EReal) * v j

theorem sum_exp_pos (s : ℕ → ℝ) {n : ℕ} (hn : 0 < n) (μ : ℝ) : 0 < ∑ i ∈ Finset.range n, Real.exp (s i - μ) :=
  Finset.sum_pos (fun _ _ => Real.exp_pos _) ⟨0, Finset.mem_range.2 hn⟩

/-- The weights do not change when all scores are shifted. -/
theorem weight_shift (s : ℕ → ℝ) (n j : ℕ) (μ : ℝ) :
    Real.exp (s j - μ) / ∑ i ∈ Finset.range n, Real.exp (s i - μ) = Real.exp (s j) / ∑ i ∈ Finset.range n, Real.exp (s i) := by
  have h : ∀ i, Real.exp (s i - μ) = Real.exp (s i) * Real.exp (-μ) := fun i => by rw [← Real.exp_add]; rfl
  simp only [h, ← Finset.sum_mul]
  exact mul_div_mul_right _ _ (Real.exp_pos _).ne'

/-! ## Block by block -/

/-- `m`, `l`, `a` are a shift and the two sums over the first `n` scores at that shift. -/
def Met (s : ℕ → ℝ) (v : ℕ → EReal) (n : ℕ) (m l a : EReal) : Prop :=
  ∃ μ : ℝ, m = (μ : EReal) ∧ l = ((∑ j ∈ Finset.range n, Real.exp (s j - μ) : ℝ) : EReal)
    ∧ a = ∑ j ∈ Finset.range n, ((Real.exp (s j - μ) : ℝ) : EReal) * v j

theorem exp_sub (x μ : ℝ) : Ideal.exp ((x : EReal) - (μ : EReal)) = ((Real.exp (x - μ) : ℝ) : EReal) := by
  rw [← EReal.coe_sub]; rfl

/-- The first block: the shift is a real number, the sums are taken at it. -/
theorem Met.first (s : ℕ → ℝ) (v : ℕ → EReal) (N : ℕ) (μ : ℝ) :
    Met s v N μ (∑ j : Fin N, Ideal.exp (((s j : ℝ) : EReal) - (μ : EReal)))
      (∑ j : Fin N, Ideal.exp (((s j : ℝ) : EReal) - (μ : EReal)) * v j) := by
  refine ⟨μ, rfl, ?_, ?_⟩
  · rw [coe_sum, Finset.sum_range]
    exact Finset.sum_congr rfl fun j _ => exp_sub _ _
  · rw [Finset.sum_range]
    exact Finset.sum_congr rfl fun j _ => by rw [exp_sub]

/-- A further block of `N` scores, at a new shift `μ'`: the old sums are rescaled by `exp (m − μ')`. -/
theorem Met.step {s : ℕ → ℝ} {v : ℕ → EReal} {n : ℕ} {m l a : EReal} (h : Met s v n m l a) (N : ℕ) (μ' : ℝ) :
    Met s v (n + N) μ'
      (Ideal.exp (m - (μ' : EReal)) * l + ∑ j : Fin N, Ideal.exp (((s (n + j) : ℝ) : EReal) - (μ' : EReal)))
      (Ideal.exp (m - (μ' : EReal)) * a + ∑ j : Fin N, Ideal.exp (((s (n + j) : ℝ) : EReal) - (μ' : EReal)) * v (n + j)) := by
  obtain ⟨μ, rfl, rfl, rfl⟩ := h
  have he : ∀ j, Real.exp (μ - μ') * Real.exp (s j - μ) = Real.exp (s j - μ') := fun j => by
    rw [← Real.exp_add]; congr 1; ring
  refine ⟨μ', rfl, ?_, ?_⟩
  · rw [exp_sub, ← EReal.coe_mul, Finset.mul_sum, Finset.sum_range_add, EReal.coe_add]
    simp only [he]
    refine congrArg _ ?_
    rw [coe_sum, Finset.sum_range]
    exact Finset.sum_congr rfl fun j _ => exp_sub _ _
  · rw [exp_sub, mul_sum _ _ (Real.exp_pos _).le, Finset.sum_range_add]
    refine congrArg₂ _ (Finset.sum_congr rfl fun j _ => ?_) ?_
    · rw [← mul_assoc, ← EReal.coe_mul, he]
    · rw [Finset.sum_range]
      exact Finset.sum_congr rfl fun j _ => by rw [exp_sub]

/-- In the end the quotient is the average. -/
theorem Met.div_eq {s : ℕ → ℝ} {v : ℕ → EReal} {n : ℕ} {m l a : EReal} (h : Met s v n m l a) (hn : 0 < n) :
    Ideal.div a l = avg s v n := by
  obtain ⟨μ, rfl, rfl, rfl⟩ := h
  have hp := sum_exp_pos s hn μ
  rw [Ideal.div_coe hp.ne', mul_comm, mul_sum _ _ (one_div_nonneg.2 hp.le)]
  refine Finset.sum_congr rfl fun j _ => ?_
  rw [← mul_assoc, ← EReal.coe_mul, ← weight_shift s n j μ]
  congr 2
  rw [one_div, mul_comm, div_eq_mul_inv]

/-- Taken at once, with any shift: the weights are quotients, the value comes first. -/
theorem at_once (s : ℕ → ℝ) (v : ℕ → EReal) {n : ℕ} (hn : 0 < n) (μ : ℝ) :
    ∑ j : Fin n, v j * Ideal.div (Ideal.exp (((s j : ℝ) : EReal) - (μ : EReal)))
        (∑ i : Fin n, Ideal.exp (((s i : ℝ) : EReal) - (μ : EReal))) = avg s v n := by
  have hp := sum_exp_pos s hn μ
  have hs : ∑ i : Fin n, Ideal.exp (((s i : ℝ) : EReal) - (μ : EReal)) = ((∑ i ∈ Finset.range n, Real.exp (s i - μ) : ℝ) : EReal) := by
    rw [coe_sum, Finset.sum_range]
    exact Finset.sum_congr rfl fun j _ => exp_sub _ _
  unfold avg
  rw [hs, Finset.sum_range (n := n) fun j => ((Real.exp (s j) / ∑ i ∈ Finset.range n, Real.exp (s i) : ℝ) : EReal) * v j]
  refine Finset.sum_congr rfl fun j _ => ?_
  rw [Ideal.div_coe hp.ne', exp_sub, ← EReal.coe_mul, mul_comm, ← weight_shift s n j μ]
  congr 2
  rw [one_div, div_eq_mul_inv]

end Cert.Online

end
-- ==== Proof.Rows.lean ====
/-
  What one grid point computes for one stacked query row: its scores with the 256 context keys and then, block by
  block, with the 8192 keys, and the softmax average of the values over them all (`final_div`).
-/
module

public import proofs.«01_k».proof.Proof.Block
public import proofs.«01_k».proof.Proof.Online
public import Idealize.ShloMosaic.Lib.Pointwise

@[expose] public section

noncomputable section

namespace Cert.KernelIdeal.Value

open Cert.KernelIdeal Cert.KernelIdeal.Gen Idealize.ShloMosaic Idealize.ShloMosaic.TcCoe Idealize.SL.Sem
open Cert.Online

/-! ## The trip's values, read at a row -/

section Reads

variable (q : FVec Ideal S1024x128 .bf16) (x y : Vec Ideal S1x512x128 .bf16) (m l : Vec Ideal S1024x1 .f32) (a : Vec Ideal S1024x128 .f32)
  (R : Fin 1024) (L : Fin 128)

theorem pay4_at (j : Fin 512) : k0_pay4 (F := Ideal) q x (ix2 R j) = ∑ d : Fin 128, q (ix2 R d) * x (ix3 0 j d) := by
  pointwise [k0_pay4]

theorem pay5_at : k0_pay5 (F := Ideal) q x m (ix2 R 0)
    = max (m (ix2 R 0)) (Finset.univ.fold max (Ideal.ofBits FTy.f32 4286578688#32) fun j : Fin 512 => k0_pay4 (F := Ideal) q x (ix2 R j)) := by
  pointwise [k0_pay5]

theorem pay8_at : k0_pay8 (F := Ideal) q x m l (ix2 R 0)
    = Ideal.exp (m (ix2 R 0) - k0_pay5 (F := Ideal) q x m (ix2 R 0)) * l (ix2 R 0)
      + ∑ j : Fin 512, Ideal.exp (k0_pay4 (F := Ideal) q x (ix2 R j) - k0_pay5 (F := Ideal) q x m (ix2 R 0)) := by
  pointwise [k0_pay8, k0_pay7, k0_pay6]

theorem pay9_at : k0_pay9 (F := Ideal) q x m a y (ix2 R L)
    = Ideal.exp (m (ix2 R 0) - k0_pay5 (F := Ideal) q x m (ix2 R 0)) * a (ix2 R L)
      + ∑ j : Fin 512, Ideal.exp (k0_pay4 (F := Ideal) q x (ix2 R j) - k0_pay5 (F := Ideal) q x m (ix2 R 0)) * y (ix3 0 j L) := by
  pointwise [k0_pay9, k0_pay7, k0_pay6]

end Reads

section FirstReads

variable (x0 : Vec Ideal S1x256x256 .bf16) (x3 x4 : Vec Ideal S1x256x128 .bf16) (R : Fin 1024) (L : Fin 128)

theorem pay11_at (j : Fin 256) : k0_pay11 (F := Ideal) x0 x3 (ix2 R j) = ∑ d : Fin 128, k0_pay10 (F := Ideal) x0 (ix2 R d) * x3 (ix3 0 j d) := by
  pointwise [k0_pay11]

theorem pay12_at : k0_pay12 (F := Ideal) x0 x3 (ix2 R 0)
    = Finset.univ.fold max (Ideal.ofBits FTy.f32 4286578688#32) fun j : Fin 256 => k0_pay11 (F := Ideal) x0 x3 (ix2 R j) := by
  pointwise [k0_pay12]

theorem pay14_at : k0_pay14 (F := Ideal) x0 x3 (ix2 R 0) = k0_pay12 (F := Ideal) x0 x3 (ix2 R 0) := by
  pointwise [k0_pay14]

theorem pay15_at : k0_pay15 (F := Ideal) x0 x3 (ix2 R 0)
    = ∑ j : Fin 256, Ideal.exp (k0_pay11 (F := Ideal) x0 x3 (ix2 R j) - k0_pay12 (F := Ideal) x0 x3 (ix2 R 0)) := by
  pointwise [k0_pay15, k0_pay13]

theorem pay16_at : k0_pay16 (F := Ideal) x0 x3 x4 (ix2 R L)
    = ∑ j : Fin 256, Ideal.exp (k0_pay11 (F := Ideal) x0 x3 (ix2 R j) - k0_pay12 (F := Ideal) x0 x3 (ix2 R 0)) * x4 (ix3 0 j L) := by
  pointwise [k0_pay16, k0_pay13]

end FirstReads

/-- Row `r` of trip `k`'s rows. -/
theorem rows_at (X : Vec Ideal S1x8192x128 .bf16) (k : Fin k0_t1_loop.trips) (r : Fin 512) (d : Fin 128) (h : 512 * k.val + r.val < 8192) :
    rows (F := Ideal) X k (ix3 0 r d) = X (ix3 0 ⟨512 * k.val + r.val, h⟩ d) := by
  unfold rows
  show X _ = X _
  congr 1
  funext a
  have e := k0_off1_eq k
  apply Fin.ext
  fin_cases a
  · show (k0_off1 k) 0 + 1 * 0 = 0
    rw [e]; rfl
  · show (k0_off1 k) 1 + 1 * r.val = 512 * k.val + r.val
    rw [e]; show 512 * k.val + 1 * r.val = _; omega
  · show (k0_off1 k) 2 + 1 * d.val = d.val
    rw [e]; show 0 + 1 * d.val = _; omega

/-! ## The invariant -/

section Inv

variable (σ : ℕ → ℝ) (v : ℕ → EReal) (R : Fin 1024) (L : Fin 128)

/-- After the context block the buffers hold its shift and sums. -/
theorem met_first (x0 : Vec Ideal S1x256x256 .bf16) (x3 x4 : Vec Ideal S1x256x128 .bf16)
    (hs : ∀ j : Fin 256, k0_pay11 (F := Ideal) x0 x3 (ix2 R j) = ((σ j : ℝ) : EReal)) (hv : ∀ j : Fin 256, x4 (ix3 0 j L) = v j) :
    Met σ v 256 (k0_pay14 (F := Ideal) x0 x3 (ix2 R 0)) (k0_pay15 (F := Ideal) x0 x3 (ix2 R 0)) (k0_pay16 (F := Ideal) x0 x3 x4 (ix2 R L)) := by
  obtain ⟨μ, h⟩ := fold_max_real Finset.univ ⟨(0 : Fin 256), Finset.mem_univ _⟩ fun j : Fin 256 => σ j
  have hm : k0_pay12 (F := Ideal) x0 x3 (ix2 R 0) = (μ : EReal) := by
    rw [pay12_at, ofBits_neg_inf]; simp only [hs]; exact h
  rw [pay14_at, pay15_at, pay16_at, hm]
  simp only [hs, hv]
  exact Met.first σ v 256 μ

/-- A trip takes in 512 further scores. -/
theorem met_step (q : FVec Ideal S1024x128 .bf16) (x y : Vec Ideal S1x512x128 .bf16) (m l : Vec Ideal S1024x1 .f32) (a : Vec Ideal S1024x128 .f32)
    (n : ℕ) (h : Met σ v n (m (ix2 R 0)) (l (ix2 R 0)) (a (ix2 R L)))
    (hs : ∀ j : Fin 512, k0_pay4 (F := Ideal) q x (ix2 R j) = ((σ (n + j) : ℝ) : EReal)) (hv : ∀ j : Fin 512, y (ix3 0 j L) = v (n + j)) :
    Met σ v (n + 512) (k0_pay5 (F := Ideal) q x m (ix2 R 0)) (k0_pay8 (F := Ideal) q x m l (ix2 R 0)) (k0_pay9 (F := Ideal) q x m a y (ix2 R L)) := by
  obtain ⟨μ₀, h₀⟩ := fold_max_real Finset.univ ⟨(0 : Fin 512), Finset.mem_univ _⟩ fun j : Fin 512 => σ (n + j)
  obtain ⟨μ, hμ⟩ : ∃ μ : ℝ, k0_pay5 (F := Ideal) q x m (ix2 R 0) = (μ : EReal) := by
    obtain ⟨μ₁, h₁, -⟩ := h
    refine ⟨max μ₁ μ₀, ?_⟩
    rw [pay5_at, ofBits_neg_inf]
    simp only [hs]
    rw [h₀, h₁]
    exact max_real _ _
  rw [pay8_at, pay9_at, hμ]
  simp only [hs, hv]
  exact h.step 512 μ

variable (x0 : Vec Ideal S1x256x256 .bf16) (x1 x2 : Vec Ideal S1x8192x128 .bf16) (x3 x4 : Vec Ideal S1x256x128 .bf16)

/-- After the context block and `n` trips. -/
theorem met_st (hs : ∀ j : Fin 256, k0_pay11 (F := Ideal) x0 x3 (ix2 R j) = ((σ j : ℝ) : EReal)) (hv : ∀ j : Fin 256, x4 (ix3 0 j L) = v j)
    (hs' : ∀ j : Fin 8192, ∑ d : Fin 128, k0_pay10 (F := Ideal) x0 (ix2 R d) * x1 (ix3 0 j d) = ((σ (256 + j) : ℝ) : EReal))
    (hv' : ∀ j : Fin 8192, x2 (ix3 0 j L) = v (256 + j)) (n : ℕ) (hn : n ≤ k0_t1_loop.trips) :
    Met σ v (256 + 512 * n)
      ((st (F := Ideal) (k0_pay10 x0) x1 x2 (k0_pay14 x0 x3, k0_pay15 x0 x3, k0_pay16 x0 x3 x4) n).1 (ix2 R 0))
      ((st (F := Ideal) (k0_pay10 x0) x1 x2 (k0_pay14 x0 x3, k0_pay15 x0 x3, k0_pay16 x0 x3 x4) n).2.1 (ix2 R 0))
      ((st (F := Ideal) (k0_pay10 x0) x1 x2 (k0_pay14 x0 x3, k0_pay15 x0 x3, k0_pay16 x0 x3 x4) n).2.2 (ix2 R L)) := by
  induction n with
  | zero =>
    have h := met_first σ v R L x0 x3 x4 hs hv
    generalize k0_pay16 (F := Ideal) x0 x3 x4 = a at h ⊢
    generalize k0_pay15 (F := Ideal) x0 x3 = l at h ⊢
    generalize k0_pay14 (F := Ideal) x0 x3 = m at h ⊢
    rw [Nat.mul_zero, Nat.add_zero]
    rw [show st (F := Ideal) (k0_pay10 x0) x1 x2 (m, l, a) 0 = (m, l, a) from by unfold st; rfl]
    exact h
  | succ n ih =>
    have hlt : n < k0_t1_loop.trips := hn
    have h16 : n < 16 := by
      have e : k0_t1_loop.trips = 16 := by decide +kernel
      omega
    have ih := ih hlt.le
    unfold st
    rw [dif_pos hlt]
    generalize st (F := Ideal) (k0_pay10 x0) x1 x2 (k0_pay14 x0 x3, k0_pay15 x0 x3, k0_pay16 x0 x3 x4) n = s at ih ⊢
    have hr : ∀ r : Fin 512, 512 * n + r.val < 8192 := fun r => by omega
    have := met_step σ v R L (k0_pay10 x0) (rows x1 ⟨n, hlt⟩) (rows x2 ⟨n, hlt⟩) s.1 s.2.1 s.2.2 (256 + 512 * n) ih
      (fun j => by
        rw [pay4_at]
        simp only [fun d => rows_at x1 ⟨n, hlt⟩ j d (hr j)]
        rw [hs' ⟨512 * n + j, hr j⟩]
        simp only [Nat.add_assoc])
      (fun j => by
        rw [rows_at x2 ⟨n, hlt⟩ j L (hr j), hv' ⟨512 * n + j, hr j⟩]
        simp only [Nat.add_assoc])
    rw [show 256 + 512 * (n + 1) = 256 + 512 * n + 512 by ring]
    exact this

/-- The quotient the output block takes is the softmax average over the 8448 keys. -/
theorem final_div (hs : ∀ j : Fin 256, ∑ d : Fin 128, k0_pay10 (F := Ideal) x0 (ix2 R d) * x3 (ix3 0 j d) = ((σ j : ℝ) : EReal))
    (hv : ∀ j : Fin 256, x4 (ix3 0 j L) = v j)
    (hs' : ∀ j : Fin 8192, ∑ d : Fin 128, k0_pay10 (F := Ideal) x0 (ix2 R d) * x1 (ix3 0 j d) = ((σ (256 + j) : ℝ) : EReal))
    (hv' : ∀ j : Fin 8192, x2 (ix3 0 j L) = v (256 + j)) :
    Ideal.div ((final (F := Ideal) x0 x1 x2 x3 x4).2.2 (ix2 R L)) ((final (F := Ideal) x0 x1 x2 x3 x4).2.1 (ix2 R 0)) = avg σ v 8448 := by
  have h := met_st σ v R L x0 x1 x2 x3 x4 (fun j => (pay11_at x0 x3 R j).trans (hs j)) hv hs' hv' k0_t1_loop.trips le_rfl
  have e : 256 + 512 * k0_t1_loop.trips = 8448 := by
    rw [show k0_t1_loop.trips = 16 by decide +kernel]
  rw [e] at h
  exact h.div_eq (by norm_num)

end Inv

end Cert.KernelIdeal.Value

end
-- ==== Proof.Spec.lean ====
/-
  The attention both programs compute, at one element of the result.

  The keys (and values) of batch `b` are its 256 context rows followed by its 8192 own rows (`cat`). A query row has four
  heads of 64 columns; head `(g, kv)` stands in columns `128 g + 64 kv …` and reads the keys' and values' columns
  `64 kv …`. `score` is the product of a query head with a key; `out` is the softmax average of the values.
-/
module

public import proofs.«01_k».proof.Proof.Online

@[expose] public section

noncomputable section

namespace Cert.Attn

open Idealize.ShloMosaic

/-- Row `j` of the keys (or values) of batch `b`: context rows first. -/
def cat (xc : (⟨3, ![2, 256, 128]⟩ : Shape).Idx → EReal) (x : (⟨3, ![2, 8192, 128]⟩ : Shape).Idx → EReal)
    (b : Fin 2) (j : ℕ) (c : Fin 128) : EReal :=
  if h : j < 256 then xc (ix3 b ⟨j, h⟩ c) else if h' : j - 256 < 8192 then x (ix3 b ⟨j - 256, h'⟩ c) else 0

theorem cat_ctx (xc : (⟨3, ![2, 256, 128]⟩ : Shape).Idx → EReal) (x : (⟨3, ![2, 8192, 128]⟩ : Shape).Idx → EReal)
    (b : Fin 2) (j : Fin 256) (c : Fin 128) : cat xc x b j c = xc (ix3 b j c) := dif_pos j.isLt

theorem cat_own (xc : (⟨3, ![2, 256, 128]⟩ : Shape).Idx → EReal) (x : (⟨3, ![2, 8192, 128]⟩ : Shape).Idx → EReal)
    (b : Fin 2) (j : Fin 8192) (c : Fin 128) : cat xc x b (256 + j) c = x (ix3 b j c) := by
  unfold cat
  rw [dif_neg (by omega), dif_pos (by omega)]
  congr 2
  exact Fin.ext (by simp)

/-- Column `d` of key/value head `kv`. -/
def kvCol (kv : Fin 2) (d : Fin 64) : Fin 128 := ⟨kv.val * 64 + d.val, by omega⟩

/-- Column `d` of query head `(g, kv)`. -/
def qCol (g kv : Fin 2) (d : Fin 64) : Fin 256 := ⟨g.val * 128 + kv.val * 64 + d.val, by omega⟩

/-- The score of query row `t`, head `(g, kv)`, with key `j`. -/
def score (q : (⟨3, ![2, 8192, 256]⟩ : Shape).Idx → EReal) (kc : (⟨3, ![2, 256, 128]⟩ : Shape).Idx → EReal)
    (k : (⟨3, ![2, 8192, 128]⟩ : Shape).Idx → EReal) (b : Fin 2) (t : Fin 8192) (g kv : Fin 2) (j : ℕ) : EReal :=
  ∑ d : Fin 64, cat kc k b j (kvCol kv d) * q (ix3 b t (qCol g kv d))

/-- The result at row `t`, head `(g, kv)`, column `d`, the scores being the real numbers they are. -/
def out (q : (⟨3, ![2, 8192, 256]⟩ : Shape).Idx → EReal) (k v : (⟨3, ![2, 8192, 128]⟩ : Shape).Idx → EReal)
    (kc vc : (⟨3, ![2, 256, 128]⟩ : Shape).Idx → EReal) (b : Fin 2) (t : Fin 8192) (g kv : Fin 2) (d : Fin 64) : EReal :=
  Online.avg (fun j => (score q kc k b t g kv j).toReal) (fun j => cat vc v b j (kvCol kv d)) 8448

/-- A number: neither infinity. -/
def Num (x : EReal) : Prop := x ≠ ⊥ ∧ x ≠ ⊤

theorem Num.coe {x : EReal} (h : Num x) : x = ((x.toReal : ℝ) : EReal) := (EReal.coe_toReal h.2 h.1).symm

theorem num_coe (r : ℝ) : Num (r : EReal) := ⟨EReal.coe_ne_bot r, EReal.coe_ne_top r⟩

theorem Num.mul {x y : EReal} (hx : Num x) (hy : Num y) : Num (x * y) := by
  rw [hx.coe, hy.coe, ← EReal.coe_mul]; exact num_coe _

theorem Num.sum {ι : Type} (A : Finset ι) (f : ι → EReal) (h : ∀ i ∈ A, Num (f i)) : Num (∑ i ∈ A, f i) := by
  have e : ∑ i ∈ A, f i = ∑ i ∈ A, (((f i).toReal : ℝ) : EReal) := Finset.sum_congr rfl fun i hi => (h i hi).coe
  rw [e, ← Online.coe_sum]; exact num_coe _

/-- With numbers for queries and keys every score is a number. -/
theorem score_num {q : (⟨3, ![2, 8192, 256]⟩ : Shape).Idx → EReal} {kc : (⟨3, ![2, 256, 128]⟩ : Shape).Idx → EReal}
    {k : (⟨3, ![2, 8192, 128]⟩ : Shape).Idx → EReal} (hq : ∀ i, Num (q i)) (hk : ∀ i, Num (k i)) (hkc : ∀ i, Num (kc i))
    (b : Fin 2) (t : Fin 8192) (g kv : Fin 2) (j : ℕ) : Num (score q kc k b t g kv j) := by
  refine Num.sum _ _ fun d _ => Num.mul ?_ (hq _)
  unfold cat
  split
  · exact hkc _
  · split
    · exact hk _
    · exact num_coe 0

end Cert.Attn

end
-- ==== Proof.Heads.lean ====
/-
  How a grid point lays out its four heads. Query head `(g, kv)` of row `r` is the stacked row `row g kv r`: it has the
  128 columns of group `g` with the columns of the other key/value head set to zero, so its product with a whole key row
  is the head's own product. The output takes head `(g, kv)` from that stacked row's columns of `kv`.
-/
module

public import proofs.«01_k».proof.Proof.Rows
public import proofs.«01_k».proof.Proof.Spec

@[expose] public section

noncomputable section

namespace Cert.KernelIdeal.Value

open Cert.KernelIdeal Cert.KernelIdeal.Gen Idealize.ShloMosaic Idealize.ShloMosaic.TcCoe Idealize.SL.Sem
open Cert.Attn

/-- The stacked row of head `(g, kv)` of row `r`. -/
def row (g kv : Fin 2) (r : Fin 256) : Fin 1024 := ⟨kv.val * 512 + g.val * 256 + r.val, by omega⟩

theorem slt64 (l : ℕ) (h : l < 128) : IntOp.cmpi .slt (BitVec.ofNat 32 l) 64#32 = if l < 64 then 1#1 else 0#1 := by
  have : ∀ l : Fin 128, IntOp.cmpi .slt (BitVec.ofNat 32 l.val) 64#32 = if l.val < 64 then 1#1 else 0#1 := by decide
  exact this ⟨l, h⟩

theorem select_one {α : Type} (a b : α) : Scalar.select 1#1 a b = a := rfl
theorem select_zero {α : Type} (a b : α) : Scalar.select 0#1 a b = b := rfl

/-- The stacked rows, read at an element: four groups of 256, each with half of its columns zero. -/
theorem pay10_raw (x0 : Vec Ideal S1x256x256 .bf16) (R : Fin 1024) (l : Fin 128) :
    k0_pay10 (F := Ideal) x0 (ix2 R l)
      = if h : R.val < 256 then Scalar.select (IntOp.cmpi .slt (BitVec.ofNat 32 l.val) 64#32) (x0 (ix3 0 ⟨R.val, h⟩ ⟨l.val, by omega⟩)) 0
        else if h : R.val - 256 < 256 then Scalar.select (IntOp.cmpi .slt (BitVec.ofNat 32 l.val) 64#32) (x0 (ix3 0 ⟨R.val - 256, h⟩ ⟨128 + l.val, by omega⟩)) 0
        else if h : R.val - 256 - 256 < 256 then Scalar.select (IntOp.cmpi .slt (BitVec.ofNat 32 l.val) 64#32) 0 (x0 (ix3 0 ⟨R.val - 256 - 256, h⟩ ⟨l.val, by omega⟩))
        else Scalar.select (IntOp.cmpi .slt (BitVec.ofNat 32 l.val) 64#32) 0 (x0 (ix3 0 ⟨R.val - 256 - 256 - 256, by omega⟩ ⟨128 + l.val, by omega⟩)) := by
  pointwise [k0_pay10]

/-- The stacked row: its own head's columns, zero elsewhere. -/
theorem pay10_at (x0 : Vec Ideal S1x256x256 .bf16) (g kv : Fin 2) (r : Fin 256) (l : Fin 128) :
    k0_pay10 (F := Ideal) x0 (ix2 (row g kv r) l)
      = if l.val / 64 = kv.val then x0 (ix3 0 r ⟨g.val * 128 + l.val, by omega⟩) else 0 := by
  have hr := r.isLt
  have hl := l.isLt
  rw [pay10_raw, slt64 _ hl]
  have er : ((row g kv r : Fin 1024) : ℕ) = kv.val * 512 + g.val * 256 + r.val := rfl
  have hg := g.isLt
  have hk := kv.isLt
  have hc : ∀ a a' b b' : Fin 256, a.val = a'.val → b.val = b'.val → x0 (ix3 0 a b) = x0 (ix3 0 a' b') :=
    fun a a' b b' ha hb => by rw [Fin.ext ha, Fin.ext hb]
  by_cases h64 : l.val < 64
  · rw [if_pos h64]
    simp only [select_one]
    split_ifs
    all_goals first
      | (exfalso; omega)
      | rfl
      | (refine hc _ _ _ _ ?_ ?_ <;> dsimp only <;> omega)
  · rw [if_neg h64]
    simp only [select_zero]
    split_ifs
    all_goals first
      | (exfalso; omega)
      | rfl
      | (refine hc _ _ _ _ ?_ ?_ <;> dsimp only <;> omega)

/-- A stacked row times a key row is the head's 64 products. -/
theorem dot_row (x0 : Vec Ideal S1x256x256 .bf16) (y : Fin 128 → EReal) (g kv : Fin 2) (r : Fin 256) :
    ∑ d : Fin 128, k0_pay10 (F := Ideal) x0 (ix2 (row g kv r) d) * y d = ∑ d : Fin 64, y (kvCol kv d) * x0 (ix3 0 r (qCol g kv d)) := by
  simp only [pay10_at]
  rw [Fin.sum_univ_add (a := 64) (b := 64)]
  have ek : ∀ d, (kvCol kv d : Fin 128).val = kv.val * 64 + d.val := fun _ => rfl
  have eq : ∀ d, (qCol g kv d : Fin 256).val = g.val * 128 + kv.val * 64 + d.val := fun _ => rfl
  have e0 : ∀ d : Fin 64, (Fin.castAdd 64 d).val = d.val := fun _ => rfl
  have e1 : ∀ d : Fin 64, (Fin.natAdd 64 d).val = 64 + d.val := fun _ => rfl
  rcases (show kv.val = 0 ∨ kv.val = 1 by omega) with hk | hk
  · rw [Finset.sum_eq_zero (s := Finset.univ) (f := fun d : Fin 64 => _ * y (Fin.natAdd 64 d)), add_zero]
    · refine Finset.sum_congr rfl fun d _ => ?_
      have := e0 d; have := ek d; have := eq d
      rw [if_pos (by omega), mul_comm]
      exact congrArg₂ _ (congrArg y (Fin.ext (by omega))) (congrArg x0 (congrArg (ix3 0 r) (Fin.ext (by dsimp only; omega))))
    · intro d _
      have := e1 d
      rw [if_neg (by omega), zero_mul]
  · rw [Finset.sum_eq_zero (s := Finset.univ) (f := fun d : Fin 64 => _ * y (Fin.castAdd 64 d)), zero_add]
    · refine Finset.sum_congr rfl fun d _ => ?_
      have := e1 d; have := ek d; have := eq d
      rw [if_pos (by omega), mul_comm]
      exact congrArg₂ _ (congrArg y (Fin.ext (by omega))) (congrArg x0 (congrArg (ix3 0 r) (Fin.ext (by dsimp only; omega))))
    · intro d _
      have := e0 d
      rw [if_neg (by omega), zero_mul]

/-- The output block at head `(g, kv)`. -/
theorem pay3_at (a : Vec Ideal S1024x128 .f32) (l : Vec Ideal S1024x1 .f32) (g kv : Fin 2) (r : Fin 256) (d : Fin 64) :
    k0_pay3 (F := Ideal) a l (ix3 0 r (qCol g kv d)) = Ideal.div (a (ix2 (row g kv r) (kvCol kv d))) (l (ix2 (row g kv r) 0)) := by
  have hr := r.isLt
  have hd := d.isLt
  pointwise [k0_pay3]
  have eq : (qCol g kv d : Fin 256).val = g.val * 128 + kv.val * 64 + d.val := rfl
  have ek : (kvCol kv d : Fin 128).val = kv.val * 64 + d.val := rfl
  have er : (row g kv r : Fin 1024).val = kv.val * 512 + g.val * 256 + r.val := rfl
  have hg := g.isLt
  have hk := kv.isLt
  split
  · rename_i h
    rw [slt64 _ h]
    split
    · rw [select_one]
      exact congrArg₂ Ideal.div (congrArg a (congrArg₂ ix2 (Fin.ext (by dsimp only; omega)) (Fin.ext (by dsimp only; omega))))
        (congrArg l (congrArg (fun x => ix2 x 0) (Fin.ext (by dsimp only; omega))))
    · rw [select_zero]
      exact congrArg₂ Ideal.div (congrArg a (congrArg₂ ix2 (Fin.ext (by dsimp only; omega)) (Fin.ext (by dsimp only; omega))))
        (congrArg l (congrArg (fun x => ix2 x 0) (Fin.ext (by dsimp only; omega))))
  · rename_i h
    rw [slt64 _ (by omega)]
    split
    · rw [select_one]
      exact congrArg₂ Ideal.div (congrArg a (congrArg₂ ix2 (Fin.ext (by dsimp only; omega)) (Fin.ext (by dsimp only; omega))))
        (congrArg l (congrArg (fun x => ix2 x 0) (Fin.ext (by dsimp only; omega))))
    · rw [select_zero]
      exact congrArg₂ Ideal.div (congrArg a (congrArg₂ ix2 (Fin.ext (by dsimp only; omega)) (Fin.ext (by dsimp only; omega))))
        (congrArg l (congrArg (fun x => ix2 x 0) (Fin.ext (by dsimp only; omega))))

end Cert.KernelIdeal.Value

end
-- ==== Proof.Final.lean ====
/-
  The array the kernel leaves: block `(b, i)` of 256 rows is written by grid point `32 b + i`, and every element is the
  softmax average `Attn.out`, for queries and keys that are numbers.
-/
module

public import proofs.«01_k».proof.Proof.Heads
public import proofs.«01_k».proof.Proof.Gen.KernelIdeal.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat Window)
open Cert.Attn

variable (m : (ℓ : Loc nD τ sig) → Buf (Elt Ideal) ℓ)

/-! ## The input blocks of point `32 b + i` -/

theorem index0 : ∀ t : Fin grid0.N, win0_0.index t = ![t.val / 32, t.val % 32, 0] := by decide +kernel
theorem index1 : ∀ t : Fin grid0.N, win0_1.index t = ![t.val / 32, 0, 0] := by decide +kernel
theorem index2 : ∀ t : Fin grid0.N, win0_2.index t = ![t.val / 32, 0, 0] := by decide +kernel
theorem index3 : ∀ t : Fin grid0.N, win0_3.index t = ![t.val / 32, 0, 0] := by decide +kernel
theorem index4 : ∀ t : Fin grid0.N, win0_4.index t = ![t.val / 32, 0, 0] := by decide +kernel
theorem index5 : ∀ t : Fin grid0.N, win0_5.index t = ![t.val / 32, t.val % 32, 0] := by decide +kernel

/-- Three coordinates decide an index. -/
theorem idx3_ext {n0 n1 n2 : ℕ} (i j : (⟨3, ![n0, n1, n2]⟩ : Shape).Idx) (h0 : (i 0).val = (j 0).val) (h1 : (i 1).val = (j 1).val)
    (h2 : (i 2).val = (j 2).val) : i = j := by
  funext a
  apply Fin.ext
  fin_cases a
  · exact h0
  · exact h1
  · exact h2

section Blocks

variable (c : Dev nD) (t : Fin cfg0.N) (b : Fin 2) (i : Fin 32) (ht : t.val = b.val * 32 + i.val)

include ht

theorem div_t : t.val / 32 = b.val := by omega
theorem mod_t : t.val % 32 = i.val := by omega

theorem blk0 (r col : Fin 256) : (iblk m c 0 t : Vec Ideal S1x256x256 .bf16) (ix3 0 r col)
    = m ((c : Thread nD τ).loc main_arg0) (ix3 b ⟨i.val * 256 + r.val, by omega⟩ col) := by
  show m ((c : Thread nD τ).loc main_arg0) ((win0_0.rect t).emb (ix3 0 r col)) = _
  refine congrArg _ (idx3_ext _ _ ?_ ?_ ?_)
  · refine (win0_0.rect_emb_val t _ 0).trans ?_
    rw [index0]; show t.val / 32 * 1 + 0 = b.val; rw [div_t t b i ht]; omega
  · refine (win0_0.rect_emb_val t _ 1).trans ?_
    rw [index0]; show t.val % 32 * 256 + r.val = i.val * 256 + r.val; rw [mod_t t b i ht]
  · refine (win0_0.rect_emb_val t _ 2).trans ?_
    rw [index0]; show 0 * 256 + col.val = col.val; omega

theorem blk1 (j : Fin 8192) (col : Fin 128) : (iblk m c 1 t : Vec Ideal S1x8192x128 .bf16) (ix3 0 j col)
    = m ((c : Thread nD τ).loc main_arg1) (ix3 b j col) := by
  show m ((c : Thread nD τ).loc main_arg1) ((win0_1.rect t).emb (ix3 0 j col)) = _
  refine congrArg _ (idx3_ext _ _ ?_ ?_ ?_)
  · refine (win0_1.rect_emb_val t _ 0).trans ?_
    rw [index1]; show t.val / 32 * 1 + 0 = b.val; rw [div_t t b i ht]; omega
  · refine (win0_1.rect_emb_val t _ 1).trans ?_
    rw [index1]; show 0 * 8192 + j.val = j.val; omega
  · refine (win0_1.rect_emb_val t _ 2).trans ?_
    rw [index1]; show 0 * 128 + col.val = col.val; omega

theorem blk2 (j : Fin 8192) (col : Fin 128) : (iblk m c 2 t : Vec Ideal S1x8192x128 .bf16) (ix3 0 j col)
    = m ((c : Thread nD τ).loc main_arg2) (ix3 b j col) := by
  show m ((c : Thread nD τ).loc main_arg2) ((win0_2.rect t).emb (ix3 0 j col)) = _
  refine congrArg _ (idx3_ext _ _ ?_ ?_ ?_)
  · refine (win0_2.rect_emb_val t _ 0).trans ?_
    rw [index2]; show t.val / 32 * 1 + 0 = b.val; rw [div_t t b i ht]; omega
  · refine (win0_2.rect_emb_val t _ 1).trans ?_
    rw [index2]; show 0 * 8192 + j.val = j.val; omega
  · refine (win0_2.rect_emb_val t _ 2).trans ?_
    rw [index2]; show 0 * 128 + col.val = col.val; omega

theorem blk3 (j : Fin 256) (col : Fin 128) : (iblk m c 3 t : Vec Ideal S1x256x128 .bf16) (ix3 0 j col)
    = m ((c : Thread nD τ).loc main_arg3) (ix3 b j col) := by
  show m ((c : Thread nD τ).loc main_arg3) ((win0_3.rect t).emb (ix3 0 j col)) = _
  refine congrArg _ (idx3_ext _ _ ?_ ?_ ?_)
  · refine (win0_3.rect_emb_val t _ 0).trans ?_
    rw [index3]; show t.val / 32 * 1 + 0 = b.val; rw [div_t t b i ht]; omega
  · refine (win0_3.rect_emb_val t _ 1).trans ?_
    rw [index3]; show 0 * 256 + j.val = j.val; omega
  · refine (win0_3.rect_emb_val t _ 2).trans ?_
    rw [index3]; show 0 * 128 + col.val = col.val; omega

theorem blk4 (j : Fin 256) (col : Fin 128) : (iblk m c 4 t : Vec Ideal S1x256x128 .bf16) (ix3 0 j col)
    = m ((c : Thread nD τ).loc main_arg4) (ix3 b j col) := by
  show m ((c : Thread nD τ).loc main_arg4) ((win0_4.rect t).emb (ix3 0 j col)) = _
  refine congrArg _ (idx3_ext _ _ ?_ ?_ ?_)
  · refine (win0_4.rect_emb_val t _ 0).trans ?_
    rw [index4]; show t.val / 32 * 1 + 0 = b.val; rw [div_t t b i ht]; omega
  · refine (win0_4.rect_emb_val t _ 1).trans ?_
    rw [index4]; show 0 * 256 + j.val = j.val; omega
  · refine (win0_4.rect_emb_val t _ 2).trans ?_
    rw [index4]; show 0 * 128 + col.val = col.val; omega

end Blocks

/-! ## What a point writes -/

/-- The attention of the arrays the kernel is launched on. -/
abbrev outM (c : Dev nD) (b : Fin 2) (s : Fin 8192) (g kv : Fin 2) (d : Fin 64) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) b s g kv d

/-- Queries and keys are numbers. -/
structure Nums (c : Dev nD) : Prop where
  q : ∀ i : S2x8192x256.Idx, Num (m ((c : Thread nD τ).loc main_arg0) i)
  k : ∀ i : S2x8192x128.Idx, Num (m ((c : Thread nD τ).loc main_arg1) i)
  kc : ∀ i : S2x256x128.Idx, Num (m ((c : Thread nD τ).loc main_arg3) i)

variable {m}

theorem point_out {c : Dev nD} (hN : Nums m c) (t : Fin cfg0.N) (b : Fin 2) (i : Fin 32) (ht : t.val = b.val * 32 + i.val)
    (r : Fin 256) (g kv : Fin 2) (d : Fin 64) :
    k0_pay3 (F := Ideal) (final (F := Ideal) (iblk m c 0 t) (iblk m c 1 t) (iblk m c 2 t) (iblk m c 3 t) (iblk m c 4 t)).2.2
        (final (F := Ideal) (iblk m c 0 t) (iblk m c 1 t) (iblk m c 2 t) (iblk m c 3 t) (iblk m c 4 t)).2.1 (ix3 0 r (qCol g kv d))
      = outM m c b ⟨i.val * 256 + r.val, by omega⟩ g kv d := by
  rw [pay3_at]
  have hsc := score_num hN.q hN.k hN.kc b ⟨i.val * 256 + r.val, by omega⟩ g kv
  refine final_div _ _ _ _ _ _ _ _ _ ?_ ?_ ?_ ?_
  · intro j
    rw [dot_row, ← (hsc j).coe]
    unfold score
    refine Finset.sum_congr rfl fun e _ => ?_
    rw [blk3 m c t b i ht, blk0 m c t b i ht, cat_ctx]
  · intro j
    rw [blk4 m c t b i ht, cat_ctx]
  · intro j
    rw [dot_row, ← (hsc (256 + j)).coe]
    unfold score
    refine Finset.sum_congr rfl fun e _ => ?_
    rw [blk1 m c t b i ht, blk0 m c t b i ht, cat_own]
  · intro j
    rw [blk2 m c t b i ht, cat_own]

/-! ## The array -/

/-- Column `col` is column `d` of head `(g, kv)`. -/
theorem col_split (col : Fin 256) : ∃ (g kv : Fin 2) (d : Fin 64), col = qCol g kv d :=
  ⟨⟨col.val / 128, by omega⟩, ⟨col.val / 64 % 2, by omega⟩, ⟨col.val % 64, by omega⟩, Fin.ext (by
    show col.val = col.val / 128 * 128 + col.val / 64 % 2 * 64 + col.val % 64; omega)⟩

/-- An element of the final array. -/
theorem arr_at {c : Dev nD} (hN : Nums m c) (b : Fin 2) (s : Fin 8192) (g kv : Fin 2) (d : Fin 64) :
    ((dats m 0 c).arrAt 5 cfg0.N : S2x8192x256.Idx → EReal) (ix3 b s (qCol g kv d)) = outM m c b s g kv d := by
  obtain ⟨t, ht⟩ : ∃ t : Fin cfg0.N, t.val = b.val * 32 + s.val / 256 :=
    ⟨⟨b.val * 32 + s.val / 256, by show _ < 64; omega⟩, rfl⟩
  have hi : s.val / 256 < 32 := by omega
  have ht' : t.val = b.val * 32 + (⟨s.val / 256, hi⟩ : Fin 32).val := ht
  have h := (dats m 0 c).arrAt_emb_eq_flushed 5 disjoint5 t (flush0_5 t) (ix3 0 ⟨s.val % 256, by omega⟩ (qCol g kv d))
  rw [flushed5_A, out_eq] at h
  have e : ((cfg0.win 5).blk t).view.emb (ix3 0 ⟨s.val % 256, by omega⟩ (qCol g kv d)) = ix3 b s (qCol g kv d) := by
    refine idx3_ext (n0 := 2) (n1 := 8192) (n2 := 256) _ _ ?_ ?_ ?_
    · refine (win0_5.rect_emb_val t _ 0).trans ?_
      rw [index5]; show t.val / 32 * 1 + 0 = b.val; omega
    · refine (win0_5.rect_emb_val t _ 1).trans ?_
      rw [index5]; show t.val % 32 * 256 + s.val % 256 = s.val; omega
    · refine (win0_5.rect_emb_val t _ 2).trans ?_
      rw [index5]; show 0 * 256 + (qCol g kv d).val = (qCol g kv d).val; omega
  rw [e] at h
  refine h.trans ?_
  refine (point_out hN t b ⟨s.val / 256, hi⟩ ht' ⟨s.val % 256, by omega⟩ g kv d).trans ?_
  congr 1
  exact Fin.ext (by show s.val / 256 * 256 + s.val % 256 = s.val; omega)

end Cert.KernelIdeal.Value

end
-- ==== Proof.RefMax.lean ====
/-
  The largest score of a row, as the reference takes it.
-/
module

public import proofs.«01_k».proof.Proof.Spec
public import Idealize.ShloMosaic.Lib.Pointwise
public import proofs.«01_k».proof.Proof.Gen.ReferenceIdeal.Read

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Attn

variable (x0 : (⟨S2x8192x256, .bf16⟩ : BufTy).Contents (Elt Ideal)) (x1 x2 : (⟨S2x8192x128, .bf16⟩ : BufTy).Contents (Elt Ideal))
  (x3 x4 : (⟨S2x256x128, .bf16⟩ : BufTy).Contents (Elt Ideal))

/-- A maximum over the last of five axes. -/
theorem max_last {n0 n1 n2 n3 n4 : ℕ} {u : Shape} (v : FVec Ideal ⟨5, ![n0, n1, n2, n3, n4]⟩ .f32) (z : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf v z h hu (ix4 a b c d)
      = Finset.univ.fold max (z (Shape.Idx.first hu)) (fun s : Fin n4 => v (ix5 a b c d s)) := by
  rw [Ideal.maximumf_eq_max, Host.reduce_eq_fold, h.fold_fiber_r5_a4]
  rfl

/-- The largest score of a row. -/
theorem rowmax_apply (b k g : Fin 2) (q : Fin 8192) :
    val_main_v12 (F := Ideal) x0 x1 x3 (ix4 b k g q)
      = Finset.univ.fold max (Ideal.ofBits FTy.f32 4286578688#32) (fun s : Fin 8448 => val_main_v11 (F := Ideal) x0 x1 x3 (ix5 b k g q s)) := by
  unfold val_main_v12
  generalize val_main_v11 (F := Ideal) x0 x1 x3 = y
  rw [max_last]
  rw [val_main_cst_apply, Ideal.ofBits_def]

end Cert.ReferenceIdeal.Read

end
-- ==== Proof.RefRead.lean ====
/-
  The reference's operations, each read at one element.
-/
module

public import proofs.«01_k».proof.Proof.Spec
public import Idealize.ShloMosaic.Lib.Pointwise
public import proofs.«01_k».proof.Proof.Gen.ReferenceIdeal.Read

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Attn

variable (x0 : (⟨S2x8192x256, .bf16⟩ : BufTy).Contents (Elt Ideal)) (x1 x2 : (⟨S2x8192x128, .bf16⟩ : BufTy).Contents (Elt Ideal))
  (x3 x4 : (⟨S2x256x128, .bf16⟩ : BufTy).Contents (Elt Ideal))

/-- The keys, context first. -/
theorem keys_apply (b : Fin 2) (s : Fin 8448) (c : Fin 128) : val_main_v2 (F := Ideal) x1 x3 (ix3 b s c) = cat x3 x1 b s c := by
  have hs := s.isLt
  unfold cat
  pointwise [val_main_v2, val_main_v1, val_main_v0]
  split
  · rfl
  · rw [dif_pos (by omega)]

/-- The values, context first. -/
theorem vals_apply (b : Fin 2) (s : Fin 8448) (c : Fin 128) : val_main_v6 (F := Ideal) x2 x4 (ix3 b s c) = cat x4 x2 b s c := by
  have hs := s.isLt
  unfold cat
  pointwise [val_main_v6, val_main_v5, val_main_v4]
  split
  · rfl
  · rw [dif_pos (by omega)]

/-- The scores. -/
theorem scores_apply (b k g : Fin 2) (q : Fin 8192) (s : Fin 8448) :
    val_main_v11 (F := Ideal) x0 x1 x3 (ix5 b k g q s) = score x0 x3 x1 b q g k s := by
  unfold score
  pointwise [val_main_v11, val_main_v10, val_main_v9, val_main_v8, val_main_v3]
  refine Finset.sum_congr rfl fun d _ => ?_
  exact congrArg₂ _ (keys_apply x1 x3 b s (kvCol k d)) rfl

/-- The shift, the same for a whole row. -/
theorem shift_apply (b k g : Fin 2) (q : Fin 8192) (s : Fin 8448) :
    val_main_v16 (F := Ideal) x0 x1 x3 (ix5 b k g q s)
      = max (Ideal.ofBits FTy.f32 4286578688#32) (val_main_v12 (F := Ideal) x0 x1 x3 (ix4 b k g q)) := by
  have hi : idx_main_v15 (idx_main_v16 (ix5 b k g q s)) = ix4 b k g q := by
    funext a
    match a with
    | ⟨0, _⟩ => rfl
    | ⟨1, _⟩ => rfl
    | ⟨2, _⟩ => rfl
    | ⟨3, _⟩ => rfl
  rw [val_main_v16_apply, val_main_v15_apply, hi, val_main_v14_apply, val_main_v13_apply, val_main_cst_0_apply, Ideal.maximumf_def, Ideal.ofBits_def]

/-- The exponentials. -/
theorem exps_apply (b k g : Fin 2) (q : Fin 8192) (s : Fin 8448) :
    val_main_v18 (F := Ideal) x0 x1 x3 (ix5 b k g q s)
      = Ideal.exp (val_main_v11 (F := Ideal) x0 x1 x3 (ix5 b k g q s) - val_main_v16 (F := Ideal) x0 x1 x3 (ix5 b k g q s)) := rfl

/-- The weights: each exponential over their sum. -/
theorem weights_apply (b k g : Fin 2) (q : Fin 8192) (s : Fin 8448) :
    val_main_v24 (F := Ideal) x0 x1 x3 (ix5 b k g q s)
      = Ideal.div (val_main_v18 (F := Ideal) x0 x1 x3 (ix5 b k g q s)) (∑ i : Fin 8448, val_main_v18 (F := Ideal) x0 x1 x3 (ix5 b k g q i)) := by
  unfold val_main_v24 val_main_v23 val_main_v22 val_main_v21 val_main_v20 val_main_v19
  generalize val_main_v18 (F := Ideal) x0 x1 x3 = y
  pointwise [val_main_cst_1]

/-- The result, as a sum over the keys. -/
theorem result_sum (b : Fin 2) (q : Fin 8192) (g k : Fin 2) (d : Fin 64) :
    val_main_v27 (F := Ideal) x0 x1 x2 x3 x4 (ix3 b q (qCol g k d))
      = ∑ s : Fin 8448, cat x4 x2 b s (kvCol k d) * val_main_v24 (F := Ideal) x0 x1 x3 (ix5 b k g q s) := by
  unfold val_main_v27 val_main_v26 val_main_v25 val_main_v7
  simp only [← vals_apply]
  generalize val_main_v24 (F := Ideal) x0 x1 x3 = y
  generalize val_main_v6 (F := Ideal) x2 x4 = z
  pointwise [qCol, kvCol]

end Cert.ReferenceIdeal.Read

end
-- ==== Proof.RefValue.lean ====
/-
  What the reference computes, at one element: the softmax average `Attn.out`, for queries and keys that are numbers.
-/
module

public import proofs.«01_k».proof.Proof.RefMax
public import proofs.«01_k».proof.Proof.RefRead
public import proofs.«01_k».proof.Proof.Gen.ReferenceIdeal.Read

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Attn

variable (x0 : (⟨S2x8192x256, .bf16⟩ : BufTy).Contents (Elt Ideal)) (x1 x2 : (⟨S2x8192x128, .bf16⟩ : BufTy).Contents (Elt Ideal))
  (x3 x4 : (⟨S2x256x128, .bf16⟩ : BufTy).Contents (Elt Ideal))

/-- The reference's result is the softmax average. -/
theorem ref_eq (hq : ∀ i, Num (x0 i)) (hk : ∀ i, Num (x1 i)) (hkc : ∀ i, Num (x3 i)) (b : Fin 2) (q : Fin 8192) (g k : Fin 2) (d : Fin 64) :
    val_main_v27 (F := Ideal) x0 x1 x2 x3 x4 (ix3 b q (qCol g k d)) = out x0 x1 x2 x3 x4 b q g k d := by
  have hs : ∀ s : Fin 8448, val_main_v11 (F := Ideal) x0 x1 x3 (ix5 b k g q s) = (((score x0 x3 x1 b q g k s).toReal : ℝ) : EReal) := fun s => by
    rw [scores_apply]; exact (score_num hq hk hkc b q g k s).coe
  obtain ⟨μ, hμ⟩ : ∃ μ : ℝ, ∀ s : Fin 8448, val_main_v16 (F := Ideal) x0 x1 x3 (ix5 b k g q s) = (μ : EReal) := by
    obtain ⟨μ, h⟩ := Online.fold_max_real Finset.univ ⟨(0 : Fin 8448), Finset.mem_univ _⟩ fun s : Fin 8448 => (score x0 x3 x1 b q g k s).toReal
    refine ⟨μ, fun s => ?_⟩
    rw [shift_apply, rowmax_apply, Online.ofBits_neg_inf]
    simp only [hs]
    rw [h]
    exact max_eq_right bot_le
  rw [result_sum]
  simp only [weights_apply, exps_apply, hμ, hs]
  exact Online.at_once (fun j => (score x0 x3 x1 b q g k j).toReal) (fun j => cat x4 x2 b j (kvCol k d)) (by norm_num) μ

end Cert.ReferenceIdeal.Read

end
-- ==== Proof.Pre.lean ====
/-
  The precondition read: where it holds, every query and every key is a number.
-/
module

public import proofs.«01_k».proof.Proof.Spec
public import proofs.«01_k».proof.Pre_finite
public import Idealize.ShloMosaic.Lib.ReduceAll
public import Idealize.ShloMosaic.PureOps.Ideal.Laws

@[expose] public section

noncomputable section

namespace Cert.Pre_finite

open Idealize.ShloMosaic
open Cert.Attn

instance facts : Cert.Pre_finite.Facts where
  bitsLt_bf16_f32 := by decide
  bcast_S_S2x8192x256 := by decide
  reducesTo_S2x8192x256_S_d0_1_2 := by decide
  h_S_ := by decide
  bcast_S_S2x8192x128 := by decide
  reducesTo_S2x8192x128_S_d0_1_2 := by decide
  bcast_S_S2x256x128 := by decide
  reducesTo_S2x256x128_S_d0_1_2 := by decide

instance : Subsingleton S_.Idx := ⟨fun a b => funext fun i => i.elim0⟩

theorem inf_bits : Ideal.ofBits FTy.f32 0x7F800000#32 = (⊤ : EReal) := by
  simp [Ideal.ofBits, Ideal.ieee]

/-- Smaller than +∞ in absolute value: a number. -/
theorem num_of_abs {x : EReal} (h : max x (-x) < ⊤) : Num x := by
  refine ⟨fun e => ?_, fun e => ?_⟩ <;> subst e <;> simp at h

/-- One array's part of the precondition. -/
theorem nums_of_all {s : Shape} (x : FVec Ideal s .bf16) (hb : S_.BroadcastsInDim s (![] : Fin 0 → Fin s.rank)) {axes : List (Fin s.rank)}
    (hr : s.ReducesTo axes S_) (hlt : FTy.bits .bf16 < FTy.bits .f32) (hu : 0 < S_.numel) (j : S_.Idx)
    (h : Host.reduce IntOp.andi (cmpf (F := Ideal) .olt (Host.absf (extf .f32 x hlt)) (broadcastInDim s ![] hb (constant (F := Ideal) S_ .f32 0x7F800000#32)))
      (constantI S_ 1 1#1) hr hu j = 1#1) (i : s.Idx) : Num (x i) := by
  have h1 := Host.reduce_andi_all _ _ hr hu j h i
  apply num_of_abs
  rw [← inf_bits]
  have h2 : Ideal.cmp .olt (max (x i) (-(x i))) (Ideal.ofBits FTy.f32 0x7F800000#32) = 1#1 := h1
  by_contra hn
  have h3 : Ideal.cmp .olt (max (x i) (-(x i))) (Ideal.ofBits FTy.f32 0x7F800000#32) = 0#1 := by
    unfold Ideal.cmp
    simp only [hn, decide_false]
    rfl
  rw [h3] at h2
  exact absurd h2 (by decide)

/-- Where the precondition holds, queries and keys are numbers. -/
theorem nums (q : FVec Ideal S2x8192x256 .bf16) (k v : FVec Ideal S2x8192x128 .bf16) (kc vc : FVec Ideal S2x256x128 .bf16)
    (h : fn (F := Ideal) q k v kc vc = fun _ => 1#1) : (∀ i, Num (q i)) ∧ (∀ i, Num (k i)) ∧ (∀ i, Num (kc i)) := by
  have h0 := congrFun h (fun i => i.elim0)
  unfold fn at h0
  obtain ⟨h1, h2⟩ := IntOp.andi_eq_one.1 h0
  obtain ⟨h3, h4⟩ := IntOp.andi_eq_one.1 h1
  exact ⟨nums_of_all q _ _ _ _ _ h3, nums_of_all k _ _ _ _ _ h4, nums_of_all kc _ _ _ _ _ h2⟩

end Cert.Pre_finite

end
-- ==== Proof.Equation.lean ====
/-
  The two results are equal: the array the kernel leaves and the array the reference leaves are both `Attn.out`.
-/
module

public import proofs.«01_k».proof.Defs
public import proofs.«01_k».proof.Proof.Final
public import proofs.«01_k».proof.Proof.RefValue
public import proofs.«01_k».proof.Proof.Pre
public import proofs.«01_k».proof.Proof.Gen.Kernel.Frame
public import Idealize.ShloMosaic.Lib.Quiescent

@[expose] public section

noncomputable section

namespace Cert.Attn

open Idealize.ShloMosaic Idealize.ShloMosaic.TcCoe Idealize.SL.Sem

theorem arrays_eq (m : (ℓ : Loc Cert.KernelIdeal.nD Cert.KernelIdeal.τ Cert.KernelIdeal.sig) → Buf (Elt Ideal) ℓ) (c : Dev Cert.KernelIdeal.nD)
    (hN : Cert.KernelIdeal.Value.Nums m c) :
    Cert.ReferenceIdeal.Read.val_main_v27 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = (Cert.KernelIdeal.Gen.dats m 0 c).arrAt 5 Cert.KernelIdeal.cfg0.N := by
  funext i
  obtain ⟨b, s, col, rfl⟩ : ∃ (b : Fin 2) (s : Fin 8192) (col : Fin 256), i = ix3 b s col :=
    ⟨i 0, i 1, i 2, Cert.KernelIdeal.Value.idx3_ext (n0 := 2) (n1 := 8192) (n2 := 256) _ _ rfl rfl rfl⟩
  obtain ⟨g, kv, d, rfl⟩ := Cert.KernelIdeal.Value.col_split col
  exact (Cert.ReferenceIdeal.Read.ref_eq _ _ _ _ _ hN.q hN.k hN.kc b s g kv d).trans (Cert.KernelIdeal.Value.arr_at hN b s g kv d).symm

/-- The reference ends with its arguments unchanged and no counter raised. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, Idealize.ShloMosaic.sem_eq_zero_of_no_sems (by decide) r.2⟩)
    (Cert.ReferenceIdeal.Value.run m g)

/-- The value claim. -/
theorem algebraic : Cert.algebraic_KernelIdeal_ReferenceIdeal_pre_finite := by
  intro m g m' g' hpre hagree
  have hN : ∀ c : Dev Cert.KernelIdeal.nD, Cert.KernelIdeal.Value.Nums m c := fun c =>
    ⟨(Cert.Pre_finite.nums _ _ _ _ _ (hpre c)).1, (Cert.Pre_finite.nums _ _ _ _ _ (hpre c)).2.1, (Cert.Pre_finite.nums _ _ _ _ _ (hpre c)).2.2⟩
  refine ⟨fun c => (Cert.KernelIdeal.Gen.dats m 0 c).arrAt 5 Cert.KernelIdeal.cfg0.N, Cert.KernelIdeal.Value.run_blocks m g,
    (θ_run _ _ _).mono (fun r h c => ⟨(h c).1.trans ?_, (h c).2⟩) (Cert.ReferenceIdeal.Value.run m' g')⟩
  rw [Cert.ReferenceIdeal.Read.val_main_v27_eq, (hagree c).1, (hagree c).2.1, (hagree c).2.2.1, (hagree c).2.2.2.1, (hagree c).2.2.2.2]
  exact arrays_eq m c (hN c)

end Cert.Attn

end
-- ==== Proof.FfnTrip.lean ====
/-
  One trip of the feed-forward kernel's loop over the eleven chunks of hidden columns, as a function of what its
  accumulator holds.

  A trip takes 256 gate columns and the 256 value columns that go with them: their up-projection, their convolution
  over neighbouring rows, the gate times the value, and the down-projection of the product, which it adds to the
  accumulator. The accumulator is stored once a trip, whole. This module reads that store back, and so gives the
  accumulator after any number of trips (`st`).
-/
module

public import proofs.«01_k».proof.Proof.Block
public import proofs.«01_k».proof.Proof.Gen.Kernel2Ideal.Frame

@[expose] public section

noncomputable section

namespace Cert.Kernel2Ideal.Value

open Cert.Kernel2Ideal Cert.Kernel2Ideal.Gen Idealize.ShloMosaic Idealize.ShloMosaic.TcCoe Idealize.SL.Sem
open Cert.KernelIdeal.Value (hz2 hz3 read_whole_store readCov_whole_append)

variable {F : FTy → Type} [FloatOps F]

/-- Trip `k`'s 1024 by 256 weights of the up-projection. -/
def upChunk (X : Vec F S11x1024x256 .bf16) (k : Fin k0_t1_loop.trips) : Vec F S1x1024x256 .bf16 :=
  View.ld X (Rect.unit (s := S11x1024x256) (k0_off1 k) S1x1024x256.size (k0_off1_inb k))

/-- Trip `k`'s convolution weights and biases: eight rows, of which four are used. -/
def convChunk (X : Vec F S11x8x256 .f32) (k : Fin k0_t1_loop.trips) : Vec F S1x8x256 .f32 :=
  View.ld X (Rect.unit (s := S11x8x256) (k0_off2 k) S1x8x256.size (k0_off2_inb k))

/-- Trip `k`'s 256 by 1024 weights of the down-projection. -/
def downChunk (X : Vec F S11x256x1024 .bf16) (k : Fin k0_t1_loop.trips) : Vec F S1x256x1024 .bf16 :=
  View.ld X (Rect.unit (s := S11x256x1024) (k0_off3 k) S1x256x1024.size (k0_off3_inb k))

/-- The accumulator after a trip, from the one before. -/
def stepSt (v81 : FVec F S528x1024 .bf16) (x5 x6 : Vec F S11x1024x256 .bf16) (x7 x8 : Vec F S11x8x256 .f32) (x9 : Vec F S11x256x1024 .bf16) (k : Fin k0_t1_loop.trips)
    (s : Vec F S512x1024 .f32) : Vec F S512x1024 .f32 :=
  k0_pay1 (k0_pay3 v81 (upChunk x5 k) (convChunk x7 k)) (k0_pay5 v81 (upChunk x6 k) (convChunk x8 k))
    (k0_pay6 (convChunk x8 k)) s (downChunk x9 k)

/-- The accumulator after `n` trips, from the one the loop is entered with. -/
def st (v81 : FVec F S528x1024 .bf16) (x5 x6 : Vec F S11x1024x256 .bf16) (x7 x8 : Vec F S11x8x256 .f32) (x9 : Vec F S11x256x1024 .bf16) (s0 : Vec F S512x1024 .f32) : ℕ → Vec F S512x1024 .f32
  | 0 => s0
  | n + 1 => if h : n < k0_t1_loop.trips then stepSt v81 x5 x6 x7 x8 x9 ⟨n, h⟩ (st v81 x5 x6 x7 x8 x9 s0 n)
      else st v81 x5 x6 x7 x8 x9 s0 n

/-- The one store of a trip: the new accumulator, over the whole buffer. -/
theorem trip_pieces (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S11x1024x256 .bf16) (harg7 : arg7.IsWhole) (arg8 : Memref sig .tc .vmem S11x1024x256 .bf16) (harg8 : arg8.IsWhole) (arg9 : Memref sig .tc .vmem S11x8x256 .f32) (harg9 : arg9.IsWhole) (arg10 : Memref sig .tc .vmem S11x8x256 .f32) (harg10 : arg10.IsWhole) (arg11 : Memref sig .tc .vmem S11x256x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S512x1024 .f32) (harg14 : arg14.IsWhole)
    (v81 : FVec F S528x1024 .bf16) (x5 x6 : Vec F S11x1024x256 .bf16) (x7 x8 : Vec F S11x8x256 .f32) (x9 : Vec F S11x256x1024 .bf16) (k : Fin k0_t1_loop.trips)
    (f14 : BufTy.Contents (Elt F) arg14.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v81 (harg7.unread x5) (harg8.unread x6) (harg9.unread x7) (harg10.unread x8) (harg11.unread x9) k f14
      = [⟨Rect.unit ![0, 0] S512x1024.size inb_S512x1024_S512x1024_0_0, stepSt v81 x5 x6 x7 x8 x9 k (arg14.view.read (Elt F) f14)⟩] := by
  unfold tripL_k0_t1 trip_k0_t1 stepSt
  dsimp only
  sl_unfold_words
  simp only [View.readAt_eq_ld, harg7.read_unread, harg8.read_unread, harg9.read_unread, harg10.read_unread,
    harg11.read_unread, View.ld_unit_zero (S := S512x1024) hz2, shapeCast_self]
  rfl

/-- After `n` trips the accumulator reads `st … n`. -/
theorem loop_reads (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S11x1024x256 .bf16) (harg7 : arg7.IsWhole) (arg8 : Memref sig .tc .vmem S11x1024x256 .bf16) (harg8 : arg8.IsWhole) (arg9 : Memref sig .tc .vmem S11x8x256 .f32) (harg9 : arg9.IsWhole) (arg10 : Memref sig .tc .vmem S11x8x256 .f32) (harg10 : arg10.IsWhole) (arg11 : Memref sig .tc .vmem S11x256x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S512x1024 .f32) (harg14 : arg14.IsWhole)
    (v81 : FVec F S528x1024 .bf16) (x5 x6 : Vec F S11x1024x256 .bf16) (x7 x8 : Vec F S11x8x256 .f32) (x9 : Vec F S11x256x1024 .bf16)
    (G14 : BufTy.Contents (Elt F) arg14.view.ty) (n : ℕ) (hn : n ≤ k0_t1_loop.trips) :
    arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v81 (harg7.unread x5) (harg8.unread x6) (harg9.unread x7) (harg10.unread x8) (harg11.unread x9) G14 n))
      = st v81 x5 x6 x7 x8 x9 (arg14.view.read (Elt F) G14) n := by
  induction n with
  | zero => rfl
  | succ n ih =>
    have h14 := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 v81 (harg7.unread x5) (harg8.unread x6) (harg9.unread x7) (harg10.unread x8) (harg11.unread x9) G14 ⟨n, hn⟩
    rw [trip_pieces, h14] at hs
    have hst : st v81 x5 x6 x7 x8 x9 (arg14.view.read (Elt F) G14) (n + 1)
        = stepSt v81 x5 x6 x7 x8 x9 ⟨n, hn⟩ (st v81 x5 x6 x7 x8 x9 (arg14.view.read (Elt F) G14) n) := dif_pos hn
    rw [hs, hst]
    exact read_whole_store _ _ hz2 _ _ _

end Cert.Kernel2Ideal.Value

end
-- ==== Proof.FfnBlock.lean ====
/-
  What one grid point of the feed-forward kernel leaves in its output block: the residual sum of the block's rows and
  the accumulator after the eleven trips (`st`, FfnTrip.lean), normalised (`k0_pay2`). The loop is entered with an
  accumulator of zeros and runs over `ext`, the block's normalised rows with eight rows of each neighbour.
-/
module

public import proofs.«01_k».proof.Proof.FfnTrip

@[expose] public section

noncomputable section

namespace Cert.Kernel2Ideal.Value

open Cert.Kernel2Ideal Cert.Kernel2Ideal.Gen Idealize.ShloMosaic Idealize.ShloMosaic.TcCoe Idealize.SL.Sem
open Cert.KernelIdeal.Value (hz2 hz3 read_whole_store readCov_whole_append)

variable {F : FTy → Type} [FloatOps F]

/-- The block's 512 normalised rows, between the eight rows before them and the eight after them. -/
def ext (i : grid0.Coords) (x0 : Vec F S1x512x1024 .f32) (x1 x2 : Vec F S1x8x1024 .f32) (x3 : Vec F S1x1x6144 .f32)
    (x4 : Vec F S1x1024 .f32) : FVec F S528x1024 .bf16 :=
  k0_pay13 (k0_pay7 x3) (k0_pay8 x4) (k0_pay9 i) (k0_pay10 x0) (k0_pay11 i x3 x4 x1) (k0_pay12 x0)
    (Scalar.ofBits .f32 0x44800000#32) x2

/-- The output block, from the blocks of the kernel's arguments. -/
theorem out_eq (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S11x1024x256 .bf16) (harg7 : arg7.IsWhole) (arg8 : Memref sig .tc .vmem S11x1024x256 .bf16) (harg8 : arg8.IsWhole) (arg9 : Memref sig .tc .vmem S11x8x256 .f32) (harg9 : arg9.IsWhole) (arg10 : Memref sig .tc .vmem S11x8x256 .f32) (harg10 : arg10.IsWhole) (arg11 : Memref sig .tc .vmem S11x256x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S512x1024 .f32) (harg14 : arg14.IsWhole)
    (x0 : Vec F S1x512x1024 .f32) (x1 : Vec F S1x8x1024 .f32) (x2 : Vec F S1x8x1024 .f32) (x3 : Vec F S1x1x6144 .f32) (x4 : Vec F S1x1024 .f32) (x5 : Vec F S11x1024x256 .bf16) (x6 : Vec F S11x1024x256 .bf16) (x7 : Vec F S11x8x256 .f32) (x8 : Vec F S11x8x256 .f32) (x9 : Vec F S11x256x1024 .bf16) (x10 : Vec F S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
      = k0_pay2 (k0_pay7 x3) (k0_pay10 x0) (st (ext i x0 x1 x2 x3 x4) x5 x6 x7 x8 x9 k0_pay14 k0_t1_loop.trips) x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread,
    harg6.read_unread, harg12.read_unread, View.ld_unit_zero (S := S1x512x1024) hz3,
    View.ld_unit_zero (S := S1x8x1024) hz3, View.ld_unit_zero (S := S1x1x6144) hz3,
    View.ld_unit_zero (S := S1x1024) hz2]
  have h := loop_reads (F := F) Variants.none c none i arg2 harg2 arg3 harg3 arg4 harg4 arg5 harg5 arg6 harg6 arg7 harg7 arg8 harg8 arg9 harg9 arg10 harg10 arg11 harg11 arg12 harg12 arg13 harg13 arg14 harg14
    (ext i x0 x1 x2 x3 x4) x5 x6 x7 x8 x9
    (arg14.view.writes (Elt F) arg14.view.junk [⟨Rect.unit ![0, 0] S512x1024.size inb_S512x1024_S512x1024_0_0, k0_pay14⟩])
    k0_t1_loop.trips le_rfl
  rw [read_whole_store _ _ hz2] at h
  rw [show Scf.trips k0_t1_loop.lb k0_t1_loop.ub k0_t1_loop.st = k0_t1_loop.trips from rfl]
  unfold ext at h ⊢
  revert h
  generalize k0_t1_loop.trips = n
  intro h
  refine congrArg (fun a => k0_pay2 (k0_pay7 x3) (k0_pay10 x0) a x10) ?_
  rw [← h]
  exact readCov_whole_append _ hz2 _ _ _

end Cert.Kernel2Ideal.Value

end
-- ==== Proof.FfnSpec.lean ====
/-
  The gated feed-forward block with its convolution over neighbouring rows, over the reals: each row is normalised and
  modulated, projected up to 2816 gate columns and 2816 value columns, each column is convolved with the rows before and
  after (zero beyond the ends of the sequence), the gate times its logistic times the value is projected down, and the
  sum of the row and the modulated result is normalised once more.
-/
module

public import Idealize.ShloMosaic.PureOps.Ideal
public import Idealize.ShloMosaic.Lib.Pointwise

@[expose] public section

noncomputable section

namespace Cert.Ffn

open Idealize.ShloMosaic

/-- The mean of the squares of a row of 1024 elements. -/
def meanSq (v : Fin 1024 → EReal) : EReal := Ideal.div (∑ k, v k * v k) (Ideal.ofBits .f32 0x44800000#32)

/-- A row divided by the root of its mean square, to which a millionth is added. -/
def rms (v : Fin 1024 → EReal) (k : Fin 1024) : EReal :=
  v k * Ideal.rsqrt (meanSq v + Ideal.ofBits .f32 0x358637BD#32)

/-- A normalised row scaled by `g` and `1 + sc` and shifted by `sh`. -/
def modRow (v g sc sh : Fin 1024 → EReal) (k : Fin 1024) : EReal :=
  rms v k * g k * (Ideal.ofBits .f32 0x3F800000#32 + sc k) + sh k

variable (X : (⟨3, ![2, 8192, 1024]⟩ : Shape).Idx → EReal) (M : (⟨3, ![8, 1, 6144]⟩ : Shape).Idx → EReal)
  (G : (⟨1, ![1024]⟩ : Shape).Idx → EReal) (W : (⟨2, ![1024, 5632]⟩ : Shape).Idx → EReal)
  (C : (⟨2, ![3, 5632]⟩ : Shape).Idx → EReal) (B : (⟨1, ![5632]⟩ : Shape).Idx → EReal)
  (D : (⟨2, ![2816, 1024]⟩ : Shape).Idx → EReal) (E : (⟨1, ![1024]⟩ : Shape).Idx → EReal)

/-- Element `k` of the `part`-th of the six modulation rows of batch row `b`. -/
def modAt (b : Fin 2) (part : Fin 6) (k : Fin 1024) : EReal :=
  M (ix3 ⟨b.val, by omega⟩ 0 ⟨1024 * part.val + k.val, by omega⟩)

/-- Row `s` of batch row `b`, normalised and modulated. -/
def hid (b : Fin 2) (s : Fin 8192) : Fin 1024 → EReal :=
  modRow (fun k => X (ix3 b s k)) (fun k => G (ix1 k)) (modAt M b 4) (modAt M b 3)

/-- Column `f` of the up-projection of row `s`. -/
def up (b : Fin 2) (s : Fin 8192) (f : Fin 5632) : EReal := ∑ k : Fin 1024, hid X M G b s k * W (ix2 k f)

/-- The normalised rows with a row of zeros before the first and after the last: row `t` is row `t - 1` of them. -/
def hidPad (b : Fin 2) (t : ℕ) (k : Fin 1024) : EReal :=
  if h : 0 < t ∧ t ≤ 8192 then hid X M G b ⟨t - 1, by omega⟩ k else 0

/-- The up-projection with a row of zeros before the first and after the last. -/
def upPad (b : Fin 2) (t : ℕ) (f : Fin 5632) : EReal :=
  if h : 0 < t ∧ t ≤ 8192 then up X M G W b ⟨t - 1, by omega⟩ f else 0

/-- Padding before or after the up-projection is the same. -/
theorem upPad_eq (b : Fin 2) (t : ℕ) (f : Fin 5632) :
    upPad X M G W b t f = ∑ k : Fin 1024, hidPad X M G b t k * W (ix2 k f) := by
  unfold upPad hidPad
  by_cases h : 0 < t ∧ t ≤ 8192
  · simp only [dif_pos h]; rfl
  · simp only [dif_neg h, zero_mul, Finset.sum_const_zero]

/-- Column `f` of row `s`, convolved with the row before and the row after. -/
def conv (b : Fin 2) (s : Fin 8192) (f : Fin 5632) : EReal :=
  upPad X M G W b s.val f * C (ix2 0 f) + upPad X M G W b (s.val + 1) f * C (ix2 1 f)
    + upPad X M G W b (s.val + 2) f * C (ix2 2 f) + B (ix1 f)

/-- Gate column `j` among the 5632. -/
def gateCol (j : Fin 2816) : Fin 5632 := ⟨j.val, by omega⟩

/-- The value column that goes with gate column `j`. -/
def valCol (j : Fin 2816) : Fin 5632 := ⟨2816 + j.val, by omega⟩

/-- The gate times its logistic times the value. -/
def act (b : Fin 2) (s : Fin 8192) (j : Fin 2816) : EReal :=
  conv X M G W C B b s (gateCol j) * Ideal.logistic (conv X M G W C B b s (gateCol j)) * conv X M G W C B b s (valCol j)

/-- The down-projection. -/
def down (b : Fin 2) (s : Fin 8192) (n : Fin 1024) : EReal :=
  ∑ j : Fin 2816, act X M G W C B b s j * D (ix2 j n)

/-- The row with the modulated block added to it. -/
def res (b : Fin 2) (s : Fin 8192) (n : Fin 1024) : EReal :=
  X (ix3 b s n) + modAt M b 5 n * down X M G W C B D b s n

/-- The block's output: the sum normalised. -/
def out (b : Fin 2) (s : Fin 8192) (n : Fin 1024) : EReal := rms (res X M G W C B D b s) n * E (ix1 n)

/-! ## Chunks of columns -/

/-- Column `e` of chunk `c` of the gate columns. -/
def chunkCol (c : Fin 11) (e : Fin 256) : Fin 2816 := ⟨c.val * 256 + e.val, by omega⟩

/-- A sum over all the gate columns is the sum over the chunks of the sums over their columns. -/
theorem sum_chunks (f : Fin 2816 → EReal) : ∑ j, f j = ∑ c : Fin 11, ∑ e : Fin 256, f (chunkCol c e) := by
  rw [← Fintype.sum_prod_type' (f := fun c e => f (chunkCol c e))]
  refine (Fintype.sum_equiv (finProdFinEquiv (m := 11) (n := 256)) _ _ ?_).symm
  rintro ⟨c, e⟩
  congr 1
  apply Fin.ext
  show c.val * 256 + e.val = e.val + 256 * c.val
  omega

end Cert.Ffn

end
-- ==== Proof.FfnRows.lean ====
/-
  What the feed-forward kernel computes in one grid point, read at a row and a column: the block's normalised rows
  between the rows of its neighbours, one trip's gate and value columns, and the output rows.
-/
module

public import proofs.«01_k».proof.Proof.FfnBlock
public import proofs.«01_k».proof.Proof.FfnSpec

@[expose] public section

noncomputable section

namespace Cert.Kernel2Ideal.Value

open Cert.Kernel2Ideal Cert.Kernel2Ideal.Gen Idealize.ShloMosaic Idealize.ShloMosaic.TcCoe Idealize.SL.Sem
open Cert.Ffn

/-- One where there is a block before, zero where there is none. -/
def keepPrev (i : grid0.Coords) : EReal :=
  Scalar.sitofp (F := Ideal) .f32 (Scalar.extui (Scalar.cmpi .sgt (BitVec.ofNat 32 (i 1).val) 0#32) : BitVec 32)

section Ext

variable (i : grid0.Coords) (x0 : Vec Ideal S1x512x1024 .f32) (x1 x2 : Vec Ideal S1x8x1024 .f32)
  (x3 : Vec Ideal S1x1x6144 .f32) (x4 : Vec Ideal S1x1024 .f32)

/-- Element `k` of the `part`-th modulation row of the block. -/
def modB (part : Fin 6) (k : Fin 1024) : EReal := x3 (ix3 0 0 ⟨1024 * part.val + k.val, by omega⟩)

theorem pay12_at (p : Fin 512) : k0_pay12 (F := Ideal) x0 (ix2 p 0) = ∑ k : Fin 1024, x0 (ix3 0 p k) * x0 (ix3 0 p k) := by
  pointwise [k0_pay12, k0_pay10]

theorem pay11_at (r : Fin 8) (k : Fin 1024) : k0_pay11 (F := Ideal) i x3 x4 x1 (ix2 r k)
    = modRow (fun k => x1 (ix3 0 r k)) (fun k => x4 (ix2 0 k)) (modB x3 4) (modB x3 3) k * keepPrev i := by
  pointwise [k0_pay11, k0_pay8, k0_pay7, modRow, rms, meanSq, modB, keepPrev]

theorem ext_mid (p : Fin 512) (k : Fin 1024) : ext (F := Ideal) i x0 x1 x2 x3 x4 (ix2 ⟨8 + p.val, by omega⟩ k)
    = modRow (fun k => x0 (ix3 0 p k)) (fun k => x4 (ix2 0 k)) (modB x3 4) (modB x3 3) k := by
  pointwise [ext, k0_pay13, k0_pay12, k0_pay10, k0_pay8, k0_pay7, modRow, rms, meanSq, modB]

theorem ext_lo (r : Fin 8) (k : Fin 1024) : ext (F := Ideal) i x0 x1 x2 x3 x4 (ix2 ⟨r.val, by omega⟩ k)
    = k0_pay11 (F := Ideal) i x3 x4 x1 (ix2 r k) := by
  pointwise [ext, k0_pay13]

theorem ext_hi (r : Fin 8) (k : Fin 1024) : ext (F := Ideal) i x0 x1 x2 x3 x4 (ix2 ⟨520 + r.val, by omega⟩ k)
    = modRow (fun k => x2 (ix3 0 r k)) (fun k => x4 (ix2 0 k)) (modB x3 4) (modB x3 3) k * k0_pay9 (F := Ideal) i := by
  have e : ∀ h, (⟨520 + r.val - 8 - 512, h⟩ : Fin 8) = r := fun _ => Fin.ext (show 520 + r.val - 8 - 512 = r.val by omega)
  pointwise [ext, k0_pay13, k0_pay8, k0_pay7, modRow, rms, meanSq, modB]
  rw [dif_neg (by omega), dif_neg (by omega)]
  simp only [e]

end Ext

section Trip

variable (v : FVec Ideal S528x1024 .bf16) (w w' : Vec Ideal S1x1024x256 .bf16) (cw cw' : Vec Ideal S1x8x256 .f32)
  (d : Vec Ideal S1x256x1024 .bf16) (acc : Vec Ideal S512x1024 .f32)

/-- Row `r` of the extended rows times column `e` of the weights. -/
def proj (r : Fin 528) (e : Fin 256) : EReal := ∑ k : Fin 1024, v (ix2 r k) * w (ix3 0 k e)

/-- The convolution of the projected rows around row `p` of the block, with its bias. -/
def convB (p : Fin 512) (e : Fin 256) : EReal :=
  proj v w ⟨p.val + 7, by omega⟩ e * cw (ix3 0 0 e) + proj v w ⟨p.val + 8, by omega⟩ e * cw (ix3 0 1 e)
    + proj v w ⟨p.val + 9, by omega⟩ e * cw (ix3 0 2 e) + cw (ix3 0 3 e)

theorem row_prev (p : Fin 512) (h) : (⟨(8 + p.val + 528 - 1) % 528, h⟩ : Fin 528) = ⟨p.val + 7, by omega⟩ :=
  Fin.ext (show (8 + p.val + 528 - 1) % 528 = p.val + 7 by omega)

theorem row_own (p : Fin 512) (h) : (⟨8 + p.val, h⟩ : Fin 528) = ⟨p.val + 8, by omega⟩ :=
  Fin.ext (show 8 + p.val = p.val + 8 by omega)

theorem row_next (p : Fin 512) (h) : (⟨(8 + p.val + 528 - 527) % 528, h⟩ : Fin 528) = ⟨p.val + 9, by omega⟩ :=
  Fin.ext (show (8 + p.val + 528 - 527) % 528 = p.val + 9 by omega)

theorem pay3_at (p : Fin 512) (e : Fin 256) : k0_pay3 (F := Ideal) v w cw (ix2 p e) = convB v w cw p e := by
  pointwise [k0_pay3, convB, proj]
  simp only [row_prev, row_own, row_next]

theorem pay5_at (p : Fin 512) (e : Fin 256) :
    k0_pay5 (F := Ideal) v w cw (ix2 ⟨8 + p.val, by omega⟩ e) + k0_pay6 (F := Ideal) cw (ix2 0 e) = convB v w cw p e := by
  pointwise [k0_pay5, k0_pay6, k0_pay4, convB, proj]
  simp only [row_prev, row_own, row_next]

theorem step_at (p : Fin 512) (n : Fin 1024) :
    k0_pay1 (F := Ideal) (k0_pay3 v w cw) (k0_pay5 v w' cw') (k0_pay6 cw') acc d (ix2 p n)
      = acc (ix2 p n) + ∑ e : Fin 256, convB v w cw p e * Ideal.logistic (convB v w cw p e) * convB v w' cw' p e * d (ix3 0 e n) := by
  pointwise [k0_pay1]
  simp only [pay3_at, pay5_at]

end Trip

theorem pay2_at (x0 : Vec Ideal S1x512x1024 .f32) (x3 : Vec Ideal S1x1x6144 .f32) (acc : Vec Ideal S512x1024 .f32)
    (x10 : Vec Ideal S1x1024 .f32) (p : Fin 512) (n : Fin 1024) :
    k0_pay2 (F := Ideal) (k0_pay7 x3) (k0_pay10 x0) acc x10 (ix3 0 p n)
      = rms (fun n => x0 (ix3 0 p n) + modB x3 5 n * acc (ix2 p n)) n * x10 (ix2 0 n) := by
  pointwise [k0_pay2, k0_pay7, k0_pay10, rms, meanSq, modB]

theorem pay14_at (p : Fin 512) (n : Fin 1024) : k0_pay14 (F := Ideal) (ix2 p n) = 0 := by
  pointwise [k0_pay14]

end Cert.Kernel2Ideal.Value

end
-- ==== Proof.FfnHost.lean ====
/-
  The arrays the feed-forward kernel is called on, from the arguments of the host program: the up-projection's weights
  cut into gate and value chunks, the convolution's weights stacked on its bias and cut the same way, and the
  down-projection's weights cut into chunks of rows.
-/
module

public import proofs.«01_k».proof.Proof.FfnBlock
public import proofs.«01_k».proof.Proof.FfnSpec
public import Idealize.ShloMosaic.Lib.StableHlo.RunRead

@[expose] public section

noncomputable section

namespace Cert.Kernel2Ideal.Value

open Cert.Kernel2Ideal Cert.Kernel2Ideal.Gen Idealize.ShloMosaic Idealize.ShloMosaic.TcCoe Idealize.SL.Sem
open Cert.Ffn

variable (m : (ℓ : Loc nD τ sig) → Buf (Elt Ideal) ℓ) (c : Dev nD)

theorem V_v0_at (k : Fin 1024) : V m c main_v0 (ix2 0 k) = m ((c : Thread nD τ).loc main_arg2) (ix1 k) := by
  unfold V
  after_reads_simp
  pointwise []

theorem V_v19_at (k : Fin 1024) : V m c main_v19 (ix2 0 k) = m ((c : Thread nD τ).loc main_arg7) (ix1 k) := by
  unfold V
  after_reads_simp
  pointwise []

theorem V_v12_at (ch : Fin 11) (k : Fin 1024) (e : Fin 256) :
    V m c main_v12 (ix3 ch k e) = m ((c : Thread nD τ).loc main_arg3) (ix2 k (gateCol (chunkCol ch e))) := by
  unfold V
  after_reads_simp
  pointwise [gateCol, chunkCol]

theorem V_v14_at (ch : Fin 11) (k : Fin 1024) (e : Fin 256) :
    V m c main_v14 (ix3 ch k e) = m ((c : Thread nD τ).loc main_arg3) (ix2 k (valCol (chunkCol ch e))) := by
  unfold V
  after_reads_simp
  pointwise [valCol, chunkCol]
  simp only [Nat.add_assoc]

theorem V_v10_at (ch : Fin 11) (e : Fin 256) (n : Fin 1024) :
    V m c main_v10 (ix3 ch e n) = m ((c : Thread nD τ).loc main_arg6) (ix2 (chunkCol ch e) n) := by
  unfold V
  after_reads_simp
  pointwise [chunkCol]

theorem V_v16_at (ch : Fin 11) (r : Fin 3) (e : Fin 256) :
    V m c main_v16 (ix3 ch ⟨r.val, by omega⟩ e) = m ((c : Thread nD τ).loc main_arg4) (ix2 r (gateCol (chunkCol ch e))) := by
  unfold V
  after_reads_simp
  pointwise [gateCol, chunkCol]
  after_reads_simp

theorem V_v18_at (ch : Fin 11) (r : Fin 3) (e : Fin 256) :
    V m c main_v18 (ix3 ch ⟨r.val, by omega⟩ e) = m ((c : Thread nD τ).loc main_arg4) (ix2 r (valCol (chunkCol ch e))) := by
  unfold V
  after_reads_simp
  pointwise [valCol, chunkCol]
  after_reads_simp
  pointwise []
  simp only [Nat.add_assoc]

theorem V_v16_bias (ch : Fin 11) (e : Fin 256) :
    V m c main_v16 (ix3 ch 3 e) = m ((c : Thread nD τ).loc main_arg5) (ix1 (gateCol (chunkCol ch e))) := by
  unfold V
  after_reads_simp
  pointwise [gateCol, chunkCol]
  after_reads_simp
  pointwise []

theorem V_v18_bias (ch : Fin 11) (e : Fin 256) :
    V m c main_v18 (ix3 ch 3 e) = m ((c : Thread nD τ).loc main_arg5) (ix1 (valCol (chunkCol ch e))) := by
  unfold V
  after_reads_simp
  pointwise [valCol, chunkCol]
  after_reads_simp
  pointwise []
  simp only [Nat.add_assoc]

end Cert.Kernel2Ideal.Value

end
-- ==== Proof.FfnBlocks.lean ====
/-
  The blocks that grid point `16 b + i` of the feed-forward kernel is given: 512 rows of batch row `b`, the eight rows
  before them and the eight after them, the modulation rows of `b`, and the weights, whole.
-/
module

public import proofs.«01_k».proof.Proof.FfnRows
public import proofs.«01_k».proof.Proof.FfnHost
public import proofs.«01_k».proof.Proof.Final

@[expose] public section

noncomputable section

namespace Cert.Kernel2Ideal.Value

open Cert.Kernel2Ideal Cert.Kernel2Ideal.Gen Idealize.ShloMosaic Idealize.ShloMosaic.TcCoe Idealize.SL.Sem
open Cert.KernelIdeal.Value (idx3_ext)
open Cert.Ffn

variable (m : (ℓ : Loc nD τ sig) → Buf (Elt Ideal) ℓ)

theorem index0 : ∀ t : Fin grid0.N, win0_0.index t = ![t.val / 16, t.val % 16, 0] := by decide +kernel
theorem index1 : ∀ t : Fin grid0.N, win0_1.index t = ![t.val / 16, t.val % 16 * 64 - 1, 0] := by decide +kernel
theorem index2 : ∀ t : Fin grid0.N, win0_2.index t = ![t.val / 16, min (t.val % 16 * 64 + 64) 1023, 0] := by decide +kernel
theorem index3 : ∀ t : Fin grid0.N, win0_3.index t = ![t.val / 16, 0, 0] := by decide +kernel
theorem index4 : ∀ t : Fin grid0.N, win0_4.index t = ![0, 0] := by decide +kernel
theorem index5 : ∀ t : Fin grid0.N, win0_5.index t = ![0, 0, 0] := by decide +kernel
theorem index6 : ∀ t : Fin grid0.N, win0_6.index t = ![0, 0, 0] := by decide +kernel
theorem index7 : ∀ t : Fin grid0.N, win0_7.index t = ![0, 0, 0] := by decide +kernel
theorem index8 : ∀ t : Fin grid0.N, win0_8.index t = ![0, 0, 0] := by decide +kernel
theorem index9 : ∀ t : Fin grid0.N, win0_9.index t = ![0, 0, 0] := by decide +kernel
theorem index10 : ∀ t : Fin grid0.N, win0_10.index t = ![0, 0] := by decide +kernel
theorem index11 : ∀ t : Fin grid0.N, win0_11.index t = ![t.val / 16, t.val % 16, 0] := by decide +kernel

/-- The second coordinate of a grid point is its block of rows. -/
theorem coord1 : ∀ t : Fin grid0.N, (grid0.coords t 1).val = t.val % 16 := by decide +kernel

/-- Two coordinates decide an index. -/
theorem idx2_ext {n0 n1 : ℕ} (i j : (⟨2, ![n0, n1]⟩ : Shape).Idx) (h0 : (i 0).val = (j 0).val) (h1 : (i 1).val = (j 1).val) :
    i = j := by
  funext a
  apply Fin.ext
  fin_cases a
  · exact h0
  · exact h1

section Blocks

variable (c : Dev nD) (t : Fin cfg0.N) (b : Fin 2) (i : Fin 16) (ht : t.val = b.val * 16 + i.val)

include ht

theorem div_t : t.val / 16 = b.val := by omega
theorem mod_t : t.val % 16 = i.val := by omega

/-- Row `r` of a block of rows of the kernel's first argument is the row of the argument `s` rows in. -/
theorem blk0 (r : Fin 512) (k : Fin 1024) : (iblk m c 0 t : Vec Ideal S1x512x1024 .f32) (ix3 0 r k)
    = m ((c : Thread nD τ).loc main_arg0) (ix3 b ⟨i.val * 512 + r.val, by omega⟩ k) := by
  rw [← V_main_arg0 m c]
  show V m c main_arg0 ((win0_0.rect t).emb (ix3 0 r k)) = _
  refine congrArg _ (idx3_ext _ _ ?_ ?_ ?_)
  · refine (win0_0.rect_emb_val t _ 0).trans ?_
    rw [index0]; show t.val / 16 * 1 + 0 = b.val; rw [div_t t b i ht]; omega
  · refine (win0_0.rect_emb_val t _ 1).trans ?_
    rw [index0]; show t.val % 16 * 512 + r.val = i.val * 512 + r.val; rw [mod_t t b i ht]
  · refine (win0_0.rect_emb_val t _ 2).trans ?_
    rw [index0]; show 0 * 1024 + k.val = k.val; omega

theorem blk1 (r : Fin 8) (k : Fin 1024) : (iblk m c 1 t : Vec Ideal S1x8x1024 .f32) (ix3 0 r k)
    = m ((c : Thread nD τ).loc main_arg0) (ix3 b ⟨(i.val * 64 - 1) * 8 + r.val, by omega⟩ k) := by
  rw [← V_main_arg0 m c]
  show V m c main_arg0 ((win0_1.rect t).emb (ix3 0 r k)) = _
  refine congrArg _ (idx3_ext _ _ ?_ ?_ ?_)
  · refine (win0_1.rect_emb_val t _ 0).trans ?_
    rw [index1]; show t.val / 16 * 1 + 0 = b.val; rw [div_t t b i ht]; omega
  · refine (win0_1.rect_emb_val t _ 1).trans ?_
    rw [index1]; show (t.val % 16 * 64 - 1) * 8 + r.val = (i.val * 64 - 1) * 8 + r.val; rw [mod_t t b i ht]
  · refine (win0_1.rect_emb_val t _ 2).trans ?_
    rw [index1]; show 0 * 1024 + k.val = k.val; omega

theorem blk2 (r : Fin 8) (k : Fin 1024) : (iblk m c 2 t : Vec Ideal S1x8x1024 .f32) (ix3 0 r k)
    = m ((c : Thread nD τ).loc main_arg0) (ix3 b ⟨min (i.val * 64 + 64) 1023 * 8 + r.val, by omega⟩ k) := by
  rw [← V_main_arg0 m c]
  show V m c main_arg0 ((win0_2.rect t).emb (ix3 0 r k)) = _
  refine congrArg _ (idx3_ext _ _ ?_ ?_ ?_)
  · refine (win0_2.rect_emb_val t _ 0).trans ?_
    rw [index2]; show t.val / 16 * 1 + 0 = b.val; rw [div_t t b i ht]; omega
  · refine (win0_2.rect_emb_val t _ 1).trans ?_
    rw [index2]
    show min (t.val % 16 * 64 + 64) 1023 * 8 + r.val = min (i.val * 64 + 64) 1023 * 8 + r.val
    rw [mod_t t b i ht]
  · refine (win0_2.rect_emb_val t _ 2).trans ?_
    rw [index2]; show 0 * 1024 + k.val = k.val; omega

theorem blk3 (k : Fin 6144) : (iblk m c 3 t : Vec Ideal S1x1x6144 .f32) (ix3 0 0 k)
    = m ((c : Thread nD τ).loc main_arg1) (ix3 ⟨b.val, by omega⟩ 0 k) := by
  rw [← V_main_arg1 m c]
  show V m c main_arg1 ((win0_3.rect t).emb (ix3 0 0 k)) = _
  refine congrArg _ (idx3_ext _ _ ?_ ?_ ?_)
  · refine (win0_3.rect_emb_val t _ 0).trans ?_
    rw [index3]; show t.val / 16 * 1 + 0 = b.val; rw [div_t t b i ht]; omega
  · refine (win0_3.rect_emb_val t _ 1).trans ?_
    rw [index3]; show 0 * 1 + 0 = 0; rfl
  · refine (win0_3.rect_emb_val t _ 2).trans ?_
    rw [index3]; show 0 * 6144 + k.val = k.val; omega

omit ht

theorem blk4 (k : Fin 1024) : (iblk m c 4 t : Vec Ideal S1x1024 .f32) (ix2 0 k)
    = m ((c : Thread nD τ).loc main_arg2) (ix1 k) := by
  rw [← V_v0_at m c]
  show V m c main_v0 ((win0_4.rect t).emb (ix2 0 k)) = _
  refine congrArg _ (idx2_ext _ _ ?_ ?_)
  · refine (win0_4.rect_emb_val t _ 0).trans ?_
    rw [index4]; show 0 * 1 + 0 = 0; rfl
  · refine (win0_4.rect_emb_val t _ 1).trans ?_
    rw [index4]; show 0 * 1024 + k.val = k.val; omega

theorem blk10 (k : Fin 1024) : (iblk m c 10 t : Vec Ideal S1x1024 .f32) (ix2 0 k)
    = m ((c : Thread nD τ).loc main_arg7) (ix1 k) := by
  rw [← V_v19_at m c]
  show V m c main_v19 ((win0_10.rect t).emb (ix2 0 k)) = _
  refine congrArg _ (idx2_ext _ _ ?_ ?_)
  · refine (win0_10.rect_emb_val t _ 0).trans ?_
    rw [index10]; show 0 * 1 + 0 = 0; rfl
  · refine (win0_10.rect_emb_val t _ 1).trans ?_
    rw [index10]; show 0 * 1024 + k.val = k.val; omega

theorem blk5 (x : Fin 11) (y : Fin 1024) (z : Fin 256) : (iblk m c 5 t : Vec Ideal S11x1024x256 .bf16) (ix3 x y z)
    = V m c main_v12 (ix3 x y z) := by
  show V m c main_v12 ((win0_5.rect t).emb (ix3 x y z)) = _
  refine congrArg _ (idx3_ext _ _ ?_ ?_ ?_)
  · refine (win0_5.rect_emb_val t _ 0).trans ?_
    rw [index5]; show 0 * 11 + x.val = x.val; omega
  · refine (win0_5.rect_emb_val t _ 1).trans ?_
    rw [index5]; show 0 * 1024 + y.val = y.val; omega
  · refine (win0_5.rect_emb_val t _ 2).trans ?_
    rw [index5]; show 0 * 256 + z.val = z.val; omega

theorem blk6 (x : Fin 11) (y : Fin 1024) (z : Fin 256) : (iblk m c 6 t : Vec Ideal S11x1024x256 .bf16) (ix3 x y z)
    = V m c main_v14 (ix3 x y z) := by
  show V m c main_v14 ((win0_6.rect t).emb (ix3 x y z)) = _
  refine congrArg _ (idx3_ext _ _ ?_ ?_ ?_)
  · refine (win0_6.rect_emb_val t _ 0).trans ?_
    rw [index6]; show 0 * 11 + x.val = x.val; omega
  · refine (win0_6.rect_emb_val t _ 1).trans ?_
    rw [index6]; show 0 * 1024 + y.val = y.val; omega
  · refine (win0_6.rect_emb_val t _ 2).trans ?_
    rw [index6]; show 0 * 256 + z.val = z.val; omega

theorem blk7 (x : Fin 11) (y : Fin 8) (z : Fin 256) : (iblk m c 7 t : Vec Ideal S11x8x256 .f32) (ix3 x y z)
    = V m c main_v16 (ix3 x y z) := by
  show V m c main_v16 ((win0_7.rect t).emb (ix3 x y z)) = _
  refine congrArg _ (idx3_ext _ _ ?_ ?_ ?_)
  · refine (win0_7.rect_emb_val t _ 0).trans ?_
    rw [index7]; show 0 * 11 + x.val = x.val; omega
  · refine (win0_7.rect_emb_val t _ 1).trans ?_
    rw [index7]; show 0 * 8 + y.val = y.val; omega
  · refine (win0_7.rect_emb_val t _ 2).trans ?_
    rw [index7]; show 0 * 256 + z.val = z.val; omega

theorem blk8 (x : Fin 11) (y : Fin 8) (z : Fin 256) : (iblk m c 8 t : Vec Ideal S11x8x256 .f32) (ix3 x y z)
    = V m c main_v18 (ix3 x y z) := by
  show V m c main_v18 ((win0_8.rect t).emb (ix3 x y z)) = _
  refine congrArg _ (idx3_ext _ _ ?_ ?_ ?_)
  · refine (win0_8.rect_emb_val t _ 0).trans ?_
    rw [index8]; show 0 * 11 + x.val = x.val; omega
  · refine (win0_8.rect_emb_val t _ 1).trans ?_
    rw [index8]; show 0 * 8 + y.val = y.val; omega
  · refine (win0_8.rect_emb_val t _ 2).trans ?_
    rw [index8]; show 0 * 256 + z.val = z.val; omega

theorem blk9 (x : Fin 11) (y : Fin 256) (z : Fin 1024) : (iblk m c 9 t : Vec Ideal S11x256x1024 .bf16) (ix3 x y z)
    = V m c main_v10 (ix3 x y z) := by
  show V m c main_v10 ((win0_9.rect t).emb (ix3 x y z)) = _
  refine congrArg _ (idx3_ext _ _ ?_ ?_ ?_)
  · refine (win0_9.rect_emb_val t _ 0).trans ?_
    rw [index9]; show 0 * 11 + x.val = x.val; omega
  · refine (win0_9.rect_emb_val t _ 1).trans ?_
    rw [index9]; show 0 * 256 + y.val = y.val; omega
  · refine (win0_9.rect_emb_val t _ 2).trans ?_
    rw [index9]; show 0 * 1024 + z.val = z.val; omega

end Blocks

end Cert.Kernel2Ideal.Value

end
-- ==== Proof.FfnPoint.lean ====
/-
  What grid point `16 b + i` of the feed-forward kernel writes: row `p` of its output block is row `512 i + p` of the
  block's output `Ffn.out`.

  The rows the point works on (`ext`) are the rows of the padded sequence `Ffn.hidPad` from `512 i` on: the neighbour
  rows beyond the ends of the sequence are multiplied by zero. Each trip adds the part of the down-projection that comes
  from its 256 columns, and the eleven parts make the whole sum.
-/
module

public import proofs.«01_k».proof.Proof.FfnBlocks

@[expose] public section

noncomputable section

namespace Cert.Kernel2Ideal.Value

open Cert.Kernel2Ideal Cert.Kernel2Ideal.Gen Idealize.ShloMosaic Idealize.ShloMosaic.TcCoe Idealize.SL.Sem
open Cert.Ffn

variable (m : (ℓ : Loc nD τ sig) → Buf (Elt Ideal) ℓ)

/-! ## The factors at the ends of the sequence -/

theorem keepPrev_bits : ∀ j : Fin 16, (Scalar.extui (Scalar.cmpi .sgt (BitVec.ofNat 32 j.val) 0#32) : BitVec 32).toInt
    = if j.val = 0 then 0 else 1 := by decide

theorem keepNext_bits : ∀ j : Fin 16, (Scalar.extui (Scalar.cmpi .slt (BitVec.ofNat 32 j.val) 15#32) : BitVec 32).toInt
    = if j.val = 15 then 0 else 1 := by decide

section Point

variable (c : Dev nD) (t : Fin cfg0.N) (b : Fin 2) (i : Fin 16) (ht : t.val = b.val * 16 + i.val)

include ht in
theorem keepPrev_eq : keepPrev (grid0.coords t) = if i.val = 0 then 0 else 1 := by
  have h := keepPrev_bits i
  unfold keepPrev
  rw [coord1, mod_t t b i ht, Ideal.scalar_sitofp_def, h]
  split <;> simp

include ht in
theorem keepNext_eq : k0_pay9 (F := Ideal) (grid0.coords t) = if i.val = 15 then 0 else 1 := by
  have h := keepNext_bits i
  unfold k0_pay9
  show Scalar.sitofp (F := Ideal) .f32 (Scalar.extui (Scalar.cmpi .slt (BitVec.ofNat 32 (grid0.coords t 1).val) 15#32) : BitVec 32) = _
  rw [coord1, mod_t t b i ht, Ideal.scalar_sitofp_def, h]
  split <;> simp

/-! ## The rows a point works on -/

/-- The point's rows, with its neighbours'. -/
abbrev extT : FVec Ideal S528x1024 .bf16 :=
  ext (F := Ideal) (grid0.coords t) (iblk m c 0 t) (iblk m c 1 t) (iblk m c 2 t) (iblk m c 3 t) (iblk m c 4 t)

/-- The padded normalised rows of the kernel's arguments. -/
abbrev hidM : ℕ → Fin 1024 → EReal :=
  hidPad (m ((c : Thread nD τ).loc main_arg0)) (m ((c : Thread nD τ).loc main_arg1)) (m ((c : Thread nD τ).loc main_arg2)) b

include ht in
theorem modB_eq (part : Fin 6) : modB (iblk m c 3 t : Vec Ideal S1x1x6144 .f32) part
    = modAt (m ((c : Thread nD τ).loc main_arg1)) b part := by
  funext k
  exact blk3 m c t b i ht _

/-- A row, normalised and modulated, is that row of the padded sequence. -/
theorem modRow_eq (s : Fin 8192) (u : ℕ) (hu : u = s.val + 1) (k : Fin 1024) :
    modRow (fun k => m ((c : Thread nD τ).loc main_arg0) (ix3 b s k)) (fun k => m ((c : Thread nD τ).loc main_arg2) (ix1 k))
      (modAt (m ((c : Thread nD τ).loc main_arg1)) b 4) (modAt (m ((c : Thread nD τ).loc main_arg1)) b 3) k
      = hidM m c b u k := by
  subst hu
  have h : 0 < s.val + 1 ∧ s.val + 1 ≤ 8192 := ⟨by omega, by omega⟩
  unfold hidM hidPad
  rw [dif_pos h]
  rfl

include ht in
/-- Row `r` of the point's rows is row `512 i + r - 7` of the padded sequence. -/
theorem ext_eq (r : Fin 528) (h7 : 7 ≤ r.val) (h520 : r.val ≤ 520) (k : Fin 1024) :
    extT m c t (ix2 r k) = hidM m c b (i.val * 512 + (r.val - 7)) k := by
  rcases Nat.lt_or_ge r.val 8 with h | h
  · obtain rfl : r = ⟨(7 : Fin 8).val, by decide⟩ := Fin.ext (show r.val = 7 by omega)
    rw [extT, ext_lo, pay11_at, keepPrev_eq t b i ht]
    simp only [blk1 m c t b i ht, blk4 m c t, modB_eq m c t b i ht]
    by_cases hi : i.val = 0
    · rw [if_pos hi, mul_zero]
      unfold hidM hidPad
      rw [dif_neg]
      rw [hi]
      exact fun h => absurd h.1 (by decide)
    · rw [if_neg hi, mul_one]
      refine modRow_eq m c b _ _ ?_ k
      show i.val * 512 + (7 - 7) = (i.val * 64 - 1) * 8 + 7 + 1
      omega
  · rcases Nat.lt_or_ge r.val 520 with h' | h'
    · obtain ⟨p, rfl⟩ : ∃ p : Fin 512, r = ⟨8 + p.val, lt_of_lt_of_le (Nat.add_lt_add_left p.isLt 8) (by decide)⟩ :=
        ⟨⟨r.val - 8, by omega⟩, Fin.ext (show r.val = 8 + (r.val - 8) by omega)⟩
      rw [extT, ext_mid]
      simp only [blk0 m c t b i ht, blk4 m c t, modB_eq m c t b i ht]
      refine modRow_eq m c b _ _ ?_ k
      show i.val * 512 + (8 + p.val - 7) = i.val * 512 + p.val + 1
      omega
    · obtain rfl : r = ⟨520 + (0 : Fin 8).val, by decide⟩ := Fin.ext (show r.val = 520 by omega)
      rw [extT, ext_hi, keepNext_eq t b i ht]
      simp only [blk2 m c t b i ht, blk4 m c t, modB_eq m c t b i ht]
      by_cases hi : i.val = 15
      · rw [if_pos hi, mul_zero]
        unfold hidM hidPad
        rw [dif_neg]
        rw [hi]
        exact fun h => absurd h.2 (by decide)
      · rw [if_neg hi, mul_one]
        refine modRow_eq m c b _ _ ?_ k
        show i.val * 512 + (520 + 0 - 7) = min (i.val * 64 + 64) 1023 * 8 + 0 + 1
        omega

/-! ## One trip -/

theorem trips_eq : k0_t1_loop.trips = 11 := by decide +kernel

/-- The chunk a trip takes. -/
abbrev ch (k : Fin k0_t1_loop.trips) : Fin 11 := ⟨k.val, lt_of_lt_of_eq k.isLt trips_eq⟩

theorem upChunk_at (X : Vec Ideal S11x1024x256 .bf16) (k : Fin k0_t1_loop.trips) (d : Fin 1024) (e : Fin 256) :
    upChunk (F := Ideal) X k (ix3 0 d e) = X (ix3 (ch k) d e) := by
  unfold upChunk
  refine congrArg X (Cert.KernelIdeal.Value.idx3_ext _ _ ?_ ?_ ?_)
  · show (k0_off1 k) 0 + 1 * 0 = k.val
    rw [k0_off1_eq]; rfl
  · show (k0_off1 k) 1 + 1 * d.val = d.val
    rw [k0_off1_eq]; show 0 + 1 * d.val = d.val; omega
  · show (k0_off1 k) 2 + 1 * e.val = e.val
    rw [k0_off1_eq]; show 0 + 1 * e.val = e.val; omega

theorem convChunk_at (X : Vec Ideal S11x8x256 .f32) (k : Fin k0_t1_loop.trips) (d : Fin 8) (e : Fin 256) :
    convChunk (F := Ideal) X k (ix3 0 d e) = X (ix3 (ch k) d e) := by
  unfold convChunk
  refine congrArg X (Cert.KernelIdeal.Value.idx3_ext _ _ ?_ ?_ ?_)
  · show (k0_off2 k) 0 + 1 * 0 = k.val
    rw [k0_off2_eq]; rfl
  · show (k0_off2 k) 1 + 1 * d.val = d.val
    rw [k0_off2_eq]; show 0 + 1 * d.val = d.val; omega
  · show (k0_off2 k) 2 + 1 * e.val = e.val
    rw [k0_off2_eq]; show 0 + 1 * e.val = e.val; omega

theorem downChunk_at (X : Vec Ideal S11x256x1024 .bf16) (k : Fin k0_t1_loop.trips) (e : Fin 256) (n : Fin 1024) :
    downChunk (F := Ideal) X k (ix3 0 e n) = X (ix3 (ch k) e n) := by
  unfold downChunk
  refine congrArg X (Cert.KernelIdeal.Value.idx3_ext _ _ ?_ ?_ ?_)
  · show (k0_off3 k) 0 + 1 * 0 = k.val
    rw [k0_off3_eq]; rfl
  · show (k0_off3 k) 1 + 1 * e.val = e.val
    rw [k0_off3_eq]; show 0 + 1 * e.val = e.val; omega
  · show (k0_off3 k) 2 + 1 * n.val = n.val
    rw [k0_off3_eq]; show 0 + 1 * n.val = n.val; omega

/-- The up-projection of the kernel's arguments, padded, -/
abbrev upM : ℕ → Fin 5632 → EReal :=
  upPad (m ((c : Thread nD τ).loc main_arg0)) (m ((c : Thread nD τ).loc main_arg1)) (m ((c : Thread nD τ).loc main_arg2))
    (m ((c : Thread nD τ).loc main_arg3)) b

/-- its convolution, -/
abbrev convM : Fin 8192 → Fin 5632 → EReal :=
  conv (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b

/-- and the gated values. -/
abbrev actM : Fin 8192 → Fin 2816 → EReal :=
  act (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b

include ht in
/-- Weights that are column `f` project the point's rows to column `f`. -/
theorem proj_eq (w : Vec Ideal S1x1024x256 .bf16) (e : Fin 256) (f : Fin 5632)
    (hw : ∀ k : Fin 1024, w (ix3 0 k e) = m ((c : Thread nD τ).loc main_arg3) (ix2 k f))
    (r : Fin 528) (h7 : 7 ≤ r.val) (h520 : r.val ≤ 520) :
    proj (extT m c t) w r e = upM m c b (i.val * 512 + (r.val - 7)) f := by
  unfold proj upM
  rw [upPad_eq]
  refine Finset.sum_congr rfl fun k _ => ?_
  rw [ext_eq m c t b i ht r h7 h520, hw]

include ht in
/-- And convolve to it. -/
theorem convB_eq (w : Vec Ideal S1x1024x256 .bf16) (cw : Vec Ideal S1x8x256 .f32) (e : Fin 256) (f : Fin 5632)
    (hw : ∀ k : Fin 1024, w (ix3 0 k e) = m ((c : Thread nD τ).loc main_arg3) (ix2 k f))
    (h0 : cw (ix3 0 0 e) = m ((c : Thread nD τ).loc main_arg4) (ix2 0 f))
    (h1 : cw (ix3 0 1 e) = m ((c : Thread nD τ).loc main_arg4) (ix2 1 f))
    (h2 : cw (ix3 0 2 e) = m ((c : Thread nD τ).loc main_arg4) (ix2 2 f))
    (h3 : cw (ix3 0 3 e) = m ((c : Thread nD τ).loc main_arg5) (ix1 f)) (p : Fin 512) :
    convB (extT m c t) w cw p e = convM m c b ⟨i.val * 512 + p.val, by omega⟩ f := by
  unfold convB convM conv
  rw [proj_eq m c t b i ht w e f hw _ (by show 7 ≤ p.val + 7; omega) (by show p.val + 7 ≤ 520; omega),
    proj_eq m c t b i ht w e f hw _ (by show 7 ≤ p.val + 8; omega) (by show p.val + 8 ≤ 520; omega),
    proj_eq m c t b i ht w e f hw _ (by show 7 ≤ p.val + 9; omega) (by show p.val + 9 ≤ 520; omega), h0, h1, h2, h3]
  rfl

include ht in
/-- What trip `k` adds: the part of the down-projection from its chunk of columns. -/
theorem step_eq (k : Fin k0_t1_loop.trips) (s : Vec Ideal S512x1024 .f32) (p : Fin 512) (n : Fin 1024) :
    stepSt (F := Ideal) (extT m c t) (iblk m c 5 t) (iblk m c 6 t) (iblk m c 7 t) (iblk m c 8 t) (iblk m c 9 t) k s (ix2 p n)
      = s (ix2 p n) + ∑ e : Fin 256, actM m c b ⟨i.val * 512 + p.val, by omega⟩ (chunkCol (ch k) e)
          * m ((c : Thread nD τ).loc main_arg6) (ix2 (chunkCol (ch k) e) n) := by
  unfold stepSt
  rw [step_at]
  refine congrArg (s (ix2 p n) + ·) (Finset.sum_congr rfl fun e _ => ?_)
  have hg := convB_eq m c t b i ht (upChunk (iblk m c 5 t) k) (convChunk (iblk m c 7 t) k) e (gateCol (chunkCol (ch k) e))
    (fun d => by rw [upChunk_at, blk5, V_v12_at]) (by rw [convChunk_at, blk7]; exact V_v16_at m c (ch k) 0 e)
    (by rw [convChunk_at, blk7]; exact V_v16_at m c (ch k) 1 e) (by rw [convChunk_at, blk7]; exact V_v16_at m c (ch k) 2 e)
    (by rw [convChunk_at, blk7, V_v16_bias]) p
  have hv := convB_eq m c t b i ht (upChunk (iblk m c 6 t) k) (convChunk (iblk m c 8 t) k) e (valCol (chunkCol (ch k) e))
    (fun d => by rw [upChunk_at, blk6, V_v14_at]) (by rw [convChunk_at, blk8]; exact V_v18_at m c (ch k) 0 e)
    (by rw [convChunk_at, blk8]; exact V_v18_at m c (ch k) 1 e) (by rw [convChunk_at, blk8]; exact V_v18_at m c (ch k) 2 e)
    (by rw [convChunk_at, blk8, V_v18_bias]) p
  rw [hg, hv, downChunk_at, blk9, V_v10_at]
  rfl

/-! ## All trips -/

/-- Chunk `k`'s part of the down-projection. -/
def part (s : Fin 8192) (n : Fin 1024) (k : ℕ) : EReal :=
  if h : k < 11 then ∑ e : Fin 256, actM m c b s (chunkCol ⟨k, h⟩ e)
    * m ((c : Thread nD τ).loc main_arg6) (ix2 (chunkCol ⟨k, h⟩ e) n) else 0

include ht in
theorem st_eq (p : Fin 512) (n : Fin 1024) (k : ℕ) (hk : k ≤ k0_t1_loop.trips) :
    st (F := Ideal) (extT m c t) (iblk m c 5 t) (iblk m c 6 t) (iblk m c 7 t) (iblk m c 8 t) (iblk m c 9 t) (k0_pay14 (F := Ideal)) k (ix2 p n)
      = ∑ j ∈ Finset.range k, part m c b ⟨i.val * 512 + p.val, by omega⟩ n j := by
  induction k with
  | zero => rw [Finset.range_zero, Finset.sum_empty]; exact pay14_at p n
  | succ k ih =>
    have hlt : k < k0_t1_loop.trips := hk
    have h11 : k < 11 := lt_of_lt_of_eq hlt trips_eq
    unfold st
    rw [dif_pos hlt, step_eq m c t b i ht, ih (Nat.le_of_succ_le hk), Finset.sum_range_succ]
    congr 1
    unfold part
    rw [dif_pos h11]

include ht in
/-- After the last trip the accumulator is the down-projection. -/
theorem acc_eq (p : Fin 512) (n : Fin 1024) :
    st (F := Ideal) (extT m c t) (iblk m c 5 t) (iblk m c 6 t) (iblk m c 7 t) (iblk m c 8 t) (iblk m c 9 t) (k0_pay14 (F := Ideal))
        k0_t1_loop.trips (ix2 p n)
      = down (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b ⟨i.val * 512 + p.val, by omega⟩ n := by
  rw [st_eq m c t b i ht p n _ le_rfl, trips_eq, Finset.sum_range]
  unfold down
  rw [sum_chunks]
  refine Finset.sum_congr rfl fun k _ => ?_
  unfold part
  rw [dif_pos k.isLt]

include ht in
/-- A row of the point's output block is the row of the block's output. -/
theorem point_out (p : Fin 512) (n : Fin 1024) :
    k0_pay2 (F := Ideal) (k0_pay7 (iblk m c 3 t)) (k0_pay10 (iblk m c 0 t))
        (st (extT m c t) (iblk m c 5 t) (iblk m c 6 t) (iblk m c 7 t) (iblk m c 8 t) (iblk m c 9 t) (k0_pay14 (F := Ideal)) k0_t1_loop.trips)
        (iblk m c 10 t) (ix3 0 p n)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b ⟨i.val * 512 + p.val, by omega⟩ n := by
  rw [pay2_at]
  simp only [blk0 m c t b i ht, blk10 m c t, modB_eq m c t b i ht, acc_eq m c t b i ht]
  rfl

end Point

end Cert.Kernel2Ideal.Value

end
-- ==== Proof.FfnFinal.lean ====
/-
  The array the feed-forward kernel leaves: block `(b, i)` of 512 rows is written by grid point `16 b + i`, and every
  element is the block's output `Ffn.out`.
-/
module

public import proofs.«01_k».proof.Proof.FfnPoint
public import proofs.«01_k».proof.Proof.Gen.Kernel2Ideal.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat Window)
open Cert.KernelIdeal.Value (idx3_ext)
open Cert.Ffn

variable (m : (ℓ : Loc nD τ sig) → Buf (Elt Ideal) ℓ)

/-- An element of the final array. -/
theorem arr_at (c : Dev nD) (b : Fin 2) (s : Fin 8192) (n : Fin 1024) :
    ((dats m 0 c).arrAt 11 cfg0.N : S2x8192x1024.Idx → EReal) (ix3 b s n)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b s n := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have h := (dats m 0 c).arrAt_emb_eq_flushed 11 disjoint11 t (flush0_11 t) (ix3 0 ⟨s.val % 512, by omega⟩ n)
  rw [flushed11_A, out_eq] at h
  have e : ((cfg0.win 11).blk t).view.emb (ix3 0 ⟨s.val % 512, by omega⟩ n) = ix3 b s n := by
    refine idx3_ext (n0 := 2) (n1 := 8192) (n2 := 1024) _ _ ?_ ?_ ?_
    · refine (win0_11.rect_emb_val t _ 0).trans ?_
      rw [index11]; show t.val / 16 * 1 + 0 = b.val; omega
    · refine (win0_11.rect_emb_val t _ 1).trans ?_
      rw [index11]; show t.val % 16 * 512 + s.val % 512 = s.val; omega
    · refine (win0_11.rect_emb_val t _ 2).trans ?_
      rw [index11]; show 0 * 1024 + n.val = n.val; omega
  rw [e] at h
  refine h.trans ?_
  refine (point_out m c t b ⟨s.val / 512, hi⟩ ht' ⟨s.val % 512, by omega⟩ n).trans ?_
  congr 1
  exact Fin.ext (by show s.val / 512 * 512 + s.val % 512 = s.val; omega)

end Cert.Kernel2Ideal.Value

end
-- ==== Proof.FfnRef.lean ====
/-
  The reference's feed-forward block, stage by stage: the normalised and modulated rows, the up-projection, its padding
  and convolution, the gated values, the down-projection, and the normalised sum. Every element it returns is `Ffn.out`.
-/
module

public import proofs.«01_k».proof.Proof.Gen.Reference2Ideal.Read
public import proofs.«01_k».proof.Proof.FfnSpec

@[expose] public section

noncomputable section

namespace Cert.Reference2Ideal.Read

open Cert.Reference2Ideal Cert.Reference2Ideal.Gen Idealize.ShloMosaic Idealize.ShloMosaic.TcCoe Idealize.SL.Sem Idealize.ShloMosaic.StableHlo
open Cert.Ffn

variable (x0 : (⟨S2x8192x1024, .f32⟩ : BufTy).Contents (Elt Ideal)) (x1 : (⟨S8x1x6144, .f32⟩ : BufTy).Contents (Elt Ideal))
  (x2 : (⟨S1024, .f32⟩ : BufTy).Contents (Elt Ideal)) (x3 : (⟨S1024x5632, .f32⟩ : BufTy).Contents (Elt Ideal))
  (x4 : (⟨S3x5632, .f32⟩ : BufTy).Contents (Elt Ideal)) (x5 : (⟨S5632, .f32⟩ : BufTy).Contents (Elt Ideal))
  (x6 : (⟨S2816x1024, .f32⟩ : BufTy).Contents (Elt Ideal)) (x7 : (⟨S1024, .f32⟩ : BufTy).Contents (Elt Ideal))
  (b : Fin 2) (s : Fin 8192)

theorem hid_apply (k : Fin 1024) : val_main_v25 (F := Ideal) x0 x1 x2 (ix3 b s k) = hid x0 x1 x2 b s k := by
  pointwise [val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v5, val_main_v4, val_main_v0, val_main_cst,
    val_main_cst_0, val_main_cst_1, val_main_cst_2, hid, modRow, rms, meanSq, modAt]

theorem up_apply (f : Fin 5632) : val_main_v26 (F := Ideal) x0 x1 x2 x3 (ix3 b s f) = up x0 x1 x2 x3 b s f := by
  unfold up
  simp only [← hid_apply]
  pointwise [val_main_v26]

theorem pad_apply (t : Fin 8194) (f : Fin 5632) :
    val_main_v27 (F := Ideal) x0 x1 x2 x3 (ix3 b t f) = upPad x0 x1 x2 x3 b t.val f := by
  unfold upPad
  simp only [← up_apply]
  pointwise [val_main_v27, val_main_call0_v0, val_main_c]
  by_cases h : 0 < t.val ∧ t.val ≤ 8192
  · rw [dif_pos h, dif_pos ⟨by omega, by omega⟩]
  · rw [dif_neg h, dif_neg (fun h' => h ⟨by omega, by omega⟩)]
    show (((0#32 : BitVec 32).toInt : ℝ) : EReal) = 0
    simp

theorem conv_apply (f : Fin 5632) :
    val_main_v50 (F := Ideal) x0 x1 x2 x3 x4 x5 (ix3 b s f) = conv x0 x1 x2 x3 x4 x5 b s f := by
  unfold conv
  pointwise [val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_v31, val_main_v30, val_main_v29, val_main_v28]
  simp only [pad_apply, Nat.add_comm 1, Nat.add_comm 2]

theorem act_apply (j : Fin 2816) :
    val_main_v54 (F := Ideal) x0 x1 x2 x3 x4 x5 (ix3 b s j) = act x0 x1 x2 x3 x4 x5 b s j := by
  unfold act
  simp only [← conv_apply]
  pointwise [val_main_v54, val_main_v53, val_main_v52, val_main_v51, val_main_call1_v5, val_main_call1_v4,
    val_main_call1_v3, val_main_call1_v2, val_main_call1_v1, val_main_call1_v0, val_main_call1_cst,
    val_main_call1_cst_0, gateCol, valCol, Ideal.logistic]

theorem down_apply (n : Fin 1024) :
    val_main_v55 (F := Ideal) x0 x1 x2 x3 x4 x5 x6 (ix3 b s n) = down x0 x1 x2 x3 x4 x5 x6 b s n := by
  unfold down
  simp only [← act_apply]
  pointwise [val_main_v55]

theorem res_apply (n : Fin 1024) :
    val_main_v58 (F := Ideal) x0 x1 x2 x3 x4 x5 x6 (ix3 b s n) = res x0 x1 x2 x3 x4 x5 x6 b s n := by
  unfold res
  simp only [← down_apply]
  pointwise [val_main_v58, val_main_v57, val_main_v56, val_main_v6, val_main_v0, modAt]

/-- Every element the reference returns is the block's output. -/
theorem out_apply (n : Fin 1024) :
    val_main_v71 (F := Ideal) x0 x1 x2 x3 x4 x5 x6 x7 (ix3 b s n) = out x0 x1 x2 x3 x4 x5 x6 x7 b s n := by
  unfold out rms meanSq
  simp only [← res_apply]
  pointwise [val_main_v71, val_main_v70, val_main_v69, val_main_v68, val_main_v67, val_main_v66, val_main_v65,
    val_main_v64, val_main_v63, val_main_v62, val_main_v61, val_main_v60, val_main_v59, val_main_cst_3,
    val_main_cst_4, val_main_cst_5]

end Cert.Reference2Ideal.Read

end
-- ==== Proof.FfnEquation.lean ====
/-
  The two results of the feed-forward block are equal: the array the kernel leaves and the array the reference leaves
  are both `Ffn.out`, for any arguments.
-/
module

public import proofs.«01_k».proof.Defs
public import proofs.«01_k».proof.Proof.FfnFinal
public import proofs.«01_k».proof.Proof.FfnRef
public import proofs.«01_k».proof.Proof.Gen.Kernel2.Frame
public import proofs.«01_k».proof.Proof.Gen.Reference2Ideal.Run
public import Idealize.ShloMosaic.Lib.Quiescent

@[expose] public section

noncomputable section

namespace Cert.Ffn

open Idealize.ShloMosaic Idealize.ShloMosaic.TcCoe Idealize.SL.Sem

theorem arrays_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v71 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
        (m ((c.tc : Thread Cert.Kernel2Ideal.nD Cert.Kernel2Ideal.τ).loc Cert.Kernel2Ideal.main_arg6))
        (m ((c.tc : Thread Cert.Kernel2Ideal.nD Cert.Kernel2Ideal.τ).loc Cert.Kernel2Ideal.main_arg7))
      = (Cert.Kernel2Ideal.Gen.dats m 0 c).arrAt 11 Cert.Kernel2Ideal.cfg0.N := by
  funext i
  obtain ⟨b, s, n, rfl⟩ : ∃ (b : Fin 2) (s : Fin 8192) (n : Fin 1024), i = ix3 b s n :=
    ⟨i 0, i 1, i 2, Cert.KernelIdeal.Value.idx3_ext (n0 := 2) (n1 := 8192) (n2 := 1024) _ _ rfl rfl rfl⟩
  exact (Cert.Reference2Ideal.Read.out_apply _ _ _ _ _ _ _ _ b s n).trans (Cert.Kernel2Ideal.Value.arr_at m c b s n).symm

/-- The reference ends with its arguments unchanged and no counter raised. -/
theorem ref_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0) :=
  (θ_run _ _ _).mono (fun r h => ⟨fun c => (h c).2, Idealize.ShloMosaic.sem_eq_zero_of_no_sems (by decide) r.2⟩)
    (Cert.Reference2Ideal.Value.run m g)

/-- The value claim. -/
theorem algebraic : Cert.algebraic_Kernel2Ideal_Reference2Ideal := by
  intro m g m' g' _ hagree
  refine ⟨fun c => (Cert.Kernel2Ideal.Gen.dats m 0 c).arrAt 11 Cert.Kernel2Ideal.cfg0.N, Cert.Kernel2Ideal.Value.run_blocks m g,
    (θ_run _ _ _).mono (fun r h c => ⟨(h c).1.trans ?_, (h c).2⟩) (Cert.Reference2Ideal.Value.run m' g')⟩
  obtain ⟨h0, h1, h2, h3, h4, h5, h6, h7⟩ := hagree c
  rw [Cert.Reference2Ideal.Read.val_main_v71_eq, h0, h1, h2, h3, h4, h5, h6, h7]
  exact arrays_eq m c

end Cert.Ffn

end
-- ==== Proof.OutpSpec.lean ====
/-
  The output projection of the four mixers, over the reals: the 256 columns of each mixer are normalised by their mean
  square, the heads of the first two are put back in order, all 1024 columns are projected, and the modulated result is
  added to the row.
-/
module

public import Idealize.ShloMosaic.PureOps.Ideal
public import Idealize.ShloMosaic.Lib.Pointwise

@[expose] public section

noncomputable section

namespace Cert.Outp

open Idealize.ShloMosaic

/-- Columns `64 .. 127` and `128 .. 191` exchanged: heads 0, 1, 2, 3 against 0, 2, 1, 3. -/
def swapHeads (c : Fin 256) : Fin 256 := ⟨c.val / 64 % 2 * 128 + c.val / 128 * 64 + c.val % 64, by omega⟩

theorem swapHeads_swapHeads : ∀ c : Fin 256, swapHeads (swapHeads c) = c := by decide +kernel

/-- Where column `c` of mixer `i` is read: the heads of the first two mixers are exchanged. -/
def at_ (i : Fin 4) (c : Fin 256) : Fin 256 := if i.val < 2 then swapHeads c else c

theorem at_at_ (i : Fin 4) (c : Fin 256) : at_ i (at_ i c) = c := by
  unfold at_
  split
  · exact swapHeads_swapHeads c
  · rfl

/-- The exchange as a bijection of the columns. -/
def atEquiv (i : Fin 4) : Fin 256 ≃ Fin 256 := ⟨at_ i, at_ i, at_at_ i, at_at_ i⟩

/-- Column `c` of mixer `i` among the 1024. -/
def col (i : Fin 4) (c : Fin 256) : Fin 1024 := ⟨i.val * 256 + c.val, by omega⟩

/-- One over the root of the mean square of 256 elements, to which a millionth is added. -/
def inv (v : Fin 256 → EReal) : EReal :=
  Ideal.rsqrt (Ideal.div (∑ c, v c * v c) (Ideal.ofBits .f32 0x43800000#32) + Ideal.ofBits .f32 0x358637BD#32)

/-- It does not depend on the order of the elements. -/
theorem inv_at (i : Fin 4) (v : Fin 256 → EReal) : inv (fun c => v (at_ i c)) = inv v := by
  unfold inv
  rw [Fintype.sum_equiv (atEquiv i) (fun c => v (at_ i c) * v (at_ i c)) (fun c => v c * v c) (fun _ => rfl)]

variable (X : (⟨3, ![2, 8192, 1024]⟩ : Shape).Idx → EReal) (Y : Fin 4 → (⟨3, ![2, 8192, 256]⟩ : Shape).Idx → EReal)
  (M : (⟨3, ![8, 1, 6144]⟩ : Shape).Idx → EReal) (G : (⟨1, ![1024]⟩ : Shape).Idx → EReal)
  (W : (⟨2, ![1024, 1024]⟩ : Shape).Idx → EReal) (b : Fin 2) (s : Fin 8192)

/-- The normalised columns of mixer `i`, its heads in order. -/
def grp (i : Fin 4) (c : Fin 256) : EReal :=
  Y i (ix3 b s (at_ i c)) * inv (fun c => Y i (ix3 b s c)) * G (ix1 (col i c))

/-- The projection. -/
def proj (n : Fin 1024) : EReal := ∑ i : Fin 4, ∑ c : Fin 256, grp Y G b s i c * W (ix2 (col i c) n)

/-- The row with the modulated projection added to it. -/
def out (n : Fin 1024) : EReal := X (ix3 b s n) + M (ix3 ⟨b.val, by omega⟩ 0 ⟨2048 + n.val, by omega⟩) * proj Y G W b s n

/-- The projection with the columns, gains and weights in the other order of heads. -/
theorem proj_eq (n : Fin 1024) : proj Y G W b s n
    = ∑ i : Fin 4, ∑ c : Fin 256, Y i (ix3 b s c) * inv (fun c => Y i (ix3 b s c)) * G (ix1 (col i (at_ i c)))
        * W (ix2 (col i (at_ i c)) n) := by
  unfold proj grp
  refine Finset.sum_congr rfl fun i _ => ?_
  refine Fintype.sum_equiv (atEquiv i) _ _ fun c => ?_
  show _ = Y i (ix3 b s (at_ i c)) * _ * G (ix1 (col i (at_ i (at_ i c)))) * W (ix2 (col i (at_ i (at_ i c))) n)
  rw [at_at_]

/-- A sum over the 1024 columns, mixer by mixer. -/
theorem sum_groups (f : Fin 1024 → EReal) : ∑ j, f j = ∑ i : Fin 4, ∑ c : Fin 256, f (col i c) := by
  rw [← Fintype.sum_prod_type' (f := fun i c => f (col i c))]
  refine (Fintype.sum_equiv (finProdFinEquiv (m := 4) (n := 256)) _ _ ?_).symm
  rintro ⟨i, c⟩
  congr 1
  apply Fin.ext
  show i.val * 256 + c.val = c.val + 256 * i.val
  omega

end Cert.Outp

end
-- ==== Proof.OutpRows.lean ====
/-
  What the output projection computes in one grid point, read at a row and a column.
-/
module

public import proofs.«01_k».proof.Proof.Block
public import proofs.«01_k».proof.Proof.Gen.Kernel3Ideal.Frame
public import proofs.«01_k».proof.Proof.OutpSpec

@[expose] public section

noncomputable section

namespace Cert.Kernel3Ideal.Value

open Cert.Kernel3Ideal Cert.Kernel3Ideal.Gen Idealize.ShloMosaic Idealize.ShloMosaic.TcCoe Idealize.SL.Sem
open Cert.KernelIdeal.Value (hz2 hz3)
open Cert.Outp

variable (x0 : Vec Ideal S1x512x1024 .f32) (x1 x2 x3 x4 : Vec Ideal S1x512x256 .f32) (x5 : Vec Ideal S1x1x6144 .f32)
  (x6 : Vec Ideal S4x256 .f32) (x7 : Vec Ideal S1024x1024 .bf16)

/-- The four mixers' blocks. -/
def ys (i : Fin 4) : Vec Ideal S1x512x256 .f32 := ![x1, x2, x3, x4] i

theorem col0 (c : Fin 256) (h) : (⟨(col 0 c).val, h⟩ : Fin 256) = c := Fin.ext (show 0 * 256 + c.val = c.val by omega)

theorem col1 (c : Fin 256) (h) : (⟨(col 1 c).val - 256, h⟩ : Fin 256) = c :=
  Fin.ext (show 1 * 256 + c.val - 256 = c.val by omega)

theorem col2 (c : Fin 256) (h) : (⟨(col 2 c).val - 256 - 256, h⟩ : Fin 256) = c :=
  Fin.ext (show 2 * 256 + c.val - 256 - 256 = c.val by omega)

theorem col3 (c : Fin 256) (h) : (⟨(col 3 c).val - 256 - 256 - 256, h⟩ : Fin 256) = c :=
  Fin.ext (show 3 * 256 + c.val - 256 - 256 - 256 = c.val by omega)

theorem four : ∀ i : Fin 4, i = 0 ∨ i = 1 ∨ i = 2 ∨ i = 3 := by decide

/-- The 1024 columns of a row: the four mixers side by side. -/
def cat (v : Fin 4 → FVec Ideal S512x256 .bf16) : FVec Ideal S512x1024 .bf16 :=
  concatenate S512x1024 1 [⟨S512x256, v 0⟩, ⟨S512x256, v 1⟩, ⟨S512x256, v 2⟩, ⟨S512x256, v 3⟩]
    concatenates_S512x256_S512x256_S512x256_S512x256_S512x1024_d1

theorem cat_at (v : Fin 4 → FVec Ideal S512x256 .bf16) (p : Fin 512) (i : Fin 4) (c : Fin 256) :
    cat v (ix2 p (col i c)) = v i (ix2 p c) := by
  rcases four i with rfl | rfl | rfl | rfl
  · pointwise [cat]
    refine (dif_pos (show 0 * 256 + c.val < 256 by omega)).trans ?_
    exact congrArg (fun c => v 0 (ix2 p c)) (Fin.ext (show 0 * 256 + c.val = c.val by omega))
  · pointwise [cat]
    refine (dif_neg (show ¬ 1 * 256 + c.val < 256 by omega)).trans ?_
    refine (dif_pos (show 1 * 256 + c.val - 256 < 256 by omega)).trans ?_
    exact congrArg (fun c => v 1 (ix2 p c)) (Fin.ext (show 1 * 256 + c.val - 256 = c.val by omega))
  · pointwise [cat]
    refine (dif_neg (show ¬ 2 * 256 + c.val < 256 by omega)).trans ?_
    refine (dif_neg (show ¬ 2 * 256 + c.val - 256 < 256 by omega)).trans ?_
    refine (dif_pos (show 2 * 256 + c.val - 256 - 256 < 256 by omega)).trans ?_
    exact congrArg (fun c => v 2 (ix2 p c)) (Fin.ext (show 2 * 256 + c.val - 256 - 256 = c.val by omega))
  · pointwise [cat]
    refine (dif_neg (show ¬ 3 * 256 + c.val < 256 by omega)).trans ?_
    refine (dif_neg (show ¬ 3 * 256 + c.val - 256 < 256 by omega)).trans ?_
    refine (dif_neg (show ¬ 3 * 256 + c.val - 256 - 256 < 256 by omega)).trans ?_
    exact congrArg (fun c => v 3 (ix2 p c)) (Fin.ext (show 3 * 256 + c.val - 256 - 256 - 256 = c.val by omega))

/-- The projection of the 1024 columns. -/
def mat (v : FVec Ideal S512x1024 .bf16) : FVec Ideal S512x1024 .f32 :=
  matmul (φ₂ := .bf16) dot_S512x1024_S1024x1024_S512x1024_1_0_0_1_n_n none v (shapeCast S1024x1024 x7 shapeCasts_S1024x1024_S1024x1024)
    (constant S512x1024 .f32 0x00000000#32)

theorem mat_at (v : FVec Ideal S512x1024 .bf16) (p : Fin 512) (n : Fin 1024) :
    mat x7 v (ix2 p n) = ∑ j : Fin 1024, v (ix2 p j) * x7 (ix2 j n) := by
  pointwise [mat]

/-- A mixer's normalised columns, times its gains. -/
theorem pay2_at (x : Vec Ideal S1x512x256 .f32) (g : Vec Ideal S1x256 .f32) (p : Fin 512) (c : Fin 256) :
    k0_pay2 (F := Ideal) x g (ix2 p c) = x (ix3 0 p c) * inv (fun c => x (ix3 0 p c)) * g (ix2 0 c) := by
  pointwise [k0_pay2]
  rfl

/-- The gains of mixer `i`. -/
def gains (i : Fin 4) : Vec Ideal S1x256 .f32 :=
  ![View.ld x6 r0_1, View.ld x6 r0_2, View.ld x6 r0_3, View.ld x6 r0_4] i

theorem gains_at (i : Fin 4) (c : Fin 256) : gains x6 i (ix2 0 c) = x6 (ix2 i c) := by
  rcases four i with rfl | rfl | rfl | rfl
  · show View.ld x6 r0_1 (ix2 0 c) = _
    pointwise []
  · show View.ld x6 r0_2 (ix2 0 c) = _
    pointwise []
  · show View.ld x6 r0_3 (ix2 0 c) = _
    pointwise []
  · show View.ld x6 r0_4 (ix2 0 c) = _
    pointwise []

theorem pay6_eq :
    k0_pay6 (F := Ideal) (k0_pay2 x1 (View.ld x6 r0_1)) (k0_pay3 x2 (View.ld x6 r0_2)) (k0_pay4 x3) (k0_pay5 x3)
        (View.ld x6 r0_3) x4 (View.ld x6 r0_4) x7
      = mat x7 (cat fun i => k0_pay2 (ys x1 x2 x3 x4 i) (gains x6 i)) := rfl

/-- The projected rows: mixer by mixer, the normalised columns times the gains times the weights. -/
theorem pay6_at (p : Fin 512) (n : Fin 1024) :
    k0_pay6 (F := Ideal) (k0_pay2 x1 (View.ld x6 r0_1)) (k0_pay3 x2 (View.ld x6 r0_2)) (k0_pay4 x3) (k0_pay5 x3)
        (View.ld x6 r0_3) x4 (View.ld x6 r0_4) x7 (ix2 p n)
      = ∑ i : Fin 4, ∑ c : Fin 256, ys x1 x2 x3 x4 i (ix3 0 p c) * inv (fun c => ys x1 x2 x3 x4 i (ix3 0 p c))
          * x6 (ix2 i c) * x7 (ix2 (col i c) n) := by
  rw [pay6_eq, mat_at, sum_groups]
  simp only [cat_at, pay2_at, gains_at]

/-- The output block, from the blocks of the kernel's arguments. -/
theorem out_eq (p : Fin 512) (n : Fin 1024) :
    out0_8 (F := Ideal) x0 x1 x2 x3 x4 x5 x6 x7 (ix3 0 p n)
      = x0 (ix3 0 p n) + x5 (ix3 0 0 ⟨2048 + n.val, by omega⟩)
        * ∑ i : Fin 4, ∑ c : Fin 256, ys x1 x2 x3 x4 i (ix3 0 p c) * inv (fun c => ys x1 x2 x3 x4 i (ix3 0 p c))
          * x6 (ix2 i c) * x7 (ix2 (col i c) n) := by
  rw [← pay6_at]
  unfold out0_8
  unfold r0_6
  rw [View.canon_unit_zero hz3]
  simp only [r0_0, r0_5, r0_7, View.ld_unit_zero (S := S1x512x1024) hz3, View.ld_unit_zero (S := S1x512x256) hz3,
    View.ld_unit_zero (S := S1x1x6144) hz3, View.ld_unit_zero (S := S1024x1024) hz2]
  pointwise [k0_pay1, k0_pay7, k0_pay8]

end Cert.Kernel3Ideal.Value

end
-- ==== Proof.OutpHost.lean ====
/-
  The arrays the output projection is called on, from the arguments of the host program: the gains and the weights with
  the heads of the first two mixers exchanged.
-/
module

public import proofs.«01_k».proof.Proof.OutpRows
public import Idealize.ShloMosaic.Lib.StableHlo.RunRead

@[expose] public section

noncomputable section

namespace Cert.Kernel3Ideal.Value

open Cert.Kernel3Ideal Cert.Kernel3Ideal.Gen Idealize.ShloMosaic Idealize.ShloMosaic.TcCoe Idealize.SL.Sem
open Cert.Outp

variable (m : (ℓ : Loc nD τ sig) → Buf (Elt Ideal) ℓ) (c : Dev nD)

/-- Where a column is read, as a number. -/
theorem at_val (i : Fin 4) (k : Fin 256) :
    (i.val < 2 ∧ (at_ i k).val = k.val / 64 % 2 * 128 + k.val / 128 * 64 + k.val % 64)
      ∨ (2 ≤ i.val ∧ (at_ i k).val = k.val) := by
  unfold at_
  by_cases h : i.val < 2
  · exact .inl ⟨h, by rw [if_pos h]; rfl⟩
  · exact .inr ⟨by omega, by rw [if_neg h]⟩

theorem V_v8_at (i : Fin 4) (k : Fin 256) :
    V m c main_v8 (ix2 i k) = m ((c : Thread nD τ).loc main_arg6) (ix1 (col i (at_ i k))) := by
  unfold V
  after_reads_simp
  pointwise []
  after_reads_simp
  pointwise []
  have hv := at_val i k
  have hc : (col i (at_ i k)).val = i.val * 256 + (at_ i k).val := rfl
  have leaf : ∀ j : Fin 1024, j.val = (col i (at_ i k)).val →
      m (c, Proc.tc.devRef main_arg6) (ix1 j) = m (c, Proc.tc.devRef main_arg6) (ix1 (col i (at_ i k))) :=
    fun j h => by rw [Fin.ext h]
  by_cases h : i.val < 2
  · refine (dif_pos h).trans ?_
    by_cases h0 : k.val < 64
    · exact (dif_pos h0).trans (leaf _ (by show i.val * 256 + (k.val) = _; omega))
    refine (dif_neg h0).trans ?_
    by_cases h1 : k.val - 64 < 64
    · exact (dif_pos h1).trans (leaf _ (by show i.val * 256 + (128 + (k.val - 64)) = _; omega))
    refine (dif_neg h1).trans ?_
    by_cases h2 : k.val - 64 - 64 < 64
    · exact (dif_pos h2).trans (leaf _ (by show i.val * 256 + (64 + (k.val - 64 - 64)) = _; omega))
    refine (dif_neg h2).trans ?_
    exact leaf _ (by show i.val * 256 + (192 + (k.val - 64 - 64 - 64)) = _; omega)
  · exact (dif_neg h).trans (leaf _ (by show (2 + (i.val - 2)) * 256 + k.val = _; omega))

theorem V_v23_at (i : Fin 4) (k : Fin 256) (n : Fin 1024) :
    V m c main_v23 (ix2 (col i k) n) = m ((c : Thread nD τ).loc main_arg7) (ix2 (col i (at_ i k)) n) := by
  unfold V
  after_reads_simp
  pointwise []
  after_reads_simp
  pointwise []
  after_reads_simp
  pointwise []
  have hv := at_val i k
  have hc : (col i (at_ i k)).val = i.val * 256 + (at_ i k).val := rfl
  have hd : (col i k).val = i.val * 256 + k.val := rfl
  have leaf : ∀ j : Fin 1024, j.val = (col i (at_ i k)).val →
      m (c, Proc.tc.devRef main_arg7) (ix2 j n) = m (c, Proc.tc.devRef main_arg7) (ix2 (col i (at_ i k)) n) :=
    fun j h => by rw [Fin.ext h]
  by_cases h : (col i k).val < 256
  · refine (dif_pos h).trans ?_
    by_cases h0 : (col i k).val < 64
    · exact (dif_pos h0).trans (leaf _ (by show (col i k).val = _; omega))
    refine (dif_neg h0).trans ?_
    by_cases h1 : (col i k).val - 64 < 64
    · exact (dif_pos h1).trans (leaf _ (by show 128 + ((col i k).val - 64) = _; omega))
    refine (dif_neg h1).trans ?_
    by_cases h2 : (col i k).val - 64 - 64 < 64
    · exact (dif_pos h2).trans (leaf _ (by show 64 + ((col i k).val - 64 - 64) = _; omega))
    refine (dif_neg h2).trans ?_
    exact leaf _ (by show 192 + ((col i k).val - 64 - 64 - 64) = _; omega)
  refine (dif_neg h).trans ?_
  by_cases h' : (col i k).val - 256 < 256
  · refine (dif_pos h').trans ?_
    by_cases h0 : (col i k).val - 256 < 64
    · exact (dif_pos h0).trans (leaf _ (by show 256 + ((col i k).val - 256) = _; omega))
    refine (dif_neg h0).trans ?_
    by_cases h1 : (col i k).val - 256 - 64 < 64
    · exact (dif_pos h1).trans (leaf _ (by show 256 + (128 + ((col i k).val - 256 - 64)) = _; omega))
    refine (dif_neg h1).trans ?_
    by_cases h2 : (col i k).val - 256 - 64 - 64 < 64
    · exact (dif_pos h2).trans (leaf _ (by show 256 + (64 + ((col i k).val - 256 - 64 - 64)) = _; omega))
    refine (dif_neg h2).trans ?_
    exact leaf _ (by show 256 + (192 + ((col i k).val - 256 - 64 - 64 - 64)) = _; omega)
  exact (dif_neg h').trans (leaf _ (by show 512 + ((col i k).val - 256 - 256) = _; omega))

end Cert.Kernel3Ideal.Value

end
-- ==== Proof.OutpBlocks.lean ====
/-
  The blocks that grid point `16 b + i` of the output projection is given: 512 rows of batch row `b` of the first five
  arguments, the modulation row of `b`, and the gains and weights, whole.
-/
module

public import proofs.«01_k».proof.Proof.OutpHost
public import proofs.«01_k».proof.Proof.FfnBlocks

@[expose] public section

noncomputable section

namespace Cert.Kernel3Ideal.Value

open Cert.Kernel3Ideal Cert.Kernel3Ideal.Gen Idealize.ShloMosaic Idealize.ShloMosaic.TcCoe Idealize.SL.Sem
open Cert.KernelIdeal.Value (idx3_ext)
open Cert.Kernel2Ideal.Value (idx2_ext)
open Cert.Outp

variable (m : (ℓ : Loc nD τ sig) → Buf (Elt Ideal) ℓ)

theorem index0 : ∀ t : Fin grid0.N, win0_0.index t = ![t.val / 16, t.val % 16, 0] := by decide +kernel
theorem index1 : ∀ t : Fin grid0.N, win0_1.index t = ![t.val / 16, t.val % 16, 0] := by decide +kernel
theorem index2 : ∀ t : Fin grid0.N, win0_2.index t = ![t.val / 16, t.val % 16, 0] := by decide +kernel
theorem index3 : ∀ t : Fin grid0.N, win0_3.index t = ![t.val / 16, t.val % 16, 0] := by decide +kernel
theorem index4 : ∀ t : Fin grid0.N, win0_4.index t = ![t.val / 16, t.val % 16, 0] := by decide +kernel
theorem index8 : ∀ t : Fin grid0.N, win0_8.index t = ![t.val / 16, t.val % 16, 0] := by decide +kernel
theorem index5 : ∀ t : Fin grid0.N, win0_5.index t = ![t.val / 16, 0, 0] := by decide +kernel
theorem index6 : ∀ t : Fin grid0.N, win0_6.index t = ![0, 0] := by decide +kernel
theorem index7 : ∀ t : Fin grid0.N, win0_7.index t = ![0, 0] := by decide +kernel

section Blocks

variable (c : Dev nD) (t : Fin cfg0.N) (b : Fin 2) (i : Fin 16) (ht : t.val = b.val * 16 + i.val)

include ht

theorem div_t : t.val / 16 = b.val := by omega
theorem mod_t : t.val % 16 = i.val := by omega

theorem blk0 (r : Fin 512) (k : Fin 1024) : (iblk m c 0 t : Vec Ideal S1x512x1024 .f32) (ix3 0 r k)
    = m ((c : Thread nD τ).loc main_arg0) (ix3 b ⟨i.val * 512 + r.val, by omega⟩ k) := by
  rw [← V_main_arg0 m c]
  show V m c main_arg0 ((win0_0.rect t).emb (ix3 0 r k)) = _
  refine congrArg _ (idx3_ext _ _ ?_ ?_ ?_)
  · refine (win0_0.rect_emb_val t _ 0).trans ?_
    rw [index0]; show t.val / 16 * 1 + 0 = b.val; rw [div_t t b i ht]; omega
  · refine (win0_0.rect_emb_val t _ 1).trans ?_
    rw [index0]; show t.val % 16 * 512 + r.val = i.val * 512 + r.val; rw [mod_t t b i ht]
  · refine (win0_0.rect_emb_val t _ 2).trans ?_
    rw [index0]; show 0 * 1024 + k.val = k.val; omega

theorem blk1 (r : Fin 512) (k : Fin 256) : (iblk m c 1 t : Vec Ideal S1x512x256 .f32) (ix3 0 r k)
    = m ((c : Thread nD τ).loc main_arg1) (ix3 b ⟨i.val * 512 + r.val, by omega⟩ k) := by
  rw [← V_main_arg1 m c]
  show V m c main_arg1 ((win0_1.rect t).emb (ix3 0 r k)) = _
  refine congrArg _ (idx3_ext _ _ ?_ ?_ ?_)
  · refine (win0_1.rect_emb_val t _ 0).trans ?_
    rw [index1]; show t.val / 16 * 1 + 0 = b.val; rw [div_t t b i ht]; omega
  · refine (win0_1.rect_emb_val t _ 1).trans ?_
    rw [index1]; show t.val % 16 * 512 + r.val = i.val * 512 + r.val; rw [mod_t t b i ht]
  · refine (win0_1.rect_emb_val t _ 2).trans ?_
    rw [index1]; show 0 * 256 + k.val = k.val; omega

theorem blk2 (r : Fin 512) (k : Fin 256) : (iblk m c 2 t : Vec Ideal S1x512x256 .f32) (ix3 0 r k)
    = m ((c : Thread nD τ).loc main_arg2) (ix3 b ⟨i.val * 512 + r.val, by omega⟩ k) := by
  rw [← V_main_arg2 m c]
  show V m c main_arg2 ((win0_2.rect t).emb (ix3 0 r k)) = _
  refine congrArg _ (idx3_ext _ _ ?_ ?_ ?_)
  · refine (win0_2.rect_emb_val t _ 0).trans ?_
    rw [index2]; show t.val / 16 * 1 + 0 = b.val; rw [div_t t b i ht]; omega
  · refine (win0_2.rect_emb_val t _ 1).trans ?_
    rw [index2]; show t.val % 16 * 512 + r.val = i.val * 512 + r.val; rw [mod_t t b i ht]
  · refine (win0_2.rect_emb_val t _ 2).trans ?_
    rw [index2]; show 0 * 256 + k.val = k.val; omega

theorem blk3 (r : Fin 512) (k : Fin 256) : (iblk m c 3 t : Vec Ideal S1x512x256 .f32) (ix3 0 r k)
    = m ((c : Thread nD τ).loc main_arg3) (ix3 b ⟨i.val * 512 + r.val, by omega⟩ k) := by
  rw [← V_main_arg3 m c]
  show V m c main_arg3 ((win0_3.rect t).emb (ix3 0 r k)) = _
  refine congrArg _ (idx3_ext _ _ ?_ ?_ ?_)
  · refine (win0_3.rect_emb_val t _ 0).trans ?_
    rw [index3]; show t.val / 16 * 1 + 0 = b.val; rw [div_t t b i ht]; omega
  · refine (win0_3.rect_emb_val t _ 1).trans ?_
    rw [index3]; show t.val % 16 * 512 + r.val = i.val * 512 + r.val; rw [mod_t t b i ht]
  · refine (win0_3.rect_emb_val t _ 2).trans ?_
    rw [index3]; show 0 * 256 + k.val = k.val; omega

theorem blk4 (r : Fin 512) (k : Fin 256) : (iblk m c 4 t : Vec Ideal S1x512x256 .f32) (ix3 0 r k)
    = m ((c : Thread nD τ).loc main_arg4) (ix3 b ⟨i.val * 512 + r.val, by omega⟩ k) := by
  rw [← V_main_arg4 m c]
  show V m c main_arg4 ((win0_4.rect t).emb (ix3 0 r k)) = _
  refine congrArg _ (idx3_ext _ _ ?_ ?_ ?_)
  · refine (win0_4.rect_emb_val t _ 0).trans ?_
    rw [index4]; show t.val / 16 * 1 + 0 = b.val; rw [div_t t b i ht]; omega
  · refine (win0_4.rect_emb_val t _ 1).trans ?_
    rw [index4]; show t.val % 16 * 512 + r.val = i.val * 512 + r.val; rw [mod_t t b i ht]
  · refine (win0_4.rect_emb_val t _ 2).trans ?_
    rw [index4]; show 0 * 256 + k.val = k.val; omega

theorem blk5 (k : Fin 6144) : (iblk m c 5 t : Vec Ideal S1x1x6144 .f32) (ix3 0 0 k)
    = m ((c : Thread nD τ).loc main_arg5) (ix3 ⟨b.val, by omega⟩ 0 k) := by
  rw [← V_main_arg5 m c]
  show V m c main_arg5 ((win0_5.rect t).emb (ix3 0 0 k)) = _
  refine congrArg _ (idx3_ext _ _ ?_ ?_ ?_)
  · refine (win0_5.rect_emb_val t _ 0).trans ?_
    rw [index5]; show t.val / 16 * 1 + 0 = b.val; rw [div_t t b i ht]; omega
  · refine (win0_5.rect_emb_val t _ 1).trans ?_
    rw [index5]; show 0 * 1 + 0 = 0; rfl
  · refine (win0_5.rect_emb_val t _ 2).trans ?_
    rw [index5]; show 0 * 6144 + k.val = k.val; omega

omit ht

theorem blk6 (j : Fin 4) (k : Fin 256) : (iblk m c 6 t : Vec Ideal S4x256 .f32) (ix2 j k)
    = m ((c : Thread nD τ).loc main_arg6) (ix1 (col j (at_ j k))) := by
  rw [← V_v8_at m c]
  show V m c main_v8 ((win0_6.rect t).emb (ix2 j k)) = _
  refine congrArg _ (idx2_ext _ _ ?_ ?_)
  · refine (win0_6.rect_emb_val t _ 0).trans ?_
    rw [index6]; show 0 * 4 + j.val = j.val; omega
  · refine (win0_6.rect_emb_val t _ 1).trans ?_
    rw [index6]; show 0 * 256 + k.val = k.val; omega

theorem blk7 (j : Fin 4) (k : Fin 256) (n : Fin 1024) : (iblk m c 7 t : Vec Ideal S1024x1024 .bf16) (ix2 (col j k) n)
    = m ((c : Thread nD τ).loc main_arg7) (ix2 (col j (at_ j k)) n) := by
  rw [← V_v23_at m c]
  show V m c main_v23 ((win0_7.rect t).emb (ix2 (col j k) n)) = _
  refine congrArg _ (idx2_ext _ _ ?_ ?_)
  · refine (win0_7.rect_emb_val t _ 0).trans ?_
    rw [index7]; show 0 * 1024 + (col j k).val = (col j k).val; omega
  · refine (win0_7.rect_emb_val t _ 1).trans ?_
    rw [index7]; show 0 * 1024 + n.val = n.val; omega

end Blocks

end Cert.Kernel3Ideal.Value

end
-- ==== Proof.OutpRun.lean ====
/-
  The run of the output projection: what it leaves in its result and in its arguments, what each grid point writes, and
  that no two points write the same element.
-/
module

public import proofs.«01_k».proof.Proof.Gen.Kernel3Ideal.Frame
public import Idealize.ShloMosaic.Lib.Pipeline.Value
public import Idealize.ShloMosaic.PureOps.Ideal

@[expose] public section

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

theorem wrote (c : Dev nD) (t : Fin cfg0.N) : (dats m 0 c).flushed 8 t
    = (cfg0.win 8).cut (grid0.coords t) (out0_8 (iblk m c 0 t) (iblk m c 1 t) (iblk m c 2 t) (iblk m c 3 t) (iblk m c 4 t)
        (iblk m c 5 t) (iblk m c 6 t) (iblk m c 7 t)) :=
  congrArg ((cfg0.win 8).cut (grid0.coords t)) (after0_8 m c t)

theorem apart : ∀ t t' : Fin cfg0.N, (cfg0.win 8).flush t = true → (cfg0.win 8).flush t' = true → t ≠ t' →
    Disjoint ((cfg0.win 8).blk t).view.set ((cfg0.win 8).blk t').view.set := by
  have h : ∀ t t' : Fin grid0.N, win0_8.index t = win0_8.index t' → t = t' := by decide +kernel
  intro t t' _ _ hne
  exact (cfg0.win 8).disjoint_blk (hne ∘ h t t')

theorem run_out (ρ : Dev nD → PrngReg) :
    θ_run defs (onTc (τ := τ) (main (F := Ideal))) ⟨m, fun _ => 0, ρ⟩ fun r => ∀ c : Dev nD,
      r.2.mem ((c : Thread nD τ).loc main_v24) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (run_main m ρ)
  have rest6 := (h c).2 main_arg6 (Pipeline.mem_restRefs_of main_arg6 (by decide) (by decide))
  have rest7 := (h c).2 main_arg7 (Pipeline.mem_restRefs_of main_arg7 (by decide) (by decide))
  exact ⟨(h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    rest6.trans (V_main_arg6 m c), rest7.trans (V_main_arg7 m c)⟩

end Cert.Kernel3Ideal.Value

end
-- ==== Proof.OutpFinal.lean ====
/-
  The array the output projection leaves: block `(b, i)` of 512 rows is written by grid point `16 b + i`, and every
  element is `Outp.out`.
-/
module

public import proofs.«01_k».proof.Proof.OutpBlocks
public import proofs.«01_k».proof.Proof.OutpRun

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat Window)
open Cert.KernelIdeal.Value (idx3_ext)
open Cert.Outp

variable (m : (ℓ : Loc nD τ sig) → Buf (Elt Ideal) ℓ)

/-- The four mixers' results among the kernel's arguments. -/
abbrev mixers (c : Dev nD) : Fin 4 → (⟨3, ![2, 8192, 256]⟩ : Shape).Idx → EReal :=
  ![m ((c : Thread nD τ).loc main_arg1), m ((c : Thread nD τ).loc main_arg2), m ((c : Thread nD τ).loc main_arg3),
    m ((c : Thread nD τ).loc main_arg4)]

theorem ys_at (c : Dev nD) (t : Fin cfg0.N) (b : Fin 2) (i : Fin 16) (ht : t.val = b.val * 16 + i.val) (r : Fin 512)
    (j : Fin 4) (k : Fin 256) :
    ys (iblk m c 1 t) (iblk m c 2 t) (iblk m c 3 t) (iblk m c 4 t) j (ix3 0 r k)
      = mixers m c j (ix3 b ⟨i.val * 512 + r.val, by omega⟩ k) := by
  rcases four j with rfl | rfl | rfl | rfl
  · exact blk1 m c t b i ht r k
  · exact blk2 m c t b i ht r k
  · exact blk3 m c t b i ht r k
  · exact blk4 m c t b i ht r k

/-- What a grid point writes. -/
theorem point_out (c : Dev nD) (t : Fin cfg0.N) (b : Fin 2) (i : Fin 16) (ht : t.val = b.val * 16 + i.val) (r : Fin 512)
    (n : Fin 1024) :
    out0_8 (F := Ideal) (iblk m c 0 t) (iblk m c 1 t) (iblk m c 2 t) (iblk m c 3 t) (iblk m c 4 t) (iblk m c 5 t)
        (iblk m c 6 t) (iblk m c 7 t) (ix3 0 r n)
      = out (m ((c : Thread nD τ).loc main_arg0)) (mixers m c) (m ((c : Thread nD τ).loc main_arg5))
          (m ((c : Thread nD τ).loc main_arg6)) (m ((c : Thread nD τ).loc main_arg7)) b ⟨i.val * 512 + r.val, by omega⟩ n := by
  rw [out_eq]
  unfold out
  rw [proj_eq]
  refine congrArg₂ (· + ·) (blk0 m c t b i ht r n) (congrArg₂ (· * ·) (blk5 m c t b i ht _) ?_)
  refine Finset.sum_congr rfl fun j _ => Finset.sum_congr rfl fun k _ => ?_
  rw [ys_at m c t b i ht, blk6, blk7]
  simp only [ys_at m c t b i ht]

/-- An element of the final array. -/
theorem arr_at (c : Dev nD) (b : Fin 2) (s : Fin 8192) (n : Fin 1024) :
    ((dats m 0 c).arrAt 8 cfg0.N : S2x8192x1024.Idx → EReal) (ix3 b s n)
      = out (m ((c : Thread nD τ).loc main_arg0)) (mixers m c) (m ((c : Thread nD τ).loc main_arg5))
          (m ((c : Thread nD τ).loc main_arg6)) (m ((c : Thread nD τ).loc main_arg7)) b s n := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have h := (dats m 0 c).arrAt_emb_eq_flushed 8 apart t (flush0_8 t) (ix3 0 ⟨s.val % 512, by omega⟩ n)
  rw [wrote] at h
  have e : ((cfg0.win 8).blk t).view.emb (ix3 0 ⟨s.val % 512, by omega⟩ n) = ix3 b s n := by
    refine idx3_ext (n0 := 2) (n1 := 8192) (n2 := 1024) _ _ ?_ ?_ ?_
    · refine (win0_8.rect_emb_val t _ 0).trans ?_
      rw [index8]; show t.val / 16 * 1 + 0 = b.val; omega
    · refine (win0_8.rect_emb_val t _ 1).trans ?_
      rw [index8]; show t.val % 16 * 512 + s.val % 512 = s.val; omega
    · refine (win0_8.rect_emb_val t _ 2).trans ?_
      rw [index8]; show 0 * 1024 + n.val = n.val; omega
  have hp := point_out m c t b ⟨s.val / 512, hi⟩ ht' ⟨s.val % 512, by omega⟩ n
  generalize out0_8 (F := Ideal) (iblk m c 0 t) (iblk m c 1 t) (iblk m c 2 t) (iblk m c 3 t) (iblk m c 4 t) (iblk m c 5 t)
    (iblk m c 6 t) (iblk m c 7 t) = o at h hp
  rw [e] at h
  refine h.trans (Eq.trans ?_ (hp.trans ?_))
  · rfl
  · congr 1
    exact Fin.ext (by show s.val / 512 * 512 + s.val % 512 = s.val; omega)

end Cert.Kernel3Ideal.Value

end
-- ==== Proof.OutpRef.lean ====
/-
  The reference's output projection, stage by stage: the mixers' columns with the heads of the first two in order, the
  normalisation by mixer, the projection, and the modulated sum. Every element it returns is `Outp.out`.
-/
module

public import proofs.«01_k».proof.Proof.Gen.Reference3Ideal.Read
public import proofs.«01_k».proof.Proof.OutpSpec

@[expose] public section

noncomputable section

namespace Cert.Reference3Ideal.Read

open Cert.Reference3Ideal Cert.Reference3Ideal.Gen Idealize.ShloMosaic Idealize.ShloMosaic.TcCoe Idealize.SL.Sem Idealize.ShloMosaic.StableHlo
open Cert.Outp

variable (x0 : (⟨S2x8192x1024, .f32⟩ : BufTy).Contents (Elt Ideal)) (x1 x2 x3 x4 : (⟨S2x8192x256, .f32⟩ : BufTy).Contents (Elt Ideal))
  (x5 : (⟨S8x1x6144, .f32⟩ : BufTy).Contents (Elt Ideal)) (x6 : (⟨S1024, .f32⟩ : BufTy).Contents (Elt Ideal))
  (x7 : (⟨S1024x1024, .f32⟩ : BufTy).Contents (Elt Ideal)) (b : Fin 2) (s : Fin 8192)

theorem heads1_apply (c : Fin 256) : val_main_v9 (F := Ideal) x1 (ix3 b s c) = x1 (ix3 b s (swapHeads c)) := by
  pointwise [val_main_v9, val_main_v8, val_main_v7]
  rfl

theorem heads2_apply (c : Fin 256) : val_main_v12 (F := Ideal) x2 (ix3 b s c) = x2 (ix3 b s (swapHeads c)) :=
  heads1_apply x2 b s c

theorem four (i : Fin 4) : i = 0 ∨ i = 1 ∨ i = 2 ∨ i = 3 := by revert i; decide

theorem cat_apply (i : Fin 4) (c : Fin 256) :
    val_main_v14 (F := Ideal) x1 x2 x3 x4 (ix4 b s i c) = ![x1, x2, x3, x4] i (ix3 b s (at_ i c)) := by
  unfold val_main_v14 val_main_v13
  generalize h1 : val_main_v9 (F := Ideal) x1 = y1
  generalize h2 : val_main_v12 (F := Ideal) x2 = y2
  pointwise []
  rcases four i with rfl | rfl | rfl | rfl
  · refine (dif_pos (show 0 * 256 + c.val < 256 by omega)).trans ?_
    refine (congrArg (fun c => y1 (ix3 b s c)) (Fin.ext (show 0 * 256 + c.val = c.val by omega))).trans ?_
    rw [← h1, heads1_apply]; rfl
  · refine (dif_neg (show ¬ 1 * 256 + c.val < 256 by omega)).trans ?_
    refine (dif_pos (show 1 * 256 + c.val - 256 < 256 by omega)).trans ?_
    refine (congrArg (fun c => y2 (ix3 b s c)) (Fin.ext (show 1 * 256 + c.val - 256 = c.val by omega))).trans ?_
    rw [← h2, heads2_apply]; rfl
  · refine (dif_neg (show ¬ 2 * 256 + c.val < 256 by omega)).trans ?_
    refine (dif_neg (show ¬ 2 * 256 + c.val - 256 < 256 by omega)).trans ?_
    refine (dif_pos (show 2 * 256 + c.val - 256 - 256 < 256 by omega)).trans ?_
    refine (congrArg (fun c => x3 (ix3 b s c)) (Fin.ext (show 2 * 256 + c.val - 256 - 256 = c.val by omega))).trans ?_
    rfl
  · refine (dif_neg (show ¬ 3 * 256 + c.val < 256 by omega)).trans ?_
    refine (dif_neg (show ¬ 3 * 256 + c.val - 256 < 256 by omega)).trans ?_
    refine (dif_neg (show ¬ 3 * 256 + c.val - 256 - 256 < 256 by omega)).trans ?_
    refine (congrArg (fun c => x4 (ix3 b s c)) (Fin.ext (show 3 * 256 + c.val - 256 - 256 - 256 = c.val by omega))).trans ?_
    rfl

theorem gain_apply (i : Fin 4) (c : Fin 256) : val_main_v27 (F := Ideal) x6 (ix4 b s i c) = x6 (ix1 (col i c)) := by
  pointwise [val_main_v27, val_main_v26, val_main_v15]
  rfl

theorem sq_apply (i : Fin 4) : val_main_v17 (F := Ideal) x1 x2 x3 x4 (ix3 b s i)
    = ∑ c, val_main_v14 (F := Ideal) x1 x2 x3 x4 (ix4 b s i c) * val_main_v14 (F := Ideal) x1 x2 x3 x4 (ix4 b s i c) := by
  have h0 : val_main_cst (F := Ideal) (Shape.Idx.first h_S_) = 0 := by
    show Ideal.ofBits .f32 0x00000000#32 = 0
    simp [Ideal.ofBits_zero_f32]
  rw [val_main_v17_apply, h0, zero_add]
  refine Finset.sum_congr rfl fun c _ => ?_
  have hi : idx_main_v17 (ix3 b s i) c = ix4 b s i c := funext fun a => match a with
    | ⟨0, _⟩ => rfl
    | ⟨1, _⟩ => rfl
    | ⟨2, _⟩ => rfl
    | ⟨3, _⟩ => rfl
  rw [hi, val_main_v16_apply]
  rfl

theorem inv_apply (i : Fin 4) (c : Fin 256) : val_main_v24 (F := Ideal) x1 x2 x3 x4 (ix4 b s i c)
    = Ideal.rsqrt (Ideal.div (val_main_v17 (F := Ideal) x1 x2 x3 x4 (ix3 b s i)) (Ideal.ofBits .f32 0x43800000#32)
        + Ideal.ofBits .f32 0x358637BD#32) := by
  unfold val_main_v24 val_main_v23 val_main_v22 val_main_v20 val_main_v18
  generalize val_main_v17 (F := Ideal) x1 x2 x3 x4 = y
  pointwise [val_main_v21, val_main_v19, val_main_cst_0, val_main_cst_1]

theorem norm_apply (i : Fin 4) (c : Fin 256) :
    val_main_v28 (F := Ideal) x1 x2 x3 x4 x6 (ix4 b s i c)
      = val_main_v14 (F := Ideal) x1 x2 x3 x4 (ix4 b s i c)
        * Outp.inv (fun c => val_main_v14 (F := Ideal) x1 x2 x3 x4 (ix4 b s i c)) * x6 (ix1 (col i c)) := by
  unfold Outp.inv
  rw [val_main_v28_apply, val_main_v25_apply, gain_apply, inv_apply, sq_apply]
  rfl

theorem grp_apply (i : Fin 4) (c : Fin 256) :
    val_main_v28 (F := Ideal) x1 x2 x3 x4 x6 (ix4 b s i c) = grp ![x1, x2, x3, x4] x6 b s i c := by
  have h : (fun c => val_main_v14 (F := Ideal) x1 x2 x3 x4 (ix4 b s i c))
      = fun c => (fun c => ![x1, x2, x3, x4] i (ix3 b s c)) (at_ i c) := funext fun c => cat_apply x1 x2 x3 x4 b s i c
  rw [norm_apply, h, inv_at i (fun c => ![x1, x2, x3, x4] i (ix3 b s c)), cat_apply]
  rfl

theorem row_apply (i : Fin 4) (c : Fin 256) :
    val_main_v29 (F := Ideal) x1 x2 x3 x4 x6 (ix3 b s (col i c)) = grp ![x1, x2, x3, x4] x6 b s i c := by
  rw [← grp_apply]
  unfold val_main_v29
  pointwise []
  have h0 : (col i c).val / 256 = i.val := by show (i.val * 256 + c.val) / 256 = _; omega
  have h1 : (col i c).val % 256 = c.val := by show (i.val * 256 + c.val) % 256 = _; omega
  congr 2 <;> exact Fin.ext (by assumption)

theorem proj_apply (n : Fin 1024) :
    val_main_v30 (F := Ideal) x1 x2 x3 x4 x6 x7 (ix3 b s n) = proj ![x1, x2, x3, x4] x6 x7 b s n := by
  unfold proj
  simp only [← row_apply]
  rw [← sum_groups (fun j => val_main_v29 (F := Ideal) x1 x2 x3 x4 x6 (ix3 b s j) * x7 (ix2 j n))]
  pointwise [val_main_v30]

/-- Every element the reference returns is the block's output. -/
theorem out_apply (n : Fin 1024) :
    val_main_v33 (F := Ideal) x0 x1 x2 x3 x4 x5 x6 x7 (ix3 b s n) = out x0 ![x1, x2, x3, x4] x5 x6 x7 b s n := by
  unfold out
  rw [← proj_apply]
  pointwise [val_main_v33, val_main_v32, val_main_v31, val_main_v3, val_main_v0]

end Cert.Reference3Ideal.Read

end
-- ==== Proof.OutpEquation.lean ====
/-
  The two results of the output projection are equal: the array the kernel leaves and the array the reference leaves
  are both `Outp.out`, for any arguments.
-/
module

public import proofs.«01_k».proof.Defs
public import proofs.«01_k».proof.Proof.OutpFinal
public import proofs.«01_k».proof.Proof.OutpRef
public import proofs.«01_k».proof.Proof.Gen.Kernel3.Frame
public import proofs.«01_k».proof.Proof.Gen.Reference3Ideal.Run
public import Idealize.ShloMosaic.Lib.Quiescent

@[expose] public section

noncomputable section

namespace Cert.Outp

open Idealize.ShloMosaic Idealize.ShloMosaic.TcCoe Idealize.SL.Sem

theorem arrays_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v33 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
      = (Cert.Kernel3Ideal.Gen.dats m 0 c).arrAt 8 Cert.Kernel3Ideal.cfg0.N := by
  funext i
  obtain ⟨b, s, n, rfl⟩ : ∃ (b : Fin 2) (s : Fin 8192) (n : Fin 1024), i = ix3 b s n :=
    ⟨i 0, i 1, i 2, Cert.KernelIdeal.Value.idx3_ext (n0 := 2) (n1 := 8192) (n2 := 1024) _ _ rfl rfl rfl⟩
  exact (Cert.Reference3Ideal.Read.out_apply _ _ _ _ _ _ _ _ b s n).trans (Cert.Kernel3Ideal.Value.arr_at m c b s n).symm

/-- The reference ends with its arguments unchanged and no counter raised. -/
theorem ref_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run _ _ _).mono (fun r h => ⟨fun c => (h c).2, Idealize.ShloMosaic.sem_eq_zero_of_no_sems (by decide) r.2⟩)
    (Cert.Reference3Ideal.Value.run m g)

/-- The value claim. -/
theorem algebraic : Cert.algebraic_Kernel3Ideal_Reference3Ideal := by
  intro m g m' g' _ hagree
  refine ⟨fun c => (Cert.Kernel3Ideal.Gen.dats m 0 c).arrAt 8 Cert.Kernel3Ideal.cfg0.N, Cert.Kernel3Ideal.Value.run_out m g,
    (θ_run _ _ _).mono (fun r h c => ⟨(h c).1.trans ?_, (h c).2⟩) (Cert.Reference3Ideal.Value.run m' g')⟩
  obtain ⟨h0, h1, h2, h3, h4, h5, h6, h7⟩ := hagree c
  rw [Cert.Reference3Ideal.Read.val_main_v33_eq, h0, h1, h2, h3, h4, h5, h6, h7]
  exact arrays_eq m c

end Cert.Outp

end
-- ==== Proof.InpSpec.lean ====
/-
  The fourteen parts of the input projection, over the reals: each row is normalised and modulated and projected to 2832
  columns; some parts are normalised head by head, some are rotated by the angles of the row's place in the grid, the
  queries are scaled, and the gates carry a bias.
-/
module

public import proofs.«01_k».proof.Proof.FfnSpec

@[expose] public section

noncomputable section

namespace Cert.Inp

open Idealize.ShloMosaic
open Cert.Ffn (modRow modAt rms)

/-- Column `d` of head `h` among 256 columns. -/
def hc (h : Fin 4) (d : Fin 64) : Fin 256 := ⟨h.val * 64 + d.val, by omega⟩

/-- Column `d` of head `h` among 128 columns. -/
def hc2 (h : Fin 2) (d : Fin 64) : Fin 128 := ⟨h.val * 64 + d.val, by omega⟩

/-- Heads 1 and 2 exchanged. -/
def swap (h : Fin 4) : Fin 4 := ⟨h.val % 2 * 2 + h.val / 2, by omega⟩

theorem exists_hc (c : Fin 256) : ∃ h d, c = hc h d :=
  ⟨⟨c.val / 64, by omega⟩, ⟨c.val % 64, by omega⟩, Fin.ext (show c.val = c.val / 64 * 64 + c.val % 64 by omega)⟩

theorem exists_hc2 (c : Fin 128) : ∃ h d, c = hc2 h d :=
  ⟨⟨c.val / 64, by omega⟩, ⟨c.val % 64, by omega⟩, Fin.ext (show c.val = c.val / 64 * 64 + c.val % 64 by omega)⟩

/-- The factor of the queries, an eighth. -/
def eighth : EReal := Ideal.ofBits .f32 0x3E000000#32

/-- The column that is rotated together with column `d` of a head: sixteen further in the first half of each 32, sixteen
back in the second. -/
def pair (d : Fin 64) : Fin 64 := if d.val % 32 < 16 then ⟨(d.val + 16) % 64, by omega⟩ else ⟨(d.val + 48) % 64, by omega⟩

/-- The sine of the angle, negated in the first half of each 32 columns. -/
def sgnSin (A : Fin 64 → EReal) (d : Fin 64) : EReal := if d.val % 32 < 16 then -(Ideal.sin (A d)) else Ideal.sin (A d)

/-- A head rotated by the angles `A`. -/
def rope (A z : Fin 64 → EReal) (d : Fin 64) : EReal := z d * Ideal.cos (A d) + z (pair d) * sgnSin A d

/-- A head divided by the root of its mean square, to which a millionth is added, times its gains. -/
def headNorm (g z : Fin 64 → EReal) (d : Fin 64) : EReal :=
  z d * Ideal.rsqrt (Ideal.div (∑ d, z d * z d) (Ideal.ofBits .f32 0x42800000#32) + Ideal.ofBits .f32 0x358637BD#32) * g d

/-- The angles of row `s`: the first 32 columns of a head go with the grid's row, the others with its column, and the
sixteen frequencies repeat. -/
def ang (R C : (⟨2, ![8192, 16]⟩ : Shape).Idx → EReal) (s : Fin 8192) (d : Fin 64) : EReal :=
  if d.val < 32 then R (ix2 s ⟨d.val % 16, by omega⟩) else C (ix2 s ⟨d.val % 16, by omega⟩)

variable (X : (⟨3, ![2, 8192, 1024]⟩ : Shape).Idx → EReal) (M : (⟨3, ![8, 1, 6144]⟩ : Shape).Idx → EReal)
  (G : (⟨1, ![1024]⟩ : Shape).Idx → EReal) (W : (⟨2, ![1024, 2832]⟩ : Shape).Idx → EReal)

/-- Row `s` of batch row `b`, normalised and modulated. -/
def hid (b : Fin 2) (s : Fin 8192) : Fin 1024 → EReal :=
  modRow (fun k => X (ix3 b s k)) (fun k => G (ix1 k)) (modAt M b 1) (modAt M b 0)

/-- Column `n` of the projection of row `s`. -/
def prj (b : Fin 2) (s : Fin 8192) (n : Fin 2832) : EReal := ∑ k : Fin 1024, hid X M G b s k * W (ix2 k n)

/-- The head of 64 columns of the projection that starts at column `o`. -/
def hd (b : Fin 2) (s : Fin 8192) (o : ℕ) (ho : o ≤ 2768) (d : Fin 64) : EReal := prj X M G W b s ⟨o + d.val, by omega⟩

variable (Q : (⟨1, ![64]⟩ : Shape).Idx → EReal) (R C : (⟨2, ![8192, 16]⟩ : Shape).Idx → EReal)
  (B : (⟨1, ![16]⟩ : Shape).Idx → EReal) (b : Fin 2) (s : Fin 8192)

/-- The global queries. -/
def aq (h : Fin 4) (d : Fin 64) : EReal :=
  rope (ang R C s) (headNorm (fun d => Q (ix1 d)) (hd X M G W b s ((swap h).val * 64) (by omega))) d * eighth

/-- The global keys. -/
def ak (h : Fin 2) (d : Fin 64) : EReal :=
  rope (ang R C s) (headNorm (fun d => Q (ix1 d)) (hd X M G W b s (256 + h.val * 64) (by omega))) d

/-- The windowed queries. -/
def bq (h : Fin 4) (d : Fin 64) : EReal :=
  rope (ang R C s) (hd X M G W b s (512 + (swap h).val * 64) (by omega)) d * eighth

/-- The windowed keys. -/
def bk (h : Fin 2) (d : Fin 64) : EReal := rope (ang R C s) (hd X M G W b s (768 + h.val * 64) (by omega)) d

/-- The gates, and zeros behind them. -/
def cg (c : Fin 128) : EReal :=
  if h : c.val < 16 then prj X M G W b s ⟨2048 + c.val, by omega⟩ + B (ix1 ⟨c.val, h⟩) else 0

end Cert.Inp

end
-- ==== Proof.InpRope.lean ====
/-
  The rotation inside a block: 128 columns, two heads, each column with its partner sixteen columns away, found by
  rotating the block both ways and choosing by the column's number.
-/
module

public import proofs.«01_k».proof.Proof.Block
public import proofs.«01_k».proof.Proof.Gen.Kernel4Ideal.Frame
public import proofs.«01_k».proof.Proof.InpSpec

@[expose] public section

noncomputable section

namespace Cert.Kernel4Ideal.Value

open Cert.Kernel4Ideal Cert.Kernel4Ideal.Gen Idealize.ShloMosaic Idealize.ShloMosaic.TcCoe Idealize.SL.Sem
open Cert.Inp

/-- Whether a column lies in the first half of its 32, as the kernel computes it from the column's number. -/
def firstW (x : BitVec 32) : BitVec 1 :=
  let n : BitVec 32 := Scalar.select (Scalar.cmpi .eq 32#32 0#32) 1#32 32#32
  let r := IntOp.remsi .vector x n
  let fix := IntOp.andi (IntOp.xori (IntOp.cmpi .slt r 0#32) (Scalar.cmpi .slt n 0#32)) (IntOp.cmpi .ne r 0#32)
  IntOp.cmpi .slt (if fix = 1#1 then IntOp.addi r n else r) 16#32

/-- The same for a block. -/
def first : IVec S512x128 1 :=
  let n : BitVec 32 := Scalar.select (Scalar.cmpi .eq 32#32 0#32) 1#32 32#32
  let r := remsi (iota .tc S512x128 32 [1] iota_S512x128_d1_w32) (broadcast S512x128 n)
  cmpi .slt (select (andi (xori (cmpi .slt r (broadcast S512x128 0#32))
      (broadcastTo S512x128 (broadcast S512x128 (Scalar.cmpi .slt n 0#32)) broadcasts_S512x128_S512x128))
      (cmpi .ne r (broadcast S512x128 0#32))) (addi r (broadcast S512x128 n)) r) (broadcast S512x128 16#32)

theorem firstW_eq : ∀ c : Fin 128, firstW (BitVec.ofNat 32 c.val) = if c.val % 32 < 16 then 1#1 else 0#1 := by decide +kernel

theorem first_at (p : Fin 512) (c : Fin 128) : first (ix2 p c) = if c.val % 32 < 16 then 1#1 else 0#1 := by
  rw [← firstW_eq]
  have h : iota .tc S512x128 32 [1] iota_S512x128_d1_w32 (ix2 p c) = BitVec.ofNat 32 c.val := by
    rw [iota_apply]
    show BitVec.ofNat 32 (0 * 128 + c.val) = _
    rw [Nat.zero_mul, Nat.zero_add]
  rw [← h]
  rfl

/-- The rotation of a block of 128 columns by its tables of cosines and signed sines. -/
def ropeV (z cos sin : FVec Ideal S512x128 .f32) : FVec Ideal S512x128 .f32 :=
  addf (mulf z cos) (mulf (select first (dynamicRotate 1 112#32 none z rotates_S512x128_d1)
    (dynamicRotate 1 16#32 none z rotates_S512x128_d1)) sin)

theorem ropeV_at (z cos sin : FVec Ideal S512x128 .f32) (p : Fin 512) (h : Fin 2) (d : Fin 64) :
    ropeV z cos sin (ix2 p (hc2 h d))
      = z (ix2 p (hc2 h d)) * cos (ix2 p (hc2 h d)) + z (ix2 p (hc2 h (pair d))) * sin (ix2 p (hc2 h d)) := by
  have hf := first_at p (hc2 h d)
  have hv : (hc2 h d).val = h.val * 64 + d.val := rfl
  have leaf : ∀ j : Fin 128, j.val = (hc2 h (pair d)).val → z (ix2 p j) = z (ix2 p (hc2 h (pair d))) :=
    fun j e => by rw [Fin.ext e]
  unfold ropeV
  generalize first = f at hf
  pointwise []
  rw [hf]
  congr 2
  by_cases hd : d.val % 32 < 16
  · have e : (pair d).val = (d.val + 16) % 64 := by unfold pair; rw [if_pos hd]
    have h1 : (hc2 h d).val % 32 < 16 := by omega
    simp only [if_pos h1]
    exact leaf _ (by show ((hc2 h d).val + 128 - 112) % 128 = h.val * 64 + (pair d).val; omega)
  · have e : (pair d).val = (d.val + 48) % 64 := by unfold pair; rw [if_neg hd]
    have h1 : ¬ (hc2 h d).val % 32 < 16 := by omega
    simp only [if_neg h1]
    exact leaf _ (by show ((hc2 h d).val + 128 - 16) % 128 = h.val * 64 + (pair d).val; omega)

end Cert.Kernel4Ideal.Value

end
-- ==== Proof.InpPool.lean ====
/-
  The mean of the squares of a head, found by a product with a matrix that holds a 64th where row and column lie in the
  same head and zero elsewhere; the squares go in as a rounded part and its remainder, which is zero for numbers.
-/
module

public import proofs.«01_k».proof.Proof.InpSpec
public import proofs.«01_k».proof.Proof.Spec

@[expose] public section

noncomputable section

namespace Cert.Inp

open Idealize.ShloMosaic
open Cert.Attn (Num num_coe)
open Cert.Ffn (modRow modAt rms meanSq)

/-- A 64th. -/
def part64 : EReal := Ideal.ofBits .f32 0x3C800000#32

theorem part64_eq : part64 = ((64⁻¹ : ℝ) : EReal) := by
  unfold part64
  simp [Ideal.ofBits, Ideal.ieee]
  rw [← EReal.coe_mul]
  norm_num

theorem sixtyfour : Ideal.ofBits FTy.f32 0x42800000#32 = ((64 : ℝ) : EReal) := by
  simp [Ideal.ofBits, Ideal.ieee]
  rw [← EReal.coe_mul]
  norm_num

theorem Num.sub_self {x : EReal} (h : Num x) : x - x = 0 := by
  rw [h.coe, ← EReal.coe_sub, _root_.sub_self, EReal.coe_zero]

/-- A sum over 256 columns, head by head. -/
theorem sum_heads (f : Fin 256 → EReal) : ∑ j, f j = ∑ h : Fin 4, ∑ d : Fin 64, f (hc h d) := by
  rw [← Fintype.sum_prod_type' (f := fun i c => f (hc i c))]
  refine (Fintype.sum_equiv (finProdFinEquiv (m := 4) (n := 64)) _ _ ?_).symm
  rintro ⟨i, c⟩
  congr 1
  apply Fin.ext
  show i.val * 64 + c.val = c.val + 64 * i.val
  omega

/-- A sum over 128 columns, head by head. -/
theorem sum_heads2 (f : Fin 128 → EReal) : ∑ j, f j = ∑ h : Fin 2, ∑ d : Fin 64, f (hc2 h d) := by
  rw [← Fintype.sum_prod_type' (f := fun i c => f (hc2 i c))]
  refine (Fintype.sum_equiv (finProdFinEquiv (m := 2) (n := 64)) _ _ ?_).symm
  rintro ⟨i, c⟩
  congr 1
  apply Fin.ext
  show i.val * 64 + c.val = c.val + 64 * i.val
  omega

/-- The squares of a head of numbers, each times a 64th, make the mean. -/
theorem mean_head (z : Fin 64 → EReal) (hz : ∀ d, Num (z d)) :
    ∑ d, z d * z d * part64 = Ideal.div (∑ d, z d * z d) (Ideal.ofBits .f32 0x42800000#32) := by
  have e1 : ∀ d, z d * z d = (((z d).toReal * (z d).toReal : ℝ) : EReal) := fun d => by
    rw [EReal.coe_mul, ← (hz d).coe]
  have h64 : ((64 : ℝ) : EReal) ≠ 0 := by norm_cast
  simp only [e1, part64_eq, sixtyfour, ← EReal.coe_mul, ← Cert.Online.coe_sum]
  unfold Ideal.div
  rw [if_neg h64, ← EReal.coe_inv, ← EReal.coe_mul, ← Finset.sum_mul]

/-- What the two products with the matrix give together. -/
theorem pool_heads {n : ℕ} (z : Fin n → Fin 64 → EReal) (hz : ∀ h d, Num (z h d)) (P : Fin n → Fin 64 → EReal) (h : Fin n)
    (hP : ∀ h' d, P h' d = if h' = h then part64 else 0) :
    (∑ h', ∑ d, z h' d * z h' d * P h' d) + (∑ h', ∑ d, (z h' d * z h' d - z h' d * z h' d) * P h' d)
      = Ideal.div (∑ d, z h d * z h d) (Ideal.ofBits .f32 0x42800000#32) := by
  have h2 : ∑ h', ∑ d, (z h' d * z h' d - z h' d * z h' d) * P h' d = 0 :=
    Finset.sum_eq_zero fun h' _ => Finset.sum_eq_zero fun d _ => by rw [Num.sub_self ((hz h' d).mul (hz h' d)), zero_mul]
  rw [h2, add_zero, Finset.sum_eq_single h (fun h' _ ne => Finset.sum_eq_zero fun d _ => by rw [hP, if_neg ne, mul_zero])
    (fun ne => absurd (Finset.mem_univ _) ne), ← mean_head (z h) (hz h)]
  exact Finset.sum_congr rfl fun d _ => by rw [hP, if_pos rfl]

theorem Num.add {x y : EReal} (hx : Num x) (hy : Num y) : Num (x + y) := by
  rw [hx.coe, hy.coe, ← EReal.coe_add]; exact num_coe _

theorem eps_eq : Ideal.ofBits FTy.f32 0x358637BD#32 = ((8796093 / 2 ^ 43 : ℝ) : EReal) := by
  simp [Ideal.ofBits, Ideal.ieee]
  rw [← EReal.coe_mul]
  norm_num

theorem thousand24 : Ideal.ofBits FTy.f32 0x44800000#32 = ((1024 : ℝ) : EReal) := by
  simp [Ideal.ofBits, Ideal.ieee]
  rw [← EReal.coe_mul]
  norm_num

theorem one_eq : Num (Ideal.ofBits FTy.f32 0x3F800000#32) := by
  have h : Ideal.ofBits FTy.f32 0x3F800000#32 = ((1 : ℝ) : EReal) := by
    simp [Ideal.ofBits, Ideal.ieee]
    rw [← EReal.coe_one, ← EReal.coe_mul]
    norm_num
  rw [h]; exact num_coe _

end Cert.Inp

end
-- ==== Proof.InpRows.lean ====
/-
  What the input projection computes in one grid point, read at a row and a column: the normalised and modulated rows, the
  columns of their projection, and the parts that are neither normalised by head nor rotated.
-/
module

public import proofs.«01_k».proof.Proof.InpRope
public import proofs.«01_k».proof.Proof.InpPool

@[expose] public section

noncomputable section

namespace Cert.Kernel4Ideal.Value

open Cert.Kernel4Ideal Cert.Kernel4Ideal.Gen Idealize.ShloMosaic Idealize.ShloMosaic.TcCoe Idealize.SL.Sem
open Cert.KernelIdeal.Value (hz2 hz3)
open Cert.Ffn (modRow rms meanSq)
open Cert.Inp

variable (x0 : Vec Ideal S1x512x1024 .f32) (x1 : Vec Ideal S1x1x6144 .f32) (x2 : Vec Ideal S1x1024 .f32)
  (x3 : Vec Ideal S1024x2944 .bf16) (x4 : Vec Ideal S256x256 .bf16) (x5 : Vec Ideal S1x256 .f32) (x6 : Vec Ideal S1x128 .f32)
  (x7 x8 : Vec Ideal S512x128 .f32) (x9 : Vec Ideal S1x128 .f32)

/-- Row `p` of the block, normalised and modulated. -/
def hb (p : Fin 512) : Fin 1024 → EReal :=
  modRow (fun k => x0 (ix3 0 p k)) (fun k => x2 (ix2 0 k)) (fun k => x1 (ix3 0 0 ⟨1024 + k.val, by omega⟩))
    (fun k => x1 (ix3 0 0 ⟨k.val, by omega⟩))

theorem pay2_at (p : Fin 512) (k : Fin 1024) : k0_pay2 (F := Ideal) x1 x0 x2 (ix2 p k) = hb x0 x1 x2 p k := by
  pointwise [k0_pay2, hb, modRow, rms, meanSq]

theorem pay46_eq : k0_pay46 (F := Ideal) x0 x1 x2 x3 x4 x5 x6 x7 x8 x9 = k0_pay2 x1 x0 x2 := by
  unfold k0_pay46
  rw [View.ld_unit_zero (S := S1x1x6144) hz3, View.ld_unit_zero (S := S1x512x1024) hz3, View.ld_unit_zero (S := S1x1024) hz2]

/-- Column `n` of the projection of row `p` of the block. -/
def pb (p : Fin 512) (n : Fin 2944) : EReal := ∑ k : Fin 1024, hb x0 x1 x2 p k * x3 (ix2 k n)

/-- The product of rows with 256 columns of weights. -/
def mm (v : FVec Ideal S512x1024 .bf16) (w : Vec Ideal S1024x256 .bf16) : FVec Ideal S512x256 .f32 :=
  matmul (φ₂ := .bf16) dot_S512x1024_S1024x256_S512x256_1_0_0_1_n_n none v (shapeCast S1024x256 w shapeCasts_S1024x256_S1024x256)
    (constant S512x256 .f32 0x00000000#32)

theorem mm_at (v : FVec Ideal S512x1024 .bf16) (w : Vec Ideal S1024x256 .bf16) (p : Fin 512) (c : Fin 256) :
    mm v w (ix2 p c) = ∑ k : Fin 1024, v (ix2 p k) * w (ix2 k c) := by
  pointwise [mm]

theorem ld4 (k : Fin 1024) (c : Fin 256) : View.ld x3 r0_4 (ix2 k c) = x3 (ix2 k ⟨0 + c.val, by omega⟩) := by
  pointwise []

theorem mm4_at (p : Fin 512) (c : Fin 256) :
    mm (k0_pay2 x1 x0 x2) (View.ld x3 r0_4) (ix2 p c) = pb x0 x1 x2 x3 p ⟨0 + c.val, by omega⟩ := by
  rw [mm_at]
  unfold pb
  refine Finset.sum_congr rfl fun k _ => ?_
  rw [pay2_at, ld4]

theorem ld8 (k : Fin 1024) (c : Fin 256) : View.ld x3 r0_8 (ix2 k c) = x3 (ix2 k ⟨256 + c.val, by omega⟩) := by
  pointwise []

theorem mm8_at (p : Fin 512) (c : Fin 256) :
    mm (k0_pay2 x1 x0 x2) (View.ld x3 r0_8) (ix2 p c) = pb x0 x1 x2 x3 p ⟨256 + c.val, by omega⟩ := by
  rw [mm_at]
  unfold pb
  refine Finset.sum_congr rfl fun k _ => ?_
  rw [pay2_at, ld8]

theorem ld11 (k : Fin 1024) (c : Fin 256) : View.ld x3 r0_11 (ix2 k c) = x3 (ix2 k ⟨512 + c.val, by omega⟩) := by
  pointwise []

theorem mm11_at (p : Fin 512) (c : Fin 256) :
    mm (k0_pay2 x1 x0 x2) (View.ld x3 r0_11) (ix2 p c) = pb x0 x1 x2 x3 p ⟨512 + c.val, by omega⟩ := by
  rw [mm_at]
  unfold pb
  refine Finset.sum_congr rfl fun k _ => ?_
  rw [pay2_at, ld11]

theorem ld12 (k : Fin 1024) (c : Fin 256) : View.ld x3 r0_12 (ix2 k c) = x3 (ix2 k ⟨768 + c.val, by omega⟩) := by
  pointwise []

theorem mm12_at (p : Fin 512) (c : Fin 256) :
    mm (k0_pay2 x1 x0 x2) (View.ld x3 r0_12) (ix2 p c) = pb x0 x1 x2 x3 p ⟨768 + c.val, by omega⟩ := by
  rw [mm_at]
  unfold pb
  refine Finset.sum_congr rfl fun k _ => ?_
  rw [pay2_at, ld12]

theorem ld13 (k : Fin 1024) (c : Fin 256) : View.ld x3 r0_13 (ix2 k c) = x3 (ix2 k ⟨1024 + c.val, by omega⟩) := by
  pointwise []

theorem mm13_at (p : Fin 512) (c : Fin 256) :
    mm (k0_pay2 x1 x0 x2) (View.ld x3 r0_13) (ix2 p c) = pb x0 x1 x2 x3 p ⟨1024 + c.val, by omega⟩ := by
  rw [mm_at]
  unfold pb
  refine Finset.sum_congr rfl fun k _ => ?_
  rw [pay2_at, ld13]

theorem ld14 (k : Fin 1024) (c : Fin 256) : View.ld x3 r0_14 (ix2 k c) = x3 (ix2 k ⟨1280 + c.val, by omega⟩) := by
  pointwise []

theorem mm14_at (p : Fin 512) (c : Fin 256) :
    mm (k0_pay2 x1 x0 x2) (View.ld x3 r0_14) (ix2 p c) = pb x0 x1 x2 x3 p ⟨1280 + c.val, by omega⟩ := by
  rw [mm_at]
  unfold pb
  refine Finset.sum_congr rfl fun k _ => ?_
  rw [pay2_at, ld14]

theorem ld15 (k : Fin 1024) (c : Fin 256) : View.ld x3 r0_15 (ix2 k c) = x3 (ix2 k ⟨1536 + c.val, by omega⟩) := by
  pointwise []

theorem mm15_at (p : Fin 512) (c : Fin 256) :
    mm (k0_pay2 x1 x0 x2) (View.ld x3 r0_15) (ix2 p c) = pb x0 x1 x2 x3 p ⟨1536 + c.val, by omega⟩ := by
  rw [mm_at]
  unfold pb
  refine Finset.sum_congr rfl fun k _ => ?_
  rw [pay2_at, ld15]

theorem ld16 (k : Fin 1024) (c : Fin 256) : View.ld x3 r0_16 (ix2 k c) = x3 (ix2 k ⟨1792 + c.val, by omega⟩) := by
  pointwise []

theorem mm16_at (p : Fin 512) (c : Fin 256) :
    mm (k0_pay2 x1 x0 x2) (View.ld x3 r0_16) (ix2 p c) = pb x0 x1 x2 x3 p ⟨1792 + c.val, by omega⟩ := by
  rw [mm_at]
  unfold pb
  refine Finset.sum_congr rfl fun k _ => ?_
  rw [pay2_at, ld16]

theorem ld17 (k : Fin 1024) (c : Fin 256) : View.ld x3 r0_17 (ix2 k c) = x3 (ix2 k ⟨2048 + c.val, by omega⟩) := by
  pointwise []

theorem mm17_at (p : Fin 512) (c : Fin 256) :
    mm (k0_pay2 x1 x0 x2) (View.ld x3 r0_17) (ix2 p c) = pb x0 x1 x2 x3 p ⟨2048 + c.val, by omega⟩ := by
  rw [mm_at]
  unfold pb
  refine Finset.sum_congr rfl fun k _ => ?_
  rw [pay2_at, ld17]

theorem ld18 (k : Fin 1024) (c : Fin 256) : View.ld x3 r0_18 (ix2 k c) = x3 (ix2 k ⟨2304 + c.val, by omega⟩) := by
  pointwise []

theorem mm18_at (p : Fin 512) (c : Fin 256) :
    mm (k0_pay2 x1 x0 x2) (View.ld x3 r0_18) (ix2 p c) = pb x0 x1 x2 x3 p ⟨2304 + c.val, by omega⟩ := by
  rw [mm_at]
  unfold pb
  refine Finset.sum_congr rfl fun k _ => ?_
  rw [pay2_at, ld18]

theorem ld19 (k : Fin 1024) (c : Fin 256) : View.ld x3 r0_19 (ix2 k c) = x3 (ix2 k ⟨2560 + c.val, by omega⟩) := by
  pointwise []

theorem mm19_at (p : Fin 512) (c : Fin 256) :
    mm (k0_pay2 x1 x0 x2) (View.ld x3 r0_19) (ix2 p c) = pb x0 x1 x2 x3 p ⟨2560 + c.val, by omega⟩ := by
  rw [mm_at]
  unfold pb
  refine Finset.sum_congr rfl fun k _ => ?_
  rw [pay2_at, ld19]

theorem out12_at (p : Fin 512) (c : Fin 128) : out0_12 (F := Ideal) x0 x1 x2 x3 x4 x5 x6 x7 x8 x9 (ix3 0 p c)
    = pb x0 x1 x2 x3 p ⟨256 + (⟨128 + c.val, by omega⟩ : Fin 256).val, by show 256 + (128 + c.val) < _; omega⟩ := by
  rw [← mm8_at]
  unfold out0_12
  rw [View.canon_unit_zero hz3, pay46_eq]
  generalize View.ld x3 r0_8 = w
  rw [show k0_pay23 (F := Ideal) (k0_pay15 (k0_pay2 x1 x0 x2) w) = k0_pay23 (mm (k0_pay2 x1 x0 x2) w) from rfl]
  generalize mm (k0_pay2 x1 x0 x2) w = v
  pointwise [k0_pay23]

theorem out15_at (p : Fin 512) (c : Fin 128) : out0_15 (F := Ideal) x0 x1 x2 x3 x4 x5 x6 x7 x8 x9 (ix3 0 p c)
    = pb x0 x1 x2 x3 p ⟨768 + (⟨128 + c.val, by omega⟩ : Fin 256).val, by show 768 + (128 + c.val) < _; omega⟩ := by
  rw [← mm12_at]
  unfold out0_15
  rw [View.canon_unit_zero hz3, pay46_eq]
  generalize View.ld x3 r0_12 = w
  rw [show k0_pay34 (F := Ideal) (k0_pay30 (k0_pay2 x1 x0 x2) w) = k0_pay34 (mm (k0_pay2 x1 x0 x2) w) from rfl]
  generalize mm (k0_pay2 x1 x0 x2) w = v
  pointwise [k0_pay34]

theorem out16_at (p : Fin 512) (c : Fin 256) : out0_16 (F := Ideal) x0 x1 x2 x3 x4 x5 x6 x7 x8 x9 (ix3 0 p c)
    = pb x0 x1 x2 x3 p ⟨1024 + c.val, by omega⟩ * eighth := by
  rw [← mm13_at]
  unfold out0_16
  rw [View.canon_unit_zero hz3, pay46_eq]
  generalize View.ld x3 r0_13 = w
  rw [show k0_pay37 (F := Ideal) (k0_pay35 (k0_pay2 x1 x0 x2) w) k0_pay36 = k0_pay37 (mm (k0_pay2 x1 x0 x2) w) k0_pay36 from rfl]
  generalize mm (k0_pay2 x1 x0 x2) w = v
  pointwise [k0_pay37, k0_pay36, eighth]

theorem out17_at (p : Fin 512) (c : Fin 256) : out0_17 (F := Ideal) x0 x1 x2 x3 x4 x5 x6 x7 x8 x9 (ix3 0 p c)
    = pb x0 x1 x2 x3 p ⟨1280 + c.val, by omega⟩ := by
  rw [← mm14_at]
  unfold out0_17
  rw [View.canon_unit_zero hz3, pay46_eq]
  generalize View.ld x3 r0_14 = w
  rw [show k0_pay38 (F := Ideal) (k0_pay2 x1 x0 x2) w = shapeCast S1x512x256 (truncf .bf16 (mm (k0_pay2 x1 x0 x2) w) bitsLt_bf16_f32) shapeCasts_S512x256_S1x512x256 from rfl]
  generalize mm (k0_pay2 x1 x0 x2) w = v
  pointwise []

theorem out18_at (p : Fin 512) (c : Fin 256) : out0_18 (F := Ideal) x0 x1 x2 x3 x4 x5 x6 x7 x8 x9 (ix3 0 p c)
    = pb x0 x1 x2 x3 p ⟨1536 + c.val, by omega⟩ := by
  rw [← mm15_at]
  unfold out0_18
  rw [View.canon_unit_zero hz3, pay46_eq]
  generalize View.ld x3 r0_15 = w
  rw [show k0_pay39 (F := Ideal) (k0_pay2 x1 x0 x2) w = shapeCast S1x512x256 (truncf .bf16 (mm (k0_pay2 x1 x0 x2) w) bitsLt_bf16_f32) shapeCasts_S512x256_S1x512x256 from rfl]
  generalize mm (k0_pay2 x1 x0 x2) w = v
  pointwise []

theorem out19_at (p : Fin 512) (c : Fin 256) : out0_19 (F := Ideal) x0 x1 x2 x3 x4 x5 x6 x7 x8 x9 (ix3 0 p c)
    = pb x0 x1 x2 x3 p ⟨1792 + c.val, by omega⟩ := by
  rw [← mm16_at]
  unfold out0_19
  rw [View.canon_unit_zero hz3, pay46_eq]
  generalize View.ld x3 r0_16 = w
  rw [show k0_pay40 (F := Ideal) (k0_pay2 x1 x0 x2) w = shapeCast S1x512x256 (mm (k0_pay2 x1 x0 x2) w) shapeCasts_S512x256_S1x512x256 from rfl]
  generalize mm (k0_pay2 x1 x0 x2) w = v
  pointwise []

theorem out22_at (p : Fin 512) (c : Fin 256) : out0_22 (F := Ideal) x0 x1 x2 x3 x4 x5 x6 x7 x8 x9 (ix3 0 p c)
    = pb x0 x1 x2 x3 p ⟨2304 + c.val, by omega⟩ := by
  rw [← mm18_at]
  unfold out0_22
  rw [View.canon_unit_zero hz3, pay46_eq]
  generalize View.ld x3 r0_18 = w
  rw [show k0_pay43 (F := Ideal) (k0_pay2 x1 x0 x2) w = shapeCast S1x512x256 (truncf .bf16 (mm (k0_pay2 x1 x0 x2) w) bitsLt_bf16_f32) shapeCasts_S512x256_S1x512x256 from rfl]
  generalize mm (k0_pay2 x1 x0 x2) w = v
  pointwise []

theorem out23_at (p : Fin 512) (c : Fin 256) : out0_23 (F := Ideal) x0 x1 x2 x3 x4 x5 x6 x7 x8 x9 (ix3 0 p c)
    = pb x0 x1 x2 x3 p ⟨2560 + c.val, by omega⟩ := by
  rw [← mm19_at]
  unfold out0_23
  rw [View.canon_unit_zero hz3, pay46_eq]
  generalize View.ld x3 r0_19 = w
  rw [show k0_pay44 (F := Ideal) (k0_pay2 x1 x0 x2) w = shapeCast S1x512x256 (truncf .bf16 (mm (k0_pay2 x1 x0 x2) w) bitsLt_bf16_f32) shapeCasts_S512x256_S1x512x256 from rfl]
  generalize mm (k0_pay2 x1 x0 x2) w = v
  pointwise []

theorem out21_at (p : Fin 512) (c : Fin 256) : out0_21 (F := Ideal) x0 x1 x2 x3 x4 x5 x6 x7 x8 x9 (ix3 0 p c)
    = pb x0 x1 x2 x3 p ⟨2048 + c.val, by omega⟩ * eighth := by
  rw [← mm17_at]
  unfold out0_21
  rw [View.canon_unit_zero hz3, pay46_eq]
  generalize View.ld x3 r0_17 = w
  rw [show k0_pay42 (F := Ideal) (k0_pay41 (k0_pay2 x1 x0 x2) w) = k0_pay37 (mm (k0_pay2 x1 x0 x2) w) k0_pay36 from rfl]
  generalize mm (k0_pay2 x1 x0 x2) w = v
  pointwise [k0_pay37, k0_pay36, eighth]

theorem out20_at (p : Fin 512) (c : Fin 128) : out0_20 (F := Ideal) x0 x1 x2 x3 x4 x5 x6 x7 x8 x9 (ix3 0 p c)
    = pb x0 x1 x2 x3 p ⟨2816 + c.val, by omega⟩ + x9 (ix2 0 c) := by
  have hw : ∀ k : Fin 1024, View.ld x3 r0_20 (ix2 k c) = x3 (ix2 k ⟨2816 + c.val, by omega⟩) := fun k => by pointwise []
  unfold out0_20 pb
  rw [View.canon_unit_zero hz3, pay46_eq, View.ld_unit_zero (S := S1x128) hz2]
  simp only [← hw, ← pay2_at]
  generalize View.ld x3 r0_20 = w
  generalize k0_pay2 x1 x0 x2 = v
  pointwise [k0_pay1, k0_pay45]

end Cert.Kernel4Ideal.Value

end
-- ==== Proof.InpHost.lean ====
/-
  The arrays the input projection is called on, from the arguments of the host program.
-/
module

public import proofs.«01_k».proof.Proof.InpRows
public import Idealize.ShloMosaic.Lib.StableHlo.RunRead

@[expose] public section

noncomputable section

namespace Cert.Kernel4Ideal.Value

open Cert.Kernel4Ideal Cert.Kernel4Ideal.Gen Idealize.ShloMosaic Idealize.ShloMosaic.TcCoe Idealize.SL.Sem
open Cert.Inp

variable (m : (ℓ : Loc nD τ sig) → Buf (Elt Ideal) ℓ) (c : Dev nD)

theorem V_g1 (k : Fin 1024) : V m c main_v50 (ix2 0 k) = m ((c : Thread nD τ).loc main_arg2) (ix1 k) := by
  unfold V
  after_reads_simp
  pointwise []

/-- A quotient by 64, rounded down. -/
def quo (x : BitVec 32) : BitVec 32 :=
  Scalar.select
    (IntOp.andi
      (IntOp.cmpi CmpIPredicate.ne (if x = 0 then 0 else if x.msb = true then -1 else 1)
        (if (64#32 : BitVec 32) = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem quo_eq : ∀ j : Fin 256, quo (BitVec.ofNat 32 j.val) = BitVec.ofNat 32 (j.val / 64) := by decide +kernel

theorem same_eq : ∀ a b : Fin 4, IntOp.cmpi CmpIPredicate.eq (BitVec.ofNat 32 a.val) (BitVec.ofNat 32 b.val)
    = if a.val = b.val then 1#1 else 0#1 := by decide +kernel

theorem V_pool (j k : Fin 256) : V m c main_v49 (ix2 j k) = if j.val / 64 = k.val / 64 then part64 else (0 : EReal) := by
  unfold V
  after_reads_simp
  simp -implicitDefEqProofs only [StableHlo.TRef.toBuf, StableHlo.TRef.ofBuf, cast_cast, cast_eq]
  pointwise []
  show Scalar.select (IntOp.cmpi CmpIPredicate.eq (quo (BitVec.ofNat 32 j.val)) (quo (BitVec.ofNat 32 k.val))) part64 (0 : EReal) = _
  rw [quo_eq, quo_eq, same_eq ⟨j.val / 64, by omega⟩ ⟨k.val / 64, by omega⟩]
  by_cases h : j.val / 64 = k.val / 64
  · rw [if_pos h, if_pos h]; rfl
  · rw [if_neg h, if_neg h]; rfl

theorem V_gq (k : Fin 256) : V m c main_v74 (ix2 0 k) = m ((c : Thread nD τ).loc main_arg4) (ix1 ⟨k.val % 64, by omega⟩) := by
  unfold V
  after_reads_simp
  pointwise []

theorem V_gk (k : Fin 128) : V m c main_v78 (ix2 0 k) = m ((c : Thread nD τ).loc main_arg5) (ix1 ⟨k.val % 64, by omega⟩) := by
  unfold V
  after_reads_simp
  pointwise []

theorem V_gb (k : Fin 128) : V m c main_v80 (ix2 0 k)
    = if h : k.val < 16 then (m ((c : Thread nD τ).loc main_arg6) (ix1 ⟨k.val, h⟩) : EReal) else (0 : EReal) := by
  unfold V
  after_reads_simp
  simp -implicitDefEqProofs only [StableHlo.TRef.toBuf, StableHlo.TRef.ofBuf, cast_cast, cast_eq]
  pointwise []
  by_cases h : k.val < 16
  · rw [dif_pos h, dif_pos h]
  · rw [dif_neg h, dif_neg h]
    show (((0#32 : BitVec 32).toInt : ℝ) : EReal) = 0
    simp

section Weights

variable (k : Fin 1024) (n : Fin 2944) (j : Fin 2832)

theorem V_W_a (h0 : 0 ≤ n.val) (h1 : n.val < 256) (hj : j.val = n.val / 64 % 2 * 128 + n.val / 128 * 64 + n.val % 64) :
    V m c main_v70 (ix2 k n) = m ((c : Thread nD τ).loc main_arg3) (ix2 k j) := by
  unfold V
  after_reads_simp
  pointwise []
  after_reads_simp
  pointwise []
  after_reads_simp
  pointwise []
  have leaf : ∀ i : Fin 2832, i.val = j.val →
      m (c, Proc.tc.devRef main_arg3) (ix2 k i) = m (c, Proc.tc.devRef main_arg3) (ix2 k j) := fun i h => by rw [Fin.ext h]
  refine (dif_pos (show n.val < 256 by omega)).trans ?_
  by_cases q0 : n.val < 64
  · exact (dif_pos q0).trans (leaf _ (by show n.val = _; omega))
  refine (dif_neg q0).trans ?_
  by_cases q1 : n.val - 64 < 64
  · exact (dif_pos q1).trans (leaf _ (by show 128 + (n.val - 64) = _; omega))
  refine (dif_neg q1).trans ?_
  by_cases q2 : n.val - 64 - 64 < 64
  · exact (dif_pos q2).trans (leaf _ (by show 64 + (n.val - 64 - 64) = _; omega))
  refine (dif_neg q2).trans ?_
  exact leaf _ (by show 192 + (n.val - 64 - 64 - 64) = _; omega)

theorem V_W_b (h0 : 256 ≤ n.val) (h1 : n.val < 512) (hj : j.val = n.val) :
    V m c main_v70 (ix2 k n) = m ((c : Thread nD τ).loc main_arg3) (ix2 k j) := by
  unfold V
  after_reads_simp
  pointwise []
  after_reads_simp
  pointwise []
  after_reads_simp
  pointwise []
  have leaf : ∀ i : Fin 2832, i.val = j.val →
      m (c, Proc.tc.devRef main_arg3) (ix2 k i) = m (c, Proc.tc.devRef main_arg3) (ix2 k j) := fun i h => by rw [Fin.ext h]
  refine (dif_neg (show ¬ n.val < 256 by omega)).trans ?_
  refine (dif_pos (show n.val - 256 < 256 by omega)).trans ?_
  exact leaf _ (by show 256 + (n.val - 256) = _; omega)

theorem V_W_c (h0 : 512 ≤ n.val) (h1 : n.val < 768) (hj : j.val = 512 + ((n.val - 512) / 64 % 2 * 128 + (n.val - 512) / 128 * 64 + n.val % 64)) :
    V m c main_v70 (ix2 k n) = m ((c : Thread nD τ).loc main_arg3) (ix2 k j) := by
  unfold V
  after_reads_simp
  pointwise []
  after_reads_simp
  pointwise []
  after_reads_simp
  pointwise []
  have leaf : ∀ i : Fin 2832, i.val = j.val →
      m (c, Proc.tc.devRef main_arg3) (ix2 k i) = m (c, Proc.tc.devRef main_arg3) (ix2 k j) := fun i h => by rw [Fin.ext h]
  refine (dif_neg (show ¬ n.val < 256 by omega)).trans ?_
  refine (dif_neg (show ¬ n.val - 256 < 256 by omega)).trans ?_
  refine (dif_pos (show n.val - 256 - 256 < 256 by omega)).trans ?_
  by_cases q0 : n.val - 256 - 256 < 64
  · exact (dif_pos q0).trans (leaf _ (by show 512 + (n.val - 256 - 256) = _; omega))
  refine (dif_neg q0).trans ?_
  by_cases q1 : n.val - 256 - 256 - 64 < 64
  · exact (dif_pos q1).trans (leaf _ (by show 512 + (128 + (n.val - 256 - 256 - 64)) = _; omega))
  refine (dif_neg q1).trans ?_
  by_cases q2 : n.val - 256 - 256 - 64 - 64 < 64
  · exact (dif_pos q2).trans (leaf _ (by show 512 + (64 + (n.val - 256 - 256 - 64 - 64)) = _; omega))
  refine (dif_neg q2).trans ?_
  exact leaf _ (by show 512 + (192 + (n.val - 256 - 256 - 64 - 64 - 64)) = _; omega)

theorem V_W_d (h0 : 768 ≤ n.val) (h1 : n.val < 1024) (hj : j.val = n.val) :
    V m c main_v70 (ix2 k n) = m ((c : Thread nD τ).loc main_arg3) (ix2 k j) := by
  unfold V
  after_reads_simp
  pointwise []
  after_reads_simp
  pointwise []
  after_reads_simp
  pointwise []
  have leaf : ∀ i : Fin 2832, i.val = j.val →
      m (c, Proc.tc.devRef main_arg3) (ix2 k i) = m (c, Proc.tc.devRef main_arg3) (ix2 k j) := fun i h => by rw [Fin.ext h]
  refine (dif_neg (show ¬ n.val < 256 by omega)).trans ?_
  refine (dif_neg (show ¬ n.val - 256 < 256 by omega)).trans ?_
  refine (dif_neg (show ¬ n.val - 256 - 256 < 256 by omega)).trans ?_
  refine (dif_pos (show n.val - 256 - 256 - 256 < 256 by omega)).trans ?_
  exact leaf _ (by show 768 + (n.val - 256 - 256 - 256) = _; omega)

theorem V_W_e (h0 : 1024 ≤ n.val) (h1 : n.val < 2048) (hj : j.val = n.val) :
    V m c main_v70 (ix2 k n) = m ((c : Thread nD τ).loc main_arg3) (ix2 k j) := by
  unfold V
  after_reads_simp
  pointwise []
  after_reads_simp
  pointwise []
  after_reads_simp
  pointwise []
  have leaf : ∀ i : Fin 2832, i.val = j.val →
      m (c, Proc.tc.devRef main_arg3) (ix2 k i) = m (c, Proc.tc.devRef main_arg3) (ix2 k j) := fun i h => by rw [Fin.ext h]
  refine (dif_neg (show ¬ n.val < 256 by omega)).trans ?_
  refine (dif_neg (show ¬ n.val - 256 < 256 by omega)).trans ?_
  refine (dif_neg (show ¬ n.val - 256 - 256 < 256 by omega)).trans ?_
  refine (dif_neg (show ¬ n.val - 256 - 256 - 256 < 256 by omega)).trans ?_
  refine (dif_pos (show n.val - 256 - 256 - 256 - 256 < 1024 by omega)).trans ?_
  exact leaf _ (by show 1024 + (n.val - 256 - 256 - 256 - 256) = _; omega)

theorem V_W_f (h0 : 2048 ≤ n.val) (h1 : n.val < 2816) (hj : j.val = 2064 + (n.val - 2048)) :
    V m c main_v70 (ix2 k n) = m ((c : Thread nD τ).loc main_arg3) (ix2 k j) := by
  unfold V
  after_reads_simp
  pointwise []
  after_reads_simp
  pointwise []
  after_reads_simp
  pointwise []
  have leaf : ∀ i : Fin 2832, i.val = j.val →
      m (c, Proc.tc.devRef main_arg3) (ix2 k i) = m (c, Proc.tc.devRef main_arg3) (ix2 k j) := fun i h => by rw [Fin.ext h]
  refine (dif_neg (show ¬ n.val < 256 by omega)).trans ?_
  refine (dif_neg (show ¬ n.val - 256 < 256 by omega)).trans ?_
  refine (dif_neg (show ¬ n.val - 256 - 256 < 256 by omega)).trans ?_
  refine (dif_neg (show ¬ n.val - 256 - 256 - 256 < 256 by omega)).trans ?_
  refine (dif_neg (show ¬ n.val - 256 - 256 - 256 - 256 < 1024 by omega)).trans ?_
  refine (dif_pos (show n.val - 256 - 256 - 256 - 256 - 1024 < 768 by omega)).trans ?_
  exact leaf _ (by show 2064 + (n.val - 256 - 256 - 256 - 256 - 1024) = _; omega)

theorem V_W_g (h0 : 2816 ≤ n.val) (h1 : n.val < 2832) (hj : j.val = 2048 + (n.val - 2816)) :
    V m c main_v70 (ix2 k n) = m ((c : Thread nD τ).loc main_arg3) (ix2 k j) := by
  unfold V
  after_reads_simp
  pointwise []
  after_reads_simp
  pointwise []
  after_reads_simp
  pointwise []
  have leaf : ∀ i : Fin 2832, i.val = j.val →
      m (c, Proc.tc.devRef main_arg3) (ix2 k i) = m (c, Proc.tc.devRef main_arg3) (ix2 k j) := fun i h => by rw [Fin.ext h]
  refine (dif_neg (show ¬ n.val < 256 by omega)).trans ?_
  refine (dif_neg (show ¬ n.val - 256 < 256 by omega)).trans ?_
  refine (dif_neg (show ¬ n.val - 256 - 256 < 256 by omega)).trans ?_
  refine (dif_neg (show ¬ n.val - 256 - 256 - 256 < 256 by omega)).trans ?_
  refine (dif_neg (show ¬ n.val - 256 - 256 - 256 - 256 < 1024 by omega)).trans ?_
  refine (dif_neg (show ¬ n.val - 256 - 256 - 256 - 256 - 1024 < 768 by omega)).trans ?_
  refine (dif_pos (show n.val - 256 - 256 - 256 - 256 - 1024 - 768 < 16 by omega)).trans ?_
  exact leaf _ (by show 2048 + (n.val - 256 - 256 - 256 - 256 - 1024 - 768) = _; omega)

/-- The padding is zero. -/
theorem V_W_pad (hn : 2832 ≤ n.val) : V m c main_v70 (ix2 k n) = (0 : EReal) := by
  unfold V
  after_reads_simp
  pointwise []
  after_reads_simp
  pointwise []
  after_reads_simp
  pointwise []
  refine (dif_neg (show ¬ n.val < 256 by omega)).trans ?_
  refine (dif_neg (show ¬ n.val - 256 < 256 by omega)).trans ?_
  refine (dif_neg (show ¬ n.val - 256 - 256 < 256 by omega)).trans ?_
  refine (dif_neg (show ¬ n.val - 256 - 256 - 256 < 256 by omega)).trans ?_
  refine (dif_neg (show ¬ n.val - 256 - 256 - 256 - 256 < 1024 by omega)).trans ?_
  refine (dif_neg (show ¬ n.val - 256 - 256 - 256 - 256 - 1024 < 768 by omega)).trans ?_
  refine (dif_neg (show ¬ n.val - 256 - 256 - 256 - 256 - 1024 - 768 < 16 by omega)).trans ?_
  rfl

end Weights

end Cert.Kernel4Ideal.Value

end
-- ==== Proof.InpTables.lean ====
/-
  The tables of cosines and signed sines that the input projection is called on are those of the reference's angles.
-/
module

public import proofs.«01_k».proof.Proof.InpHost
public import proofs.«01_k».proof.Proof.Gen.Reference4Ideal.Read

@[expose] public section

noncomputable section

namespace Cert.Kernel4Ideal.Value

open Cert.Kernel4Ideal Cert.Kernel4Ideal.Gen Idealize.ShloMosaic Idealize.ShloMosaic.TcCoe Idealize.SL.Sem
open Cert.Inp
open Cert.Reference4Ideal.Read (val_main_v56 val_main_v61)

variable (m : (ℓ : Loc nD τ sig) → Buf (Elt Ideal) ℓ) (c : Dev nD)

theorem ang_row (R C : (⟨2, ![8192, 16]⟩ : Shape).Idx → EReal) (s : Fin 8192) (d : Fin 64) (l : Fin 16) (h : d.val < 32)
    (hl : l.val = d.val % 16) : ang R C s d = R (ix2 s l) := by
  unfold ang
  rw [if_pos h]
  exact congrArg (fun l => R (ix2 s l)) (Fin.ext hl.symm)

theorem ang_col (R C : (⟨2, ![8192, 16]⟩ : Shape).Idx → EReal) (s : Fin 8192) (d : Fin 64) (l : Fin 16) (h : ¬ d.val < 32)
    (hl : l.val = d.val % 16) : ang R C s d = C (ix2 s l) := by
  unfold ang
  rw [if_neg h]
  exact congrArg (fun l => C (ix2 s l)) (Fin.ext hl.symm)

theorem U_v21 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 65 (Proc.tc.devRef main_v21) (ix2 s l) = Ideal.cos (val_main_v56 (F := Ideal) (ix2 s l)) := by
  after_reads_simp
  simp -implicitDefEqProofs only [StableHlo.TRef.toBuf, StableHlo.TRef.ofBuf, cast_cast, cast_eq]
  rfl

theorem U_v22 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 65 (Proc.tc.devRef main_v22) (ix2 s l) = Ideal.cos (val_main_v56 (F := Ideal) (ix2 s l)) := by
  after_reads_simp
  simp -implicitDefEqProofs only [StableHlo.TRef.toBuf, StableHlo.TRef.ofBuf, cast_cast, cast_eq]
  rfl

theorem U_v23 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 65 (Proc.tc.devRef main_v23) (ix2 s l) = Ideal.cos (val_main_v61 (F := Ideal) (ix2 s l)) := by
  after_reads_simp
  simp -implicitDefEqProofs only [StableHlo.TRef.toBuf, StableHlo.TRef.ofBuf, cast_cast, cast_eq]
  rfl

theorem U_v24 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 65 (Proc.tc.devRef main_v24) (ix2 s l) = Ideal.cos (val_main_v61 (F := Ideal) (ix2 s l)) := by
  after_reads_simp
  simp -implicitDefEqProofs only [StableHlo.TRef.toBuf, StableHlo.TRef.ofBuf, cast_cast, cast_eq]
  rfl

theorem U_v27 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 72 (Proc.tc.devRef main_v27) (ix2 s l) = -(Ideal.sin (val_main_v56 (F := Ideal) (ix2 s l))) := by
  after_reads_simp
  simp -implicitDefEqProofs only [StableHlo.TRef.toBuf, StableHlo.TRef.ofBuf, cast_cast, cast_eq]
  rfl

theorem U_v28 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 72 (Proc.tc.devRef main_v28) (ix2 s l) = Ideal.sin (val_main_v56 (F := Ideal) (ix2 s l)) := by
  after_reads_simp
  simp -implicitDefEqProofs only [StableHlo.TRef.toBuf, StableHlo.TRef.ofBuf, cast_cast, cast_eq]
  rfl

theorem U_v30 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 72 (Proc.tc.devRef main_v30) (ix2 s l) = -(Ideal.sin (val_main_v61 (F := Ideal) (ix2 s l))) := by
  after_reads_simp
  simp -implicitDefEqProofs only [StableHlo.TRef.toBuf, StableHlo.TRef.ofBuf, cast_cast, cast_eq]
  rfl

theorem U_v31 (s : Fin 8192) (l : Fin 16) :
    StableHlo.upto [hostOps0, hostOps0_1, hostOps0_2, hostOps0_3, hostOps0_4, hostOps0_5, hostOps0_6, hostOps0_7,
      hostOps0_8, hostOps0_9, hostOps0_10, hostOps0_11, hostOps0_12].flatten
      (fun b => m (c, b)) 72 (Proc.tc.devRef main_v31) (ix2 s l) = Ideal.sin (val_main_v61 (F := Ideal) (ix2 s l)) := by
  after_reads_simp
  simp -implicitDefEqProofs only [StableHlo.TRef.toBuf, StableHlo.TRef.ofBuf, cast_cast, cast_eq]
  rfl

theorem sgnSin_neg (A : Fin 64 → EReal) (d : Fin 64) (h : d.val % 32 < 16) : sgnSin A d = -(Ideal.sin (A d)) := if_pos h

theorem sgnSin_pos (A : Fin 64 → EReal) (d : Fin 64) (h : ¬ d.val % 32 < 16) : sgnSin A d = Ideal.sin (A d) := if_neg h

theorem V_cos (s : Fin 8192) (h : Fin 2) (d : Fin 64) : V m c main_v35 (ix2 s (hc2 h d))
    = Ideal.cos ((ang (val_main_v56 (F := Ideal)) (val_main_v61 (F := Ideal)) s) d) := by
  have hm : (hc2 h d).val % 64 = d.val := by show (h.val * 64 + d.val) % 64 = d.val; omega
  unfold V
  after_reads_simp
  pointwise []
  by_cases h0 : (hc2 h d).val % 64 < 16
  · refine (dif_pos h0).trans ?_
    refine (U_v21 m c s _).trans ?_
    exact congrArg Ideal.cos (ang_row _ _ s d _ (by omega) (by show (hc2 h d).val % 64 = _; omega)).symm
  refine (dif_neg h0).trans ?_
  by_cases h1 : (hc2 h d).val % 64 - 16 < 16
  · refine (dif_pos h1).trans ?_
    refine (U_v22 m c s _).trans ?_
    exact congrArg Ideal.cos (ang_row _ _ s d _ (by omega) (by show (hc2 h d).val % 64 - 16 = _; omega)).symm
  refine (dif_neg h1).trans ?_
  by_cases h2 : (hc2 h d).val % 64 - 16 - 16 < 16
  · refine (dif_pos h2).trans ?_
    refine (U_v23 m c s _).trans ?_
    exact congrArg Ideal.cos (ang_col _ _ s d _ (by omega) (by show (hc2 h d).val % 64 - 16 - 16 = _; omega)).symm
  refine (dif_neg h2).trans ?_
  refine (U_v24 m c s _).trans ?_
  exact congrArg Ideal.cos (ang_col _ _ s d _ (by omega) (by show (hc2 h d).val % 64 - 16 - 16 - 16 = _; omega)).symm

theorem V_sin (s : Fin 8192) (h : Fin 2) (d : Fin 64) : V m c main_v38 (ix2 s (hc2 h d))
    = sgnSin (ang (val_main_v56 (F := Ideal)) (val_main_v61 (F := Ideal)) s) d := by
  have hm : (hc2 h d).val % 64 = d.val := by show (h.val * 64 + d.val) % 64 = d.val; omega
  unfold V
  after_reads_simp
  pointwise []
  by_cases h0 : (hc2 h d).val % 64 < 16
  · refine (dif_pos h0).trans ?_
    refine (U_v27 m c s _).trans ?_
    exact (congrArg (fun a => -(Ideal.sin a)) (ang_row _ _ s d _ (by omega) (by show (hc2 h d).val % 64 = _; omega)).symm).trans (sgnSin_neg _ d (by omega)).symm
  refine (dif_neg h0).trans ?_
  by_cases h1 : (hc2 h d).val % 64 - 16 < 16
  · refine (dif_pos h1).trans ?_
    refine (U_v28 m c s _).trans ?_
    exact (congrArg Ideal.sin (ang_row _ _ s d _ (by omega) (by show (hc2 h d).val % 64 - 16 = _; omega)).symm).trans (sgnSin_pos _ d (by omega)).symm
  refine (dif_neg h1).trans ?_
  by_cases h2 : (hc2 h d).val % 64 - 16 - 16 < 16
  · refine (dif_pos h2).trans ?_
    refine (U_v30 m c s _).trans ?_
    exact (congrArg (fun a => -(Ideal.sin a)) (ang_col _ _ s d _ (by omega) (by show (hc2 h d).val % 64 - 16 - 16 = _; omega)).symm).trans (sgnSin_neg _ d (by omega)).symm
  refine (dif_neg h2).trans ?_
  refine (U_v31 m c s _).trans ?_
  exact (congrArg Ideal.sin (ang_col _ _ s d _ (by omega) (by show (hc2 h d).val % 64 - 16 - 16 - 16 = _; omega)).symm).trans (sgnSin_pos _ d (by omega)).symm

end Cert.Kernel4Ideal.Value

end
-- ==== Proof.InpPre.lean ====
/-
  The precondition of the input projection read: where it holds, the modulation, the norm's gains and the weights are
  numbers. Of numbers, and of any rows, the projected rows are numbers.
-/
module

public import proofs.«01_k».proof.Proof.Pre
public import proofs.«01_k».proof.Proof.InpPool
public import proofs.«01_k».proof.Pre_numbers

@[expose] public section

noncomputable section

namespace Cert.Pre_numbers

open Idealize.ShloMosaic
open Cert.Attn (Num)
open Cert.Pre_finite (inf_bits num_of_abs)

instance facts : Cert.Pre_numbers.Facts where
  bcast_S_S8x1x6144 := by decide
  reducesTo_S8x1x6144_S_d0_1_2 := by decide
  h_S_ := by decide
  bcast_S_S1024 := by decide
  reducesTo_S1024_S_d0 := by decide
  bcast_S_S1024x2832 := by decide
  reducesTo_S1024x2832_S_d0_1 := by decide

instance : Subsingleton S_.Idx := ⟨fun a b => funext fun i => i.elim0⟩

/-- One array's part of the precondition. -/
theorem nums_of_all {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf (F := Ideal) .olt (Host.absf x) (broadcastInDim s ![] hb (constant (F := Ideal) S_ .f32 0x7F800000#32)))
      (constantI S_ 1 1#1) hr hu j = 1#1) (i : s.Idx) : Num (x i) := by
  have h1 := Host.reduce_andi_all _ _ hr hu j h i
  apply num_of_abs
  rw [← inf_bits]
  have h2 : Ideal.cmp .olt (max (x i) (-(x i))) (Ideal.ofBits FTy.f32 0x7F800000#32) = 1#1 := h1
  by_contra hn
  have h3 : Ideal.cmp .olt (max (x i) (-(x i))) (Ideal.ofBits FTy.f32 0x7F800000#32) = 0#1 := by
    unfold Ideal.cmp
    simp [hn]
  rw [h3] at h2
  exact absurd h2 (by decide)

/-- Where the precondition holds, the modulation, the gains and the weights are numbers. -/
theorem nums (x : FVec Ideal S2x8192x1024 .f32) (mod : FVec Ideal S8x1x6144 .f32) (g : FVec Ideal S1024 .f32)
    (w : FVec Ideal S1024x2832 .f32) (a k : FVec Ideal S64 .f32) (c : FVec Ideal S16 .f32)
    (h : fn (F := Ideal) x mod g w a k c = fun _ => 1#1) : (∀ i, Num (mod i)) ∧ (∀ i, Num (g i)) ∧ (∀ i, Num (w i)) := by
  have h0 := congrFun h (fun i => i.elim0)
  unfold fn at h0
  obtain ⟨h1, h2⟩ := IntOp.andi_eq_one.1 h0
  obtain ⟨h3, h4⟩ := IntOp.andi_eq_one.1 h1
  exact ⟨nums_of_all mod _ _ _ _ h3, nums_of_all g _ _ _ _ h4, nums_of_all w _ _ _ _ h2⟩

end Cert.Pre_numbers

namespace Cert.Inp

open Idealize.ShloMosaic
open Cert.Attn (Num num_coe)
open Cert.Ffn (modRow modAt rms meanSq)

theorem sq_nonneg (x : EReal) : 0 ≤ x * x := by
  induction x with
  | bot => simp
  | top => simp
  | coe r => rw [← EReal.coe_mul]; exact EReal.coe_nonneg.2 (mul_self_nonneg r)

theorem sq_top {x : EReal} (h : x * x ≠ ⊤) : Num x := by
  refine ⟨fun e => h ?_, fun e => h ?_⟩ <;> subst e <;> rfl

/-- A row divided by the root of its mean square is made of numbers, whatever the row. -/
theorem rms_num (v : Fin 1024 → EReal) (k : Fin 1024) : Num (rms v k) := by
  have hinv : (0 : ℝ) < (1024 : ℝ)⁻¹ := by norm_num
  have hms : meanSq v = (∑ k, v k * v k) * (((1024 : ℝ)⁻¹ : ℝ) : EReal) := by
    have h1024 : ((1024 : ℝ) : EReal) ≠ 0 := by norm_cast
    unfold meanSq Ideal.div
    rw [thousand24, if_neg h1024, ← EReal.coe_inv]
  have hs : 0 ≤ ∑ k, v k * v k := Finset.sum_nonneg fun k _ => sq_nonneg (v k)
  unfold rms
  by_cases ht : (∑ k, v k * v k) = ⊤
  · rw [hms, ht, EReal.top_mul_coe_of_pos hinv, eps_eq, EReal.top_add_coe]
    show Num (v k * 0)
    rw [mul_zero]
    exact num_coe 0
  · have hv : Num (v k) := sq_top fun e => ht (top_le_iff.1 (e ▸ Finset.single_le_sum (f := fun k => v k * v k)
      (fun k _ => sq_nonneg (v k)) (Finset.mem_univ k)))
    have hr : (∑ k, v k * v k) = (((∑ k, v k * v k).toReal : ℝ) : EReal) :=
      (EReal.coe_toReal ht (fun e => by rw [e] at hs; simp at hs)).symm
    have h0 : 0 ≤ (∑ k, v k * v k).toReal := EReal.toReal_nonneg hs
    rw [hms, hr, eps_eq, ← EReal.coe_mul, ← EReal.coe_add]
    have hp : 0 < (∑ k, v k * v k).toReal * (1024 : ℝ)⁻¹ + 8796093 / 2 ^ 43 :=
      add_pos_of_nonneg_of_pos (mul_nonneg h0 hinv.le) (by norm_num)
    generalize (∑ k, v k * v k).toReal * (1024 : ℝ)⁻¹ + 8796093 / 2 ^ 43 = r at hp
    have hq : Ideal.rsqrt ((r : ℝ) : EReal) = (((Real.sqrt r)⁻¹ : ℝ) : EReal) := by
      show (if r < 0 then (⊥ : EReal) else if r = 0 then ⊤ else (((Real.sqrt r)⁻¹ : ℝ) : EReal)) = _
      rw [if_neg (not_lt.2 hp.le), if_neg hp.ne']
    rw [hq]
    exact hv.mul (num_coe _)

variable (X : (⟨3, ![2, 8192, 1024]⟩ : Shape).Idx → EReal) (M : (⟨3, ![8, 1, 6144]⟩ : Shape).Idx → EReal)
  (G : (⟨1, ![1024]⟩ : Shape).Idx → EReal) (W : (⟨2, ![1024, 2832]⟩ : Shape).Idx → EReal)

theorem hid_num (hM : ∀ i, Num (M i)) (hG : ∀ i, Num (G i)) (b : Fin 2) (s : Fin 8192) (k : Fin 1024) :
    Num (hid X M G b s k) :=
  Num.add (((rms_num _ k).mul (hG _)).mul (Num.add one_eq (hM _))) (hM _)

theorem prj_num (hM : ∀ i, Num (M i)) (hG : ∀ i, Num (G i)) (hW : ∀ i, Num (W i)) (b : Fin 2) (s : Fin 8192) (n : Fin 2832) :
    Num (prj X M G W b s n) :=
  Num.sum _ _ fun k _ => (hid_num X M G hM hG b s k).mul (hW _)

end Cert.Inp

end
-- ==== Proof.InpBlocks.lean ====
/-
  The blocks that grid point `16 b + i` of the input projection is given: 512 rows of batch row `b`, the modulation row of
  `b`, 512 rows of the tables of cosines and sines, and the gains, the weights and the table of heads, whole.  From them
  the columns the grid point projects are columns of the projection of the arguments.
-/
module

public import proofs.«01_k».proof.Proof.InpTables
public import proofs.«01_k».proof.Proof.InpPre
public import proofs.«01_k».proof.Proof.FfnBlocks

@[expose] public section

noncomputable section

namespace Cert.Kernel4Ideal.Value

open Cert.Kernel4Ideal Cert.Kernel4Ideal.Gen Idealize.ShloMosaic Idealize.ShloMosaic.TcCoe Idealize.SL.Sem
open Cert.KernelIdeal.Value (idx3_ext)
open Cert.Kernel2Ideal.Value (idx2_ext)
open Cert.Reference4Ideal.Read (val_main_v56 val_main_v61)
open Cert.Attn (Num)
open Cert.Ffn (modAt modRow)
open Cert.Inp

variable (m : (ℓ : Loc nD τ sig) → Buf (Elt Ideal) ℓ)

theorem index0 : ∀ t : Fin grid0.N, win0_0.index t = ![t.val / 16, t.val % 16, 0] := by decide +kernel
theorem index10 : ∀ t : Fin grid0.N, win0_10.index t = ![t.val / 16, t.val % 16, 0] := by decide +kernel
theorem index11 : ∀ t : Fin grid0.N, win0_11.index t = ![t.val / 16, t.val % 16, 0] := by decide +kernel
theorem index12 : ∀ t : Fin grid0.N, win0_12.index t = ![t.val / 16, t.val % 16, 0] := by decide +kernel
theorem index13 : ∀ t : Fin grid0.N, win0_13.index t = ![t.val / 16, t.val % 16, 0] := by decide +kernel
theorem index14 : ∀ t : Fin grid0.N, win0_14.index t = ![t.val / 16, t.val % 16, 0] := by decide +kernel
theorem index15 : ∀ t : Fin grid0.N, win0_15.index t = ![t.val / 16, t.val % 16, 0] := by decide +kernel
theorem index16 : ∀ t : Fin grid0.N, win0_16.index t = ![t.val / 16, t.val % 16, 0] := by decide +kernel
theorem index17 : ∀ t : Fin grid0.N, win0_17.index t = ![t.val / 16, t.val % 16, 0] := by decide +kernel
theorem index18 : ∀ t : Fin grid0.N, win0_18.index t = ![t.val / 16, t.val % 16, 0] := by decide +kernel
theorem index19 : ∀ t : Fin grid0.N, win0_19.index t = ![t.val / 16, t.val % 16, 0] := by decide +kernel
theorem index20 : ∀ t : Fin grid0.N, win0_20.index t = ![t.val / 16, t.val % 16, 0] := by decide +kernel
theorem index21 : ∀ t : Fin grid0.N, win0_21.index t = ![t.val / 16, t.val % 16, 0] := by decide +kernel
theorem index22 : ∀ t : Fin grid0.N, win0_22.index t = ![t.val / 16, t.val % 16, 0] := by decide +kernel
theorem index23 : ∀ t : Fin grid0.N, win0_23.index t = ![t.val / 16, t.val % 16, 0] := by decide +kernel
theorem index1 : ∀ t : Fin grid0.N, win0_1.index t = ![t.val / 16, 0, 0] := by decide +kernel
theorem index7 : ∀ t : Fin grid0.N, win0_7.index t = ![t.val % 16, 0] := by decide +kernel
theorem index8 : ∀ t : Fin grid0.N, win0_8.index t = ![t.val % 16, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index9 : ∀ t : Fin grid0.N, win0_9.index t = ![0, 0] := by decide +kernel

section Blocks

variable (c : Dev nD) (t : Fin cfg0.N) (b : Fin 2) (i : Fin 16) (ht : t.val = b.val * 16 + i.val)

include ht

theorem div_t : t.val / 16 = b.val := by omega
theorem mod_t : t.val % 16 = i.val := by omega

theorem blk0 (r : Fin 512) (k : Fin 1024) : (iblk m c 0 t : Vec Ideal S1x512x1024 .f32) (ix3 0 r k)
    = m ((c : Thread nD τ).loc main_arg0) (ix3 b ⟨i.val * 512 + r.val, by omega⟩ k) := by
  rw [← V_main_arg0 m c]
  show V m c main_arg0 ((win0_0.rect t).emb (ix3 0 r k)) = _
  refine congrArg _ (idx3_ext _ _ ?_ ?_ ?_)
  · refine (win0_0.rect_emb_val t _ 0).trans ?_
    rw [index0]; show t.val / 16 * 1 + 0 = b.val; rw [div_t t b i ht]; omega
  · refine (win0_0.rect_emb_val t _ 1).trans ?_
    rw [index0]; show t.val % 16 * 512 + r.val = i.val * 512 + r.val; rw [mod_t t b i ht]
  · refine (win0_0.rect_emb_val t _ 2).trans ?_
    rw [index0]; show 0 * 1024 + k.val = k.val; omega

theorem blk1 (k : Fin 6144) : (iblk m c 1 t : Vec Ideal S1x1x6144 .f32) (ix3 0 0 k)
    = m ((c : Thread nD τ).loc main_arg1) (ix3 ⟨b.val, by omega⟩ 0 k) := by
  rw [← V_main_arg1 m c]
  show V m c main_arg1 ((win0_1.rect t).emb (ix3 0 0 k)) = _
  refine congrArg _ (idx3_ext _ _ ?_ ?_ ?_)
  · refine (win0_1.rect_emb_val t _ 0).trans ?_
    rw [index1]; show t.val / 16 * 1 + 0 = b.val; rw [div_t t b i ht]; omega
  · refine (win0_1.rect_emb_val t _ 1).trans ?_
    rw [index1]; show 0 * 1 + 0 = 0; rfl
  · refine (win0_1.rect_emb_val t _ 2).trans ?_
    rw [index1]; show 0 * 6144 + k.val = k.val; omega

theorem blk7 (r : Fin 512) (h : Fin 2) (d : Fin 64) : (iblk m c 7 t : Vec Ideal S512x128 .f32) (ix2 r (hc2 h d))
    = Ideal.cos (ang (val_main_v56 (F := Ideal)) (val_main_v61 (F := Ideal)) ⟨i.val * 512 + r.val, by omega⟩ d) := by
  refine Eq.trans ?_ (V_cos m c ⟨i.val * 512 + r.val, by omega⟩ h d)
  show V m c main_v35 ((win0_7.rect t).emb (ix2 r (hc2 h d))) = _
  refine congrArg _ (idx2_ext _ _ ?_ ?_)
  · refine (win0_7.rect_emb_val t _ 0).trans ?_
    rw [index7]; show t.val % 16 * 512 + r.val = i.val * 512 + r.val; rw [mod_t t b i ht]
  · refine (win0_7.rect_emb_val t _ 1).trans ?_
    rw [index7]; show 0 * 128 + (hc2 h d).val = (hc2 h d).val; omega

theorem blk8 (r : Fin 512) (h : Fin 2) (d : Fin 64) : (iblk m c 8 t : Vec Ideal S512x128 .f32) (ix2 r (hc2 h d))
    = sgnSin (ang (val_main_v56 (F := Ideal)) (val_main_v61 (F := Ideal)) ⟨i.val * 512 + r.val, by omega⟩) d := by
  refine Eq.trans ?_ (V_sin m c ⟨i.val * 512 + r.val, by omega⟩ h d)
  show V m c main_v38 ((win0_8.rect t).emb (ix2 r (hc2 h d))) = _
  refine congrArg _ (idx2_ext _ _ ?_ ?_)
  · refine (win0_8.rect_emb_val t _ 0).trans ?_
    rw [index8]; show t.val % 16 * 512 + r.val = i.val * 512 + r.val; rw [mod_t t b i ht]
  · refine (win0_8.rect_emb_val t _ 1).trans ?_
    rw [index8]; show 0 * 128 + (hc2 h d).val = (hc2 h d).val; omega

omit ht

theorem blk2 (k : Fin 1024) : (iblk m c 2 t : Vec Ideal S1x1024 .f32) (ix2 0 k) = V m c main_v50 (ix2 0 k) := by
  show V m c main_v50 ((win0_2.rect t).emb (ix2 0 k)) = _
  refine congrArg _ (idx2_ext _ _ ?_ ?_)
  · refine (win0_2.rect_emb_val t _ 0).trans ?_
    rw [index2]; show 0 * 1 + 0 = 0; rfl
  · refine (win0_2.rect_emb_val t _ 1).trans ?_
    rw [index2]; show 0 * 1024 + k.val = k.val; omega

theorem blk3 (j : Fin 1024) (k : Fin 2944) : (iblk m c 3 t : Vec Ideal S1024x2944 .bf16) (ix2 j k) = V m c main_v70 (ix2 j k) := by
  show V m c main_v70 ((win0_3.rect t).emb (ix2 j k)) = _
  refine congrArg _ (idx2_ext _ _ ?_ ?_)
  · refine (win0_3.rect_emb_val t _ 0).trans ?_
    rw [index3]; show 0 * 1024 + j.val = j.val; omega
  · refine (win0_3.rect_emb_val t _ 1).trans ?_
    rw [index3]; show 0 * 2944 + k.val = k.val; omega

theorem blk4 (j : Fin 256) (k : Fin 256) : (iblk m c 4 t : Vec Ideal S256x256 .bf16) (ix2 j k) = V m c main_v49 (ix2 j k) := by
  show V m c main_v49 ((win0_4.rect t).emb (ix2 j k)) = _
  refine congrArg _ (idx2_ext _ _ ?_ ?_)
  · refine (win0_4.rect_emb_val t _ 0).trans ?_
    rw [index4]; show 0 * 256 + j.val = j.val; omega
  · refine (win0_4.rect_emb_val t _ 1).trans ?_
    rw [index4]; show 0 * 256 + k.val = k.val; omega

theorem blk5 (k : Fin 256) : (iblk m c 5 t : Vec Ideal S1x256 .f32) (ix2 0 k) = V m c main_v74 (ix2 0 k) := by
  show V m c main_v74 ((win0_5.rect t).emb (ix2 0 k)) = _
  refine congrArg _ (idx2_ext _ _ ?_ ?_)
  · refine (win0_5.rect_emb_val t _ 0).trans ?_
    rw [index5]; show 0 * 1 + 0 = 0; rfl
  · refine (win0_5.rect_emb_val t _ 1).trans ?_
    rw [index5]; show 0 * 256 + k.val = k.val; omega

theorem blk6 (k : Fin 128) : (iblk m c 6 t : Vec Ideal S1x128 .f32) (ix2 0 k) = V m c main_v78 (ix2 0 k) := by
  show V m c main_v78 ((win0_6.rect t).emb (ix2 0 k)) = _
  refine congrArg _ (idx2_ext _ _ ?_ ?_)
  · refine (win0_6.rect_emb_val t _ 0).trans ?_
    rw [index6]; show 0 * 1 + 0 = 0; rfl
  · refine (win0_6.rect_emb_val t _ 1).trans ?_
    rw [index6]; show 0 * 128 + k.val = k.val; omega

theorem blk9 (k : Fin 128) : (iblk m c 9 t : Vec Ideal S1x128 .f32) (ix2 0 k) = V m c main_v80 (ix2 0 k) := by
  show V m c main_v80 ((win0_9.rect t).emb (ix2 0 k)) = _
  refine congrArg _ (idx2_ext _ _ ?_ ?_)
  · refine (win0_9.rect_emb_val t _ 0).trans ?_
    rw [index9]; show 0 * 1 + 0 = 0; rfl
  · refine (win0_9.rect_emb_val t _ 1).trans ?_
    rw [index9]; show 0 * 128 + k.val = k.val; omega

/-- The arguments as arrays. -/
abbrev aX : (⟨3, ![2, 8192, 1024]⟩ : Shape).Idx → EReal := m ((c : Thread nD τ).loc main_arg0)
abbrev aM : (⟨3, ![8, 1, 6144]⟩ : Shape).Idx → EReal := m ((c : Thread nD τ).loc main_arg1)
abbrev aG : (⟨1, ![1024]⟩ : Shape).Idx → EReal := m ((c : Thread nD τ).loc main_arg2)
abbrev aW : (⟨2, ![1024, 2832]⟩ : Shape).Idx → EReal := m ((c : Thread nD τ).loc main_arg3)

include ht

theorem hb_eq (r : Fin 512) : hb (iblk m c 0 t) (iblk m c 1 t) (iblk m c 2 t) r
    = hid (aX m c) (aM m c) (aG m c) b ⟨i.val * 512 + r.val, by omega⟩ := by
  have e0 : (fun k => (iblk m c 0 t : Vec Ideal S1x512x1024 .f32) (ix3 0 r k))
      = fun k => aX m c (ix3 b ⟨i.val * 512 + r.val, by omega⟩ k) := funext fun k => blk0 m c t b i ht r k
  have e2 : (fun k => (iblk m c 2 t : Vec Ideal S1x1024 .f32) (ix2 0 k)) = fun k => aG m c (ix1 k) :=
    funext fun k => (blk2 m c t k).trans (V_g1 m c k)
  have e1 : (fun k : Fin 1024 => (iblk m c 1 t : Vec Ideal S1x1x6144 .f32) (ix3 0 0 ⟨1024 + k.val, by omega⟩)) = modAt (aM m c) b 1 :=
    funext fun k => blk1 m c t b i ht _
  have e3 : (fun k : Fin 1024 => (iblk m c 1 t : Vec Ideal S1x1x6144 .f32) (ix3 0 0 ⟨k.val, by omega⟩)) = modAt (aM m c) b 0 :=
    funext fun k => (blk1 m c t b i ht _).trans
      (congrArg (fun n => aM m c (ix3 ⟨b.val, by omega⟩ 0 n)) (Fin.ext (by show k.val = 1024 * 0 + k.val; omega)))
  unfold hb hid
  rw [e0, e1, e2, e3]

/-- A column of the grid point's projection is the column of the arguments' projection that its weights are. -/
theorem pb_col (r : Fin 512) (n : Fin 2944) (j : Fin 2832) (h : ∀ k, V m c main_v70 (ix2 k n) = aW m c (ix2 k j)) :
    pb (iblk m c 0 t) (iblk m c 1 t) (iblk m c 2 t) (iblk m c 3 t) r n
      = prj (aX m c) (aM m c) (aG m c) (aW m c) b ⟨i.val * 512 + r.val, by omega⟩ j := by
  unfold pb prj
  rw [hb_eq m c t b i ht r]
  exact Finset.sum_congr rfl fun k _ => congrArg (_ * ·) ((blk3 m c t k n).trans (h k))

/-- The columns added at the end are zero. -/
theorem pb_pad (r : Fin 512) (n : Fin 2944) (hn : 2832 ≤ n.val) :
    pb (iblk m c 0 t) (iblk m c 1 t) (iblk m c 2 t) (iblk m c 3 t) r n = 0 := by
  unfold pb
  refine Finset.sum_eq_zero fun k _ => ?_
  rw [blk3, V_W_pad m c k n hn, mul_zero]

/-- With numbers for arguments the projection has numbers for elements. -/
theorem pb_num (hM : ∀ i, Num (aM m c i)) (hG : ∀ i, Num (aG m c i)) (hW : ∀ i, Num (aW m c i)) (r : Fin 512)
    (n : Fin 2944) : Num (pb (iblk m c 0 t) (iblk m c 1 t) (iblk m c 2 t) (iblk m c 3 t) r n) := by
  have go : ∀ j : Fin 2832, (∀ k, V m c main_v70 (ix2 k n) = aW m c (ix2 k j)) →
      Num (pb (iblk m c 0 t) (iblk m c 1 t) (iblk m c 2 t) (iblk m c 3 t) r n) := fun j h => by
    rw [pb_col m c t b i ht r n j h]
    exact prj_num _ _ _ _ hM hG hW _ _ _
  by_cases h1 : n.val < 256
  · exact go ⟨n.val / 64 % 2 * 128 + n.val / 128 * 64 + n.val % 64, by omega⟩ fun k => V_W_a m c k n _ (Nat.zero_le _) h1 rfl
  by_cases h2 : n.val < 512
  · exact go ⟨n.val, by omega⟩ fun k => V_W_b m c k n _ (by omega) h2 rfl
  by_cases h3 : n.val < 768
  · exact go ⟨512 + ((n.val - 512) / 64 % 2 * 128 + (n.val - 512) / 128 * 64 + n.val % 64), by omega⟩
      fun k => V_W_c m c k n _ (by omega) h3 rfl
  by_cases h4 : n.val < 1024
  · exact go ⟨n.val, by omega⟩ fun k => V_W_d m c k n _ (by omega) h4 rfl
  by_cases h5 : n.val < 2048
  · exact go ⟨n.val, by omega⟩ fun k => V_W_e m c k n _ (by omega) h5 rfl
  by_cases h6 : n.val < 2816
  · exact go ⟨2064 + (n.val - 2048), by omega⟩ fun k => V_W_f m c k n _ (by omega) h6 rfl
  by_cases h7 : n.val < 2832
  · exact go ⟨2048 + (n.val - 2816), by omega⟩ fun k => V_W_g m c k n _ (by omega) h7 rfl
  · rw [pb_pad m c t b i ht r n (by omega), ← EReal.coe_zero]
    exact Cert.Attn.num_coe 0

end Blocks

end Cert.Kernel4Ideal.Value

end
-- ==== Proof.InpHeads.lean ====
/-
  What the input projection computes in one grid point for the parts that are rotated: the global and the windowed mixer's
  queries and keys.  The mean square of a head is a product with a table that is a sixty-fourth where two columns belong
  to the same head and zero elsewhere; the squares are split in two parts whose sum they are.
-/
module

public import proofs.«01_k».proof.Proof.InpRows

@[expose] public section

noncomputable section

namespace Cert.Kernel4Ideal.Value

open Cert.Kernel4Ideal Cert.Kernel4Ideal.Gen Idealize.ShloMosaic Idealize.ShloMosaic.TcCoe Idealize.SL.Sem
open Cert.KernelIdeal.Value (hz2 hz3)
open Cert.Attn (Num)
open Cert.Inp

/-- The place of head `h` in its half of the columns. -/
def low (h : Fin 4) : Fin 2 := ⟨h.val % 2, by omega⟩

/-- The first 128 columns. -/
def left (z : FVec Ideal S512x256 .f32) : FVec Ideal S512x128 .f32 :=
  extractStridedSlice S512x128 ![0, 0] z slices_S512x256_o0_0_S512x128

/-- The other 128 columns. -/
def right (z : FVec Ideal S512x256 .f32) : FVec Ideal S512x128 .f32 :=
  extractStridedSlice S512x128 ![0, 128] z slices_S512x256_o0_128_S512x128

theorem left_at (z : FVec Ideal S512x256 .f32) (p : Fin 512) (h : Fin 2) (d : Fin 64) :
    left z (ix2 p (hc2 h d)) = z (ix2 p (hc ⟨h.val, by omega⟩ d)) := by
  have leaf : ∀ j : Fin 256, j.val = h.val * 64 + d.val → z (ix2 p j) = z (ix2 p (hc ⟨h.val, by omega⟩ d)) :=
    fun j e => by rw [show j = hc ⟨h.val, by omega⟩ d from Fin.ext e]
  unfold left
  pointwise []
  exact leaf _ rfl

theorem right_at (z : FVec Ideal S512x256 .f32) (p : Fin 512) (h : Fin 2) (d : Fin 64) :
    right z (ix2 p (hc2 h d)) = z (ix2 p (hc ⟨2 + h.val, by omega⟩ d)) := by
  have leaf : ∀ j : Fin 256, j.val = 128 + (h.val * 64 + d.val) → z (ix2 p j) = z (ix2 p (hc ⟨2 + h.val, by omega⟩ d)) :=
    fun j e => by rw [show j = hc ⟨2 + h.val, by omega⟩ d from Fin.ext (e.trans (by show _ = (2 + h.val) * 64 + d.val; omega))]
  unfold right
  pointwise []
  exact leaf _ (by show 128 + (h.val * 64 + d.val) = _; omega)

/-- Two blocks of 128 columns side by side. -/
def both (u v : FVec Ideal S512x128 .f32) : FVec Ideal S512x256 .f32 :=
  concatenate S512x256 1 [⟨S512x128, u⟩, ⟨S512x128, v⟩] concatenates_S512x128_S512x128_S512x256_d1

theorem both_left (u v : FVec Ideal S512x128 .f32) (p : Fin 512) (h : Fin 4) (d : Fin 64) (hh : h.val < 2) :
    both u v (ix2 p (hc h d)) = u (ix2 p (hc2 (low h) d)) := by
  have leaf : ∀ j : Fin 128, j.val = h.val % 2 * 64 + d.val → u (ix2 p j) = u (ix2 p (hc2 (low h) d)) :=
    fun j e => by rw [show j = hc2 (low h) d from Fin.ext e]
  unfold both
  pointwise []
  refine (dif_pos (show h.val * 64 + d.val < 128 by omega)).trans ?_
  exact leaf _ (by show h.val * 64 + d.val = _; omega)

theorem both_right (u v : FVec Ideal S512x128 .f32) (p : Fin 512) (h : Fin 4) (d : Fin 64) (hh : ¬ h.val < 2) :
    both u v (ix2 p (hc h d)) = v (ix2 p (hc2 (low h) d)) := by
  have leaf : ∀ j : Fin 128, j.val = h.val % 2 * 64 + d.val → v (ix2 p j) = v (ix2 p (hc2 (low h) d)) :=
    fun j e => by rw [show j = hc2 (low h) d from Fin.ext e]
  unfold both
  pointwise []
  refine (dif_neg (show ¬ h.val * 64 + d.val < 128 by omega)).trans ?_
  exact leaf _ (by show h.val * 64 + d.val - 128 = _; omega)

/-- Four heads rotated, by the tables of two. -/
def rot (z : FVec Ideal S512x256 .f32) (cos sin : Vec Ideal S512x128 .f32) : FVec Ideal S512x256 .f32 :=
  both (ropeV (left z) (k0_pay10 cos) (k0_pay11 sin)) (ropeV (right z) (k0_pay10 cos) (k0_pay11 sin))

theorem pay10_at (x : Vec Ideal S512x128 .f32) (p : Fin 512) (j : Fin 128) : k0_pay10 (F := Ideal) x (ix2 p j) = x (ix2 p j) := by
  pointwise [k0_pay10]

theorem pay11_at (x : Vec Ideal S512x128 .f32) (p : Fin 512) (j : Fin 128) : k0_pay11 (F := Ideal) x (ix2 p j) = x (ix2 p j) := by
  pointwise [k0_pay11]

section Rot

variable (z : FVec Ideal S512x256 .f32) (z2 : FVec Ideal S512x128 .f32) (cos sin : Vec Ideal S512x128 .f32)
  (A : Fin 512 → Fin 64 → EReal)
  (hcos : ∀ p h d, cos (ix2 p (hc2 h d)) = Ideal.cos (A p d)) (hsin : ∀ p h d, sin (ix2 p (hc2 h d)) = sgnSin (A p) d)

include hcos hsin

theorem ropeV_eq (p : Fin 512) (h : Fin 2) (d : Fin 64) :
    ropeV z2 (k0_pay10 cos) (k0_pay11 sin) (ix2 p (hc2 h d)) = rope (A p) (fun d => z2 (ix2 p (hc2 h d))) d := by
  rw [ropeV_at, pay10_at, pay11_at, hcos, hsin]
  rfl

theorem rot_at (p : Fin 512) (h : Fin 4) (d : Fin 64) :
    rot z cos sin (ix2 p (hc h d)) = rope (A p) (fun d => z (ix2 p (hc h d))) d := by
  unfold rot
  by_cases hh : h.val < 2
  · rw [both_left _ _ p h d hh, ropeV_eq (left z) cos sin A hcos hsin]
    refine congrArg (fun f => rope (A p) f d) (funext fun d' => ?_)
    rw [left_at]
    exact congrArg (fun h => z (ix2 p (hc h d'))) (Fin.ext (by show h.val % 2 = h.val; omega))
  · rw [both_right _ _ p h d hh, ropeV_eq (right z) cos sin A hcos hsin]
    refine congrArg (fun f => rope (A p) f d) (funext fun d' => ?_)
    rw [right_at]
    exact congrArg (fun h => z (ix2 p (hc h d'))) (Fin.ext (by show 2 + h.val % 2 = h.val; omega))

end Rot

/-- Four heads divided by their root mean squares, times their gains. -/
def normV (z : FVec Ideal S512x256 .f32) (pool : Vec Ideal S256x256 .bf16) (g : Vec Ideal S1x256 .f32) : FVec Ideal S512x256 .f32 :=
  k0_pay9 (k0_pay3 pool) z (k0_pay5 g) (truncf .bf16 (mulf z z) bitsLt_bf16_f32)
    (truncf .bf16 (subf (mulf z z) (extf .f32 (truncf .bf16 (mulf z z) bitsLt_bf16_f32) bitsLt_bf16_f32)) bitsLt_bf16_f32)

theorem normV_at (z : FVec Ideal S512x256 .f32) (pool : Vec Ideal S256x256 .bf16) (g : Vec Ideal S1x256 .f32) (p : Fin 512)
    (j : Fin 256) : normV z pool g (ix2 p j)
      = z (ix2 p j) * Ideal.rsqrt ((∑ k : Fin 256, z (ix2 p k) * z (ix2 p k) * pool (ix2 k j))
          + (∑ k : Fin 256, (z (ix2 p k) * z (ix2 p k) - z (ix2 p k) * z (ix2 p k)) * pool (ix2 k j))
          + Ideal.ofBits .f32 0x358637BD#32) * g (ix2 0 j) := by
  pointwise [normV, k0_pay9, k0_pay3, k0_pay5]

theorem normV_eq (z : FVec Ideal S512x256 .f32) (pool : Vec Ideal S256x256 .bf16) (g : Vec Ideal S1x256 .f32) (p : Fin 512)
    (hz : ∀ j, Num (z (ix2 p j)))
    (hpool : ∀ k j : Fin 256, pool (ix2 k j) = if k.val / 64 = j.val / 64 then part64 else (0 : EReal)) (h : Fin 4) (d : Fin 64) :
    normV z pool g (ix2 p (hc h d)) = headNorm (fun d => g (ix2 0 (hc h d))) (fun d => z (ix2 p (hc h d))) d := by
  rw [normV_at, sum_heads, sum_heads,
    pool_heads (fun h d => z (ix2 p (hc h d))) (fun h d => hz _) (fun h' d' => pool (ix2 (hc h' d') (hc h d))) h ?_]
  · rfl
  · intro h' d'
    show pool (ix2 (hc h' d') (hc h d)) = _
    rw [hpool]
    have e1 : (hc h' d').val / 64 = h'.val := by show (h'.val * 64 + d'.val) / 64 = _; omega
    have e2 : (hc h d).val / 64 = h.val := by show (h.val * 64 + d.val) / 64 = _; omega
    rw [e1, e2]
    simp only [Fin.ext_iff]

/-- The same for two heads. -/
def normV2 (z : FVec Ideal S512x128 .f32) (pool : Vec Ideal S256x256 .bf16) (g : Vec Ideal S1x128 .f32) : FVec Ideal S512x128 .f32 :=
  mulf (mulf z (rsqrt (addf (addf
    (matmul dot_S512x128_S128x128_S512x128_1_0_0_1_n_n none (truncf .bf16 (mulf z z) bitsLt_bf16_f32) (k0_pay17 (k0_pay3 pool))
      (constant S512x128 .f32 0x00000000#32))
    (matmul dot_S512x128_S128x128_S512x128_1_0_0_1_n_n none
      (truncf .bf16 (subf (mulf z z) (extf .f32 (truncf .bf16 (mulf z z) bitsLt_bf16_f32) bitsLt_bf16_f32)) bitsLt_bf16_f32)
      (k0_pay17 (k0_pay3 pool)) (constant S512x128 .f32 0x00000000#32)))
    (broadcast S512x128 (Scalar.ofBits (F := Ideal) .f32 0x358637BD#32)))))
    (broadcastTo S512x128 (k0_pay18 g) broadcasts_S1x128_S512x128)

theorem pool_corner (pool : Vec Ideal S256x256 .bf16) (k j : Fin 128) :
    k0_pay17 (F := Ideal) (k0_pay3 pool) (ix2 k j) = pool (ix2 ⟨k.val, by omega⟩ ⟨j.val, by omega⟩) := by
  have leaf : ∀ a b : Fin 256, a.val = k.val → b.val = j.val → pool (ix2 a b) = pool (ix2 ⟨k.val, by omega⟩ ⟨j.val, by omega⟩) :=
    fun a b e f => by rw [show a = ⟨k.val, by omega⟩ from Fin.ext e, show b = ⟨j.val, by omega⟩ from Fin.ext f]
  pointwise [k0_pay17, k0_pay3]

theorem normV2_at (z : FVec Ideal S512x128 .f32) (pool : Vec Ideal S256x256 .bf16) (g : Vec Ideal S1x128 .f32) (p : Fin 512)
    (j : Fin 128) : normV2 z pool g (ix2 p j)
      = z (ix2 p j) * Ideal.rsqrt ((∑ k : Fin 128, z (ix2 p k) * z (ix2 p k) * k0_pay17 (F := Ideal) (k0_pay3 pool) (ix2 k j))
          + (∑ k : Fin 128, (z (ix2 p k) * z (ix2 p k) - z (ix2 p k) * z (ix2 p k)) * k0_pay17 (F := Ideal) (k0_pay3 pool) (ix2 k j))
          + Ideal.ofBits .f32 0x358637BD#32) * g (ix2 0 j) := by
  unfold normV2
  generalize k0_pay17 (F := Ideal) (k0_pay3 pool) = q
  pointwise [k0_pay18]

theorem normV2_eq (z : FVec Ideal S512x128 .f32) (pool : Vec Ideal S256x256 .bf16) (g : Vec Ideal S1x128 .f32) (p : Fin 512)
    (hz : ∀ j, Num (z (ix2 p j)))
    (hpool : ∀ k j : Fin 256, pool (ix2 k j) = if k.val / 64 = j.val / 64 then part64 else (0 : EReal)) (h : Fin 2) (d : Fin 64) :
    normV2 z pool g (ix2 p (hc2 h d)) = headNorm (fun d => g (ix2 0 (hc2 h d))) (fun d => z (ix2 p (hc2 h d))) d := by
  rw [normV2_at, sum_heads2, sum_heads2,
    pool_heads (fun h d => z (ix2 p (hc2 h d))) (fun h d => hz _)
      (fun h' d' => k0_pay17 (F := Ideal) (k0_pay3 pool) (ix2 (hc2 h' d') (hc2 h d))) h ?_]
  · rfl
  · intro h' d'
    show k0_pay17 (F := Ideal) (k0_pay3 pool) (ix2 (hc2 h' d') (hc2 h d)) = _
    rw [pool_corner, hpool]
    have e1 : (hc2 h' d').val / 64 = h'.val := by show (h'.val * 64 + d'.val) / 64 = _; omega
    have e2 : (hc2 h d).val / 64 = h.val := by show (h.val * 64 + d.val) / 64 = _; omega
    simp only [e1, e2, Fin.ext_iff]

/-- The queries as stored: rotated, times an eighth, rounded. -/
def queries (z : FVec Ideal S512x256 .f32) (cos sin : Vec Ideal S512x128 .f32) : FVec Ideal S1x512x256 .bf16 :=
  shapeCast S1x512x256 (truncf .bf16 (mulf (rot z cos sin) (broadcast S512x256 (Scalar.ofBits (F := Ideal) .f32 0x3E000000#32)))
    bitsLt_bf16_f32) shapeCasts_S512x256_S1x512x256

theorem queries_at (z : FVec Ideal S512x256 .f32) (cos sin : Vec Ideal S512x128 .f32) (p : Fin 512) (j : Fin 256) :
    queries z cos sin (ix3 0 p j) = rot z cos sin (ix2 p j) * eighth := by
  unfold queries eighth
  generalize rot z cos sin = v
  pointwise []

/-- The keys as stored: rotated and rounded. -/
def keys (z : FVec Ideal S512x128 .f32) (cos sin : Vec Ideal S512x128 .f32) : FVec Ideal S1x512x128 .bf16 :=
  shapeCast S1x512x128 (truncf .bf16 (ropeV z (k0_pay10 cos) (k0_pay11 sin)) bitsLt_bf16_f32) shapeCasts_S512x128_S1x512x128

theorem keys_at (z : FVec Ideal S512x128 .f32) (cos sin : Vec Ideal S512x128 .f32) (p : Fin 512) (j : Fin 128) :
    keys z cos sin (ix3 0 p j) = ropeV z (k0_pay10 cos) (k0_pay11 sin) (ix2 p j) := by
  unfold keys
  generalize ropeV z (k0_pay10 cos) (k0_pay11 sin) = v
  pointwise []

section Outs

variable (x0 : Vec Ideal S1x512x1024 .f32) (x1 : Vec Ideal S1x1x6144 .f32) (x2 : Vec Ideal S1x1024 .f32)
  (x3 : Vec Ideal S1024x2944 .bf16) (x4 : Vec Ideal S256x256 .bf16) (x5 : Vec Ideal S1x256 .f32) (x6 : Vec Ideal S1x128 .f32)
  (x7 x8 : Vec Ideal S512x128 .f32) (x9 : Vec Ideal S1x128 .f32) (A : Fin 512 → Fin 64 → EReal)
  (hcos : ∀ p h d, x7 (ix2 p (hc2 h d)) = Ideal.cos (A p d)) (hsin : ∀ p h d, x8 (ix2 p (hc2 h d)) = sgnSin (A p) d)

include hcos hsin

theorem out13_at (p : Fin 512) (h : Fin 4) (d : Fin 64) : out0_13 (F := Ideal) x0 x1 x2 x3 x4 x5 x6 x7 x8 x9 (ix3 0 p (hc h d))
    = rope (A p) (fun d => pb x0 x1 x2 x3 p ⟨512 + (hc h d).val, by omega⟩) d * eighth := by
  have hm : (fun d => pb x0 x1 x2 x3 p ⟨512 + (hc h d).val, by omega⟩)
      = fun d => mm (k0_pay2 x1 x0 x2) (View.ld x3 r0_11) (ix2 p (hc h d)) := funext fun d => (mm11_at x0 x1 x2 x3 p (hc h d)).symm
  rw [hm]
  unfold out0_13
  rw [View.canon_unit_zero hz3, pay46_eq, View.ld_unit_zero (S := S512x128) hz2, View.ld_unit_zero (S := S512x128) hz2]
  generalize View.ld x3 r0_11 = w
  generalize k0_pay2 x1 x0 x2 = v
  rw [show k0_pay29 (F := Ideal) (k0_pay25 x7) (k0_pay26 x8) (k0_pay27 v w x7 x8) (k0_pay28 v w) = queries (mm v w) x7 x8 from rfl,
    queries_at, rot_at (mm v w) x7 x8 A hcos hsin]

theorem out14_at (p : Fin 512) (h : Fin 2) (d : Fin 64) : out0_14 (F := Ideal) x0 x1 x2 x3 x4 x5 x6 x7 x8 x9 (ix3 0 p (hc2 h d))
    = rope (A p) (fun d => pb x0 x1 x2 x3 p ⟨768 + (hc2 h d).val, by omega⟩) d := by
  have hm : (fun d => pb x0 x1 x2 x3 p ⟨768 + (hc2 h d).val, by omega⟩)
      = fun d => left (mm (k0_pay2 x1 x0 x2) (View.ld x3 r0_12)) (ix2 p (hc2 h d)) := funext fun d =>
    ((left_at _ p h d).trans (mm12_at x0 x1 x2 x3 p _)).symm
  rw [hm]
  unfold out0_14
  rw [View.canon_unit_zero hz3, pay46_eq, View.ld_unit_zero (S := S512x128) hz2, View.ld_unit_zero (S := S512x128) hz2]
  generalize View.ld x3 r0_12 = w
  generalize k0_pay2 x1 x0 x2 = v
  rw [show k0_pay33 (F := Ideal) (k0_pay31 v w) (k0_pay32 x7) x8 = keys (left (mm v w)) x7 x8 from rfl,
    keys_at, ropeV_eq (left (mm v w)) x7 x8 A hcos hsin]

variable (hnum : ∀ p n, Num (pb x0 x1 x2 x3 p n))
  (hpool : ∀ k j : Fin 256, x4 (ix2 k j) = if k.val / 64 = j.val / 64 then part64 else (0 : EReal))

include hnum hpool

theorem out10_at (p : Fin 512) (h : Fin 4) (d : Fin 64) : out0_10 (F := Ideal) x0 x1 x2 x3 x4 x5 x6 x7 x8 x9 (ix3 0 p (hc h d))
    = rope (A p) (headNorm (fun d => x5 (ix2 0 (hc h d))) (fun d => pb x0 x1 x2 x3 p ⟨0 + (hc h d).val, by omega⟩)) d * eighth := by
  have hm : (fun d => pb x0 x1 x2 x3 p ⟨0 + (hc h d).val, by omega⟩)
      = fun d => mm (k0_pay2 x1 x0 x2) (View.ld x3 r0_4) (ix2 p (hc h d)) := funext fun d => (mm4_at x0 x1 x2 x3 p (hc h d)).symm
  have hn : ∀ j, Num (mm (k0_pay2 x1 x0 x2) (View.ld x3 r0_4) (ix2 p j)) := fun j => by rw [mm4_at]; exact hnum p _
  rw [hm]
  unfold out0_10 k0_pay47 k0_pay48 k0_pay49 k0_pay50 k0_pay51
  rw [View.canon_unit_zero hz3, View.ld_unit_zero (S := S512x128) hz2, View.ld_unit_zero (S := S512x128) hz2,
    View.ld_unit_zero (S := S1x1x6144) hz3, View.ld_unit_zero (S := S1x512x1024) hz3, View.ld_unit_zero (S := S1x1024) hz2,
    View.ld_unit_zero (S := S256x256) hz2, View.ld_unit_zero (S := S1x256) hz2]
  generalize View.ld x3 r0_4 = w at hn ⊢
  rw [show k0_pay4 (F := Ideal) x1 x0 x2 w = mm (k0_pay2 x1 x0 x2) w from rfl,
    show k0_pay7 (F := Ideal) x1 x0 x2 w
      = truncf .bf16 (mulf (mm (k0_pay2 x1 x0 x2) w) (mm (k0_pay2 x1 x0 x2) w)) bitsLt_bf16_f32 from rfl,
    show k0_pay8 (F := Ideal) x1 x0 x2 w
      = truncf .bf16 (subf (mulf (mm (k0_pay2 x1 x0 x2) w) (mm (k0_pay2 x1 x0 x2) w)) (extf .f32 (truncf .bf16
          (mulf (mm (k0_pay2 x1 x0 x2) w) (mm (k0_pay2 x1 x0 x2) w)) bitsLt_bf16_f32) bitsLt_bf16_f32)) bitsLt_bf16_f32 from rfl]
  generalize mm (k0_pay2 x1 x0 x2) w = z at hn ⊢
  refine Eq.trans (b := queries (normV z x4 x5) x7 x8 (ix3 0 p (hc h d))) rfl ?_
  rw [queries_at, rot_at (normV z x4 x5) x7 x8 A hcos hsin]
  refine congrArg (fun f => rope (A p) f d * eighth) (funext fun d' => ?_)
  exact normV_eq z x4 x5 p hn hpool h d'

theorem out11_at (p : Fin 512) (h : Fin 2) (d : Fin 64) : out0_11 (F := Ideal) x0 x1 x2 x3 x4 x5 x6 x7 x8 x9 (ix3 0 p (hc2 h d))
    = rope (A p) (headNorm (fun d => x6 (ix2 0 (hc2 h d))) (fun d => pb x0 x1 x2 x3 p ⟨256 + (hc2 h d).val, by omega⟩)) d := by
  have hm : (fun d => pb x0 x1 x2 x3 p ⟨256 + (hc2 h d).val, by omega⟩)
      = fun d => left (mm (k0_pay2 x1 x0 x2) (View.ld x3 r0_8)) (ix2 p (hc2 h d)) := funext fun d =>
    ((left_at _ p h d).trans (mm8_at x0 x1 x2 x3 p _)).symm
  have hn : ∀ j, Num (left (mm (k0_pay2 x1 x0 x2) (View.ld x3 r0_8)) (ix2 p j)) := fun j => by
    obtain ⟨h', d', rfl⟩ := exists_hc2 j
    rw [left_at, mm8_at]; exact hnum p _
  rw [hm]
  unfold out0_11 k0_pay47
  rw [View.canon_unit_zero hz3, pay46_eq, View.ld_unit_zero (S := S512x128) hz2, View.ld_unit_zero (S := S512x128) hz2,
    View.ld_unit_zero (S := S256x256) hz2, View.ld_unit_zero (S := S1x128) hz2]
  generalize View.ld x3 r0_8 = w at hn ⊢
  generalize k0_pay2 x1 x0 x2 = v at hn ⊢
  rw [show k0_pay16 (F := Ideal) v w = left (mm v w) from rfl,
    show k0_pay20 (F := Ideal) v w = truncf .bf16 (mulf (left (mm v w)) (left (mm v w))) bitsLt_bf16_f32 from rfl,
    show k0_pay21 (F := Ideal) v w = truncf .bf16 (subf (mulf (left (mm v w)) (left (mm v w))) (extf .f32 (truncf .bf16
      (mulf (left (mm v w)) (left (mm v w))) bitsLt_bf16_f32) bitsLt_bf16_f32)) bitsLt_bf16_f32 from rfl]
  generalize left (mm v w) = z at hn ⊢
  refine Eq.trans (b := keys (normV2 z x4 x6) x7 x8 (ix3 0 p (hc2 h d))) rfl ?_
  rw [keys_at, ropeV_eq (normV2 z x4 x6) x7 x8 A hcos hsin]
  refine congrArg (fun f => rope (A p) f d) (funext fun d' => ?_)
  exact normV2_eq z x4 x6 p hn hpool h d'

end Outs

end Cert.Kernel4Ideal.Value

end
-- ==== Proof.InpFinal.lean ====
/-
  The arrays the input projection leaves: block `(b, i)` of 512 rows of each is written by grid point `16 b + i`, and every
  element is the column of the projection, or the rotated head, that the mathematics says.
-/
module

public import proofs.«01_k».proof.Proof.InpBlocks
public import proofs.«01_k».proof.Proof.InpHeads
public import proofs.«01_k».proof.Proof.Gen.Kernel4Ideal.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat Window)
open Cert.KernelIdeal.Value (idx3_ext)
open Cert.Reference4Ideal.Read (val_main_v56 val_main_v61)
open Cert.Attn (Num)
open Cert.Inp

variable (m : (ℓ : Loc nD τ sig) → Buf (Elt Ideal) ℓ)

section Points

variable (c : Dev nD) (t : Fin cfg0.N) (b : Fin 2) (i : Fin 16) (ht : t.val = b.val * 16 + i.val)

include ht

theorem point12 (r : Fin 512) (n : Fin 128) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨384 + n.val, by omega⟩ :=
  (out12_at _ _ _ _ _ _ _ _ _ _ r n).trans (pb_col m c t b i ht r _ _ fun k => V_W_b m c k _ _ (by show _ ≤ 256 + (128 + n.val); omega) (by show 256 + (128 + n.val) < _; omega) (by show 384 + n.val = 256 + (128 + n.val); omega))

theorem point15 (r : Fin 512) (n : Fin 128) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨896 + n.val, by omega⟩ :=
  (out15_at _ _ _ _ _ _ _ _ _ _ r n).trans (pb_col m c t b i ht r _ _ fun k => V_W_d m c k _ _ (by show _ ≤ 768 + (128 + n.val); omega) (by show 768 + (128 + n.val) < _; omega) (by show 896 + n.val = 768 + (128 + n.val); omega))

theorem point16 (r : Fin 512) (n : Fin 256) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨1024 + n.val, by omega⟩ * eighth :=
  (out16_at _ _ _ _ _ _ _ _ _ _ r n).trans (congrArg (· * eighth) (pb_col m c t b i ht r _ _ fun k => V_W_e m c k _ _ (by show _ ≤ 1024 + n.val; omega) (by show 1024 + n.val < _; omega) (by show 1024 + n.val = 1024 + n.val; omega)))

theorem point17 (r : Fin 512) (n : Fin 256) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨1280 + n.val, by omega⟩ :=
  (out17_at _ _ _ _ _ _ _ _ _ _ r n).trans (pb_col m c t b i ht r _ _ fun k => V_W_e m c k _ _ (by show _ ≤ 1280 + n.val; omega) (by show 1280 + n.val < _; omega) (by show 1280 + n.val = 1280 + n.val; omega))

theorem point18 (r : Fin 512) (n : Fin 256) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨1536 + n.val, by omega⟩ :=
  (out18_at _ _ _ _ _ _ _ _ _ _ r n).trans (pb_col m c t b i ht r _ _ fun k => V_W_e m c k _ _ (by show _ ≤ 1536 + n.val; omega) (by show 1536 + n.val < _; omega) (by show 1536 + n.val = 1536 + n.val; omega))

theorem point19 (r : Fin 512) (n : Fin 256) : out0_19 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨1792 + n.val, by omega⟩ :=
  (out19_at _ _ _ _ _ _ _ _ _ _ r n).trans (pb_col m c t b i ht r _ _ fun k => V_W_e m c k _ _ (by show _ ≤ 1792 + n.val; omega) (by show 1792 + n.val < _; omega) (by show 1792 + n.val = 1792 + n.val; omega))

theorem point21 (r : Fin 512) (n : Fin 256) : out0_21 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨2064 + n.val, by omega⟩ * eighth :=
  (out21_at _ _ _ _ _ _ _ _ _ _ r n).trans (congrArg (· * eighth) (pb_col m c t b i ht r _ _ fun k => V_W_f m c k _ _ (by show _ ≤ 2048 + n.val; omega) (by show 2048 + n.val < _; omega) (by show 2064 + n.val = 2064 + (2048 + n.val - 2048); omega)))

theorem point22 (r : Fin 512) (n : Fin 256) : out0_22 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨2320 + n.val, by omega⟩ :=
  (out22_at _ _ _ _ _ _ _ _ _ _ r n).trans (pb_col m c t b i ht r _ _ fun k => V_W_f m c k _ _ (by show _ ≤ 2304 + n.val; omega) (by show 2304 + n.val < _; omega) (by show 2320 + n.val = 2064 + (2304 + n.val - 2048); omega))

theorem point23 (r : Fin 512) (n : Fin 256) : out0_23 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = prj (aX m c) (aM m c) (aG m c) (aW m c) b ⟨i.val * 512 + r.val, by omega⟩ ⟨2576 + n.val, by omega⟩ :=
  (out23_at _ _ _ _ _ _ _ _ _ _ r n).trans (pb_col m c t b i ht r _ _ fun k => V_W_f m c k _ _ (by show _ ≤ 2560 + n.val; omega) (by show 2560 + n.val < _; omega) (by show 2576 + n.val = 2064 + (2560 + n.val - 2048); omega))

theorem point20 (r : Fin 512) (n : Fin 128) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
    = cg (aX m c) (aM m c) (aG m c) (aW m c) (m ((c : Thread nD τ).loc main_arg6)) b ⟨i.val * 512 + r.val, by omega⟩ n := by
  refine (out20_at _ _ _ _ _ _ _ _ _ _ r n).trans ?_
  rw [blk9, V_gb]
  unfold cg
  by_cases h : n.val < 16
  · rw [dif_pos h, dif_pos h]
    exact congrArg (· + _) (pb_col m c t b i ht r _ _ fun k => V_W_g m c k _ _ (by show _ ≤ 2816 + n.val; omega)
      (by show 2816 + n.val < _; omega) (by show 2048 + n.val = 2048 + (2816 + n.val - 2816); omega))
  · rw [dif_neg h, dif_neg h, pb_pad m c t b i ht r _ (by show 2832 ≤ 2816 + n.val; omega), add_zero]

theorem point13 (r : Fin 512) (h : Fin 4) (d : Fin 64) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r (hc h d))
    = bq (aX m c) (aM m c) (aG m c) (aW m c) (val_main_v56 (F := Ideal)) (val_main_v61 (F := Ideal)) b ⟨i.val * 512 + r.val, by omega⟩ h d := by
  refine (out13_at _ _ _ _ _ _ _ _ _ _ (fun r => ang (val_main_v56 (F := Ideal)) (val_main_v61 (F := Ideal)) ⟨i.val * 512 + r.val, by omega⟩) (fun r h d => blk7 m c t b i ht r h d) (fun r h d => blk8 m c t b i ht r h d) r h d).trans ?_
  unfold bq
  refine congrArg (fun f => rope _ f d * eighth) (funext fun d' => ?_)
  refine pb_col m c t b i ht r _ _ fun k => V_W_c m c k _ _ (by show _ ≤ 512 + (h.val * 64 + d'.val); omega)
    (by show 512 + (h.val * 64 + d'.val) < _; omega) ?_
  have e1 : (512 + (h.val * 64 + d'.val) - 512) / 64 = h.val := by omega
  have e2 : (512 + (h.val * 64 + d'.val) - 512) / 128 = h.val / 2 := by omega
  have e3 : (512 + (h.val * 64 + d'.val)) % 64 = d'.val := by omega
  show 512 + (h.val % 2 * 2 + h.val / 2) * 64 + d'.val = 512 + ((512 + (h.val * 64 + d'.val) - 512) / 64 % 2 * 128
    + (512 + (h.val * 64 + d'.val) - 512) / 128 * 64 + (512 + (h.val * 64 + d'.val)) % 64)
  rw [e1, e2, e3]
  omega

theorem point14 (r : Fin 512) (h : Fin 2) (d : Fin 64) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r (hc2 h d))
    = bk (aX m c) (aM m c) (aG m c) (aW m c) (val_main_v56 (F := Ideal)) (val_main_v61 (F := Ideal)) b ⟨i.val * 512 + r.val, by omega⟩ h d := by
  refine (out14_at _ _ _ _ _ _ _ _ _ _ (fun r => ang (val_main_v56 (F := Ideal)) (val_main_v61 (F := Ideal)) ⟨i.val * 512 + r.val, by omega⟩) (fun r h d => blk7 m c t b i ht r h d) (fun r h d => blk8 m c t b i ht r h d) r h d).trans ?_
  unfold bk
  refine congrArg (fun f => rope _ f d) (funext fun d' => ?_)
  exact pb_col m c t b i ht r _ _ fun k => V_W_d m c k _ _ (by show _ ≤ 768 + (h.val * 64 + d'.val); omega)
    (by show 768 + (h.val * 64 + d'.val) < _; omega) (by show 768 + h.val * 64 + d'.val = 768 + (h.val * 64 + d'.val); omega)

theorem point10 (hM : ∀ i, Num (aM m c i)) (hG : ∀ i, Num (aG m c i)) (hW : ∀ i, Num (aW m c i)) (r : Fin 512) (h : Fin 4) (d : Fin 64) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r (hc h d))
    = aq (aX m c) (aM m c) (aG m c) (aW m c) (m ((c : Thread nD τ).loc main_arg4)) (val_main_v56 (F := Ideal)) (val_main_v61 (F := Ideal)) b ⟨i.val * 512 + r.val, by omega⟩ h d := by
  refine (out10_at _ _ _ _ _ _ _ _ _ _ (fun r => ang (val_main_v56 (F := Ideal)) (val_main_v61 (F := Ideal)) ⟨i.val * 512 + r.val, by omega⟩) (fun r h d => blk7 m c t b i ht r h d) (fun r h d => blk8 m c t b i ht r h d) (fun r n => pb_num m c t b i ht hM hG hW r n) (fun k j => (blk4 m c t k j).trans (V_pool m c k j)) r h d).trans ?_
  unfold aq
  refine congrArg (fun f => rope _ f d * eighth) (congrArg₂ headNorm (funext fun d' => ?_) (funext fun d' => ?_))
  · refine (blk5 m c t _).trans ((V_gq m c _).trans (congrArg (fun e => m ((c : Thread nD τ).loc main_arg4) (ix1 e)) (Fin.ext ?_)))
    show (h.val * 64 + d'.val) % 64 = d'.val
    omega
  · refine pb_col m c t b i ht r _ _ fun k => V_W_a m c k _ _ (Nat.zero_le _) (by show 0 + (h.val * 64 + d'.val) < _; omega) ?_
    have e1 : (0 + (h.val * 64 + d'.val)) / 64 = h.val := by omega
    have e2 : (0 + (h.val * 64 + d'.val)) / 128 = h.val / 2 := by omega
    have e3 : (0 + (h.val * 64 + d'.val)) % 64 = d'.val := by omega
    show (h.val % 2 * 2 + h.val / 2) * 64 + d'.val = (0 + (h.val * 64 + d'.val)) / 64 % 2 * 128
      + (0 + (h.val * 64 + d'.val)) / 128 * 64 + (0 + (h.val * 64 + d'.val)) % 64
    rw [e1, e2, e3]
    omega

theorem point11 (hM : ∀ i, Num (aM m c i)) (hG : ∀ i, Num (aG m c i)) (hW : ∀ i, Num (aW m c i)) (r : Fin 512) (h : Fin 2) (d : Fin 64) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r (hc2 h d))
    = ak (aX m c) (aM m c) (aG m c) (aW m c) (m ((c : Thread nD τ).loc main_arg5)) (val_main_v56 (F := Ideal)) (val_main_v61 (F := Ideal)) b ⟨i.val * 512 + r.val, by omega⟩ h d := by
  refine (out11_at _ _ _ _ _ _ _ _ _ _ (fun r => ang (val_main_v56 (F := Ideal)) (val_main_v61 (F := Ideal)) ⟨i.val * 512 + r.val, by omega⟩) (fun r h d => blk7 m c t b i ht r h d) (fun r h d => blk8 m c t b i ht r h d) (fun r n => pb_num m c t b i ht hM hG hW r n) (fun k j => (blk4 m c t k j).trans (V_pool m c k j)) r h d).trans ?_
  unfold ak
  refine congrArg (fun f => rope _ f d) (congrArg₂ headNorm (funext fun d' => ?_) (funext fun d' => ?_))
  · refine (blk6 m c t _).trans ((V_gk m c _).trans (congrArg (fun e => m ((c : Thread nD τ).loc main_arg5) (ix1 e)) (Fin.ext ?_)))
    show (h.val * 64 + d'.val) % 64 = d'.val
    omega
  · exact pb_col m c t b i ht r _ _ fun k => V_W_b m c k _ _ (by show _ ≤ 256 + (h.val * 64 + d'.val); omega)
      (by show 256 + (h.val * 64 + d'.val) < _; omega) (by show 256 + h.val * 64 + d'.val = 256 + (h.val * 64 + d'.val); omega)

end Points

theorem arr10 (c : Dev nD) (hM : ∀ i, Num (aM m c i)) (hG : ∀ i, Num (aG m c i)) (hW : ∀ i, Num (aW m c i)) (b : Fin 2) (s : Fin 8192) (h : Fin 4) (d : Fin 64) :
    ((dats m 0 c).arrAt 10 cfg0.N : S2x8192x256.Idx → EReal) (ix3 b s (hc h d))
      = aq (aX m c) (aM m c) (aG m c) (aW m c) (m ((c : Thread nD τ).loc main_arg4)) (val_main_v56 (F := Ideal)) (val_main_v61 (F := Ideal)) b s h d := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 10 disjoint10 t (flush0_10 t) (ix3 0 ⟨s.val % 512, by omega⟩ (hc h d))
  rw [flushed10] at hf
  have e : ((cfg0.win 10).blk t).view.emb (ix3 0 ⟨s.val % 512, by omega⟩ (hc h d)) = ix3 b s (hc h d) := by
    refine idx3_ext (n0 := 2) (n1 := 8192) (n2 := 256) _ _ ?_ ?_ ?_
    · refine (win0_10.rect_emb_val t _ 0).trans ?_
      rw [index10]; show t.val / 16 * 1 + 0 = b.val; omega
    · refine (win0_10.rect_emb_val t _ 1).trans ?_
      rw [index10]; show t.val % 16 * 512 + s.val % 512 = s.val; omega
    · refine (win0_10.rect_emb_val t _ 2).trans ?_
      rw [index10]; show 0 * 256 + (hc h d).val = (hc h d).val; omega
  have hp := point10 m c t b ⟨s.val / 512, hi⟩ ht' hM hG hW ⟨s.val % 512, by omega⟩ h d
  generalize out0_10 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => aq (aX m c) (aM m c) (aG m c) (aW m c) (m ((c : Thread nD τ).loc main_arg4)) (val_main_v56 (F := Ideal)) (val_main_v61 (F := Ideal)) b s h d) es

theorem arr11 (c : Dev nD) (hM : ∀ i, Num (aM m c i)) (hG : ∀ i, Num (aG m c i)) (hW : ∀ i, Num (aW m c i)) (b : Fin 2) (s : Fin 8192) (h : Fin 2) (d : Fin 64) :
    ((dats m 0 c).arrAt 11 cfg0.N : S2x8192x128.Idx → EReal) (ix3 b s (hc2 h d))
      = ak (aX m c) (aM m c) (aG m c) (aW m c) (m ((c : Thread nD τ).loc main_arg5)) (val_main_v56 (F := Ideal)) (val_main_v61 (F := Ideal)) b s h d := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 11 disjoint11 t (flush0_11 t) (ix3 0 ⟨s.val % 512, by omega⟩ (hc2 h d))
  rw [flushed11] at hf
  have e : ((cfg0.win 11).blk t).view.emb (ix3 0 ⟨s.val % 512, by omega⟩ (hc2 h d)) = ix3 b s (hc2 h d) := by
    refine idx3_ext (n0 := 2) (n1 := 8192) (n2 := 128) _ _ ?_ ?_ ?_
    · refine (win0_11.rect_emb_val t _ 0).trans ?_
      rw [index11]; show t.val / 16 * 1 + 0 = b.val; omega
    · refine (win0_11.rect_emb_val t _ 1).trans ?_
      rw [index11]; show t.val % 16 * 512 + s.val % 512 = s.val; omega
    · refine (win0_11.rect_emb_val t _ 2).trans ?_
      rw [index11]; show 0 * 128 + (hc2 h d).val = (hc2 h d).val; omega
  have hp := point11 m c t b ⟨s.val / 512, hi⟩ ht' hM hG hW ⟨s.val % 512, by omega⟩ h d
  generalize out0_11 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => ak (aX m c) (aM m c) (aG m c) (aW m c) (m ((c : Thread nD τ).loc main_arg5)) (val_main_v56 (F := Ideal)) (val_main_v61 (F := Ideal)) b s h d) es

theorem arr12 (c : Dev nD) (b : Fin 2) (s : Fin 8192) (n : Fin 128) :
    ((dats m 0 c).arrAt 12 cfg0.N : S2x8192x128.Idx → EReal) (ix3 b s n)
      = prj (aX m c) (aM m c) (aG m c) (aW m c) b s ⟨384 + n.val, by omega⟩ := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 12 disjoint12 t (flush0_12 t) (ix3 0 ⟨s.val % 512, by omega⟩ n)
  rw [flushed12] at hf
  have e : ((cfg0.win 12).blk t).view.emb (ix3 0 ⟨s.val % 512, by omega⟩ n) = ix3 b s n := by
    refine idx3_ext (n0 := 2) (n1 := 8192) (n2 := 128) _ _ ?_ ?_ ?_
    · refine (win0_12.rect_emb_val t _ 0).trans ?_
      rw [index12]; show t.val / 16 * 1 + 0 = b.val; omega
    · refine (win0_12.rect_emb_val t _ 1).trans ?_
      rw [index12]; show t.val % 16 * 512 + s.val % 512 = s.val; omega
    · refine (win0_12.rect_emb_val t _ 2).trans ?_
      rw [index12]; show 0 * 128 + n.val = n.val; omega
  have hp := point12 m c t b ⟨s.val / 512, hi⟩ ht' ⟨s.val % 512, by omega⟩ n
  generalize out0_12 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨384 + n.val, by omega⟩) es

theorem arr13 (c : Dev nD) (b : Fin 2) (s : Fin 8192) (h : Fin 4) (d : Fin 64) :
    ((dats m 0 c).arrAt 13 cfg0.N : S2x8192x256.Idx → EReal) (ix3 b s (hc h d))
      = bq (aX m c) (aM m c) (aG m c) (aW m c) (val_main_v56 (F := Ideal)) (val_main_v61 (F := Ideal)) b s h d := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 13 disjoint13 t (flush0_13 t) (ix3 0 ⟨s.val % 512, by omega⟩ (hc h d))
  rw [flushed13] at hf
  have e : ((cfg0.win 13).blk t).view.emb (ix3 0 ⟨s.val % 512, by omega⟩ (hc h d)) = ix3 b s (hc h d) := by
    refine idx3_ext (n0 := 2) (n1 := 8192) (n2 := 256) _ _ ?_ ?_ ?_
    · refine (win0_13.rect_emb_val t _ 0).trans ?_
      rw [index13]; show t.val / 16 * 1 + 0 = b.val; omega
    · refine (win0_13.rect_emb_val t _ 1).trans ?_
      rw [index13]; show t.val % 16 * 512 + s.val % 512 = s.val; omega
    · refine (win0_13.rect_emb_val t _ 2).trans ?_
      rw [index13]; show 0 * 256 + (hc h d).val = (hc h d).val; omega
  have hp := point13 m c t b ⟨s.val / 512, hi⟩ ht' ⟨s.val % 512, by omega⟩ h d
  generalize out0_13 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => bq (aX m c) (aM m c) (aG m c) (aW m c) (val_main_v56 (F := Ideal)) (val_main_v61 (F := Ideal)) b s h d) es

theorem arr14 (c : Dev nD) (b : Fin 2) (s : Fin 8192) (h : Fin 2) (d : Fin 64) :
    ((dats m 0 c).arrAt 14 cfg0.N : S2x8192x128.Idx → EReal) (ix3 b s (hc2 h d))
      = bk (aX m c) (aM m c) (aG m c) (aW m c) (val_main_v56 (F := Ideal)) (val_main_v61 (F := Ideal)) b s h d := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 14 disjoint14 t (flush0_14 t) (ix3 0 ⟨s.val % 512, by omega⟩ (hc2 h d))
  rw [flushed14] at hf
  have e : ((cfg0.win 14).blk t).view.emb (ix3 0 ⟨s.val % 512, by omega⟩ (hc2 h d)) = ix3 b s (hc2 h d) := by
    refine idx3_ext (n0 := 2) (n1 := 8192) (n2 := 128) _ _ ?_ ?_ ?_
    · refine (win0_14.rect_emb_val t _ 0).trans ?_
      rw [index14]; show t.val / 16 * 1 + 0 = b.val; omega
    · refine (win0_14.rect_emb_val t _ 1).trans ?_
      rw [index14]; show t.val % 16 * 512 + s.val % 512 = s.val; omega
    · refine (win0_14.rect_emb_val t _ 2).trans ?_
      rw [index14]; show 0 * 128 + (hc2 h d).val = (hc2 h d).val; omega
  have hp := point14 m c t b ⟨s.val / 512, hi⟩ ht' ⟨s.val % 512, by omega⟩ h d
  generalize out0_14 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => bk (aX m c) (aM m c) (aG m c) (aW m c) (val_main_v56 (F := Ideal)) (val_main_v61 (F := Ideal)) b s h d) es

theorem arr15 (c : Dev nD) (b : Fin 2) (s : Fin 8192) (n : Fin 128) :
    ((dats m 0 c).arrAt 15 cfg0.N : S2x8192x128.Idx → EReal) (ix3 b s n)
      = prj (aX m c) (aM m c) (aG m c) (aW m c) b s ⟨896 + n.val, by omega⟩ := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 15 disjoint15 t (flush0_15 t) (ix3 0 ⟨s.val % 512, by omega⟩ n)
  rw [flushed15] at hf
  have e : ((cfg0.win 15).blk t).view.emb (ix3 0 ⟨s.val % 512, by omega⟩ n) = ix3 b s n := by
    refine idx3_ext (n0 := 2) (n1 := 8192) (n2 := 128) _ _ ?_ ?_ ?_
    · refine (win0_15.rect_emb_val t _ 0).trans ?_
      rw [index15]; show t.val / 16 * 1 + 0 = b.val; omega
    · refine (win0_15.rect_emb_val t _ 1).trans ?_
      rw [index15]; show t.val % 16 * 512 + s.val % 512 = s.val; omega
    · refine (win0_15.rect_emb_val t _ 2).trans ?_
      rw [index15]; show 0 * 128 + n.val = n.val; omega
  have hp := point15 m c t b ⟨s.val / 512, hi⟩ ht' ⟨s.val % 512, by omega⟩ n
  generalize out0_15 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨896 + n.val, by omega⟩) es

theorem arr16 (c : Dev nD) (b : Fin 2) (s : Fin 8192) (n : Fin 256) :
    ((dats m 0 c).arrAt 16 cfg0.N : S2x8192x256.Idx → EReal) (ix3 b s n)
      = prj (aX m c) (aM m c) (aG m c) (aW m c) b s ⟨1024 + n.val, by omega⟩ * eighth := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 16 disjoint16 t (flush0_16 t) (ix3 0 ⟨s.val % 512, by omega⟩ n)
  rw [flushed16] at hf
  have e : ((cfg0.win 16).blk t).view.emb (ix3 0 ⟨s.val % 512, by omega⟩ n) = ix3 b s n := by
    refine idx3_ext (n0 := 2) (n1 := 8192) (n2 := 256) _ _ ?_ ?_ ?_
    · refine (win0_16.rect_emb_val t _ 0).trans ?_
      rw [index16]; show t.val / 16 * 1 + 0 = b.val; omega
    · refine (win0_16.rect_emb_val t _ 1).trans ?_
      rw [index16]; show t.val % 16 * 512 + s.val % 512 = s.val; omega
    · refine (win0_16.rect_emb_val t _ 2).trans ?_
      rw [index16]; show 0 * 256 + n.val = n.val; omega
  have hp := point16 m c t b ⟨s.val / 512, hi⟩ ht' ⟨s.val % 512, by omega⟩ n
  generalize out0_16 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨1024 + n.val, by omega⟩ * eighth) es

theorem arr17 (c : Dev nD) (b : Fin 2) (s : Fin 8192) (n : Fin 256) :
    ((dats m 0 c).arrAt 17 cfg0.N : S2x8192x256.Idx → EReal) (ix3 b s n)
      = prj (aX m c) (aM m c) (aG m c) (aW m c) b s ⟨1280 + n.val, by omega⟩ := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 17 disjoint17 t (flush0_17 t) (ix3 0 ⟨s.val % 512, by omega⟩ n)
  rw [flushed17] at hf
  have e : ((cfg0.win 17).blk t).view.emb (ix3 0 ⟨s.val % 512, by omega⟩ n) = ix3 b s n := by
    refine idx3_ext (n0 := 2) (n1 := 8192) (n2 := 256) _ _ ?_ ?_ ?_
    · refine (win0_17.rect_emb_val t _ 0).trans ?_
      rw [index17]; show t.val / 16 * 1 + 0 = b.val; omega
    · refine (win0_17.rect_emb_val t _ 1).trans ?_
      rw [index17]; show t.val % 16 * 512 + s.val % 512 = s.val; omega
    · refine (win0_17.rect_emb_val t _ 2).trans ?_
      rw [index17]; show 0 * 256 + n.val = n.val; omega
  have hp := point17 m c t b ⟨s.val / 512, hi⟩ ht' ⟨s.val % 512, by omega⟩ n
  generalize out0_17 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨1280 + n.val, by omega⟩) es

theorem arr18 (c : Dev nD) (b : Fin 2) (s : Fin 8192) (n : Fin 256) :
    ((dats m 0 c).arrAt 18 cfg0.N : S2x8192x256.Idx → EReal) (ix3 b s n)
      = prj (aX m c) (aM m c) (aG m c) (aW m c) b s ⟨1536 + n.val, by omega⟩ := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 18 disjoint18 t (flush0_18 t) (ix3 0 ⟨s.val % 512, by omega⟩ n)
  rw [flushed18] at hf
  have e : ((cfg0.win 18).blk t).view.emb (ix3 0 ⟨s.val % 512, by omega⟩ n) = ix3 b s n := by
    refine idx3_ext (n0 := 2) (n1 := 8192) (n2 := 256) _ _ ?_ ?_ ?_
    · refine (win0_18.rect_emb_val t _ 0).trans ?_
      rw [index18]; show t.val / 16 * 1 + 0 = b.val; omega
    · refine (win0_18.rect_emb_val t _ 1).trans ?_
      rw [index18]; show t.val % 16 * 512 + s.val % 512 = s.val; omega
    · refine (win0_18.rect_emb_val t _ 2).trans ?_
      rw [index18]; show 0 * 256 + n.val = n.val; omega
  have hp := point18 m c t b ⟨s.val / 512, hi⟩ ht' ⟨s.val % 512, by omega⟩ n
  generalize out0_18 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨1536 + n.val, by omega⟩) es

theorem arr19 (c : Dev nD) (b : Fin 2) (s : Fin 8192) (n : Fin 256) :
    ((dats m 0 c).arrAt 19 cfg0.N : S2x8192x256.Idx → EReal) (ix3 b s n)
      = prj (aX m c) (aM m c) (aG m c) (aW m c) b s ⟨1792 + n.val, by omega⟩ := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 19 disjoint19 t (flush0_19 t) (ix3 0 ⟨s.val % 512, by omega⟩ n)
  rw [flushed19] at hf
  have e : ((cfg0.win 19).blk t).view.emb (ix3 0 ⟨s.val % 512, by omega⟩ n) = ix3 b s n := by
    refine idx3_ext (n0 := 2) (n1 := 8192) (n2 := 256) _ _ ?_ ?_ ?_
    · refine (win0_19.rect_emb_val t _ 0).trans ?_
      rw [index19]; show t.val / 16 * 1 + 0 = b.val; omega
    · refine (win0_19.rect_emb_val t _ 1).trans ?_
      rw [index19]; show t.val % 16 * 512 + s.val % 512 = s.val; omega
    · refine (win0_19.rect_emb_val t _ 2).trans ?_
      rw [index19]; show 0 * 256 + n.val = n.val; omega
  have hp := point19 m c t b ⟨s.val / 512, hi⟩ ht' ⟨s.val % 512, by omega⟩ n
  generalize out0_19 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨1792 + n.val, by omega⟩) es

theorem arr20 (c : Dev nD) (b : Fin 2) (s : Fin 8192) (n : Fin 128) :
    ((dats m 0 c).arrAt 20 cfg0.N : S2x8192x128.Idx → EReal) (ix3 b s n)
      = cg (aX m c) (aM m c) (aG m c) (aW m c) (m ((c : Thread nD τ).loc main_arg6)) b s n := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 20 disjoint20 t (flush0_20 t) (ix3 0 ⟨s.val % 512, by omega⟩ n)
  rw [flushed20] at hf
  have e : ((cfg0.win 20).blk t).view.emb (ix3 0 ⟨s.val % 512, by omega⟩ n) = ix3 b s n := by
    refine idx3_ext (n0 := 2) (n1 := 8192) (n2 := 128) _ _ ?_ ?_ ?_
    · refine (win0_20.rect_emb_val t _ 0).trans ?_
      rw [index20]; show t.val / 16 * 1 + 0 = b.val; omega
    · refine (win0_20.rect_emb_val t _ 1).trans ?_
      rw [index20]; show t.val % 16 * 512 + s.val % 512 = s.val; omega
    · refine (win0_20.rect_emb_val t _ 2).trans ?_
      rw [index20]; show 0 * 128 + n.val = n.val; omega
  have hp := point20 m c t b ⟨s.val / 512, hi⟩ ht' ⟨s.val % 512, by omega⟩ n
  generalize out0_20 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => cg (aX m c) (aM m c) (aG m c) (aW m c) (m ((c : Thread nD τ).loc main_arg6)) b s n) es

theorem arr21 (c : Dev nD) (b : Fin 2) (s : Fin 8192) (n : Fin 256) :
    ((dats m 0 c).arrAt 21 cfg0.N : S2x8192x256.Idx → EReal) (ix3 b s n)
      = prj (aX m c) (aM m c) (aG m c) (aW m c) b s ⟨2064 + n.val, by omega⟩ * eighth := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 21 disjoint21 t (flush0_21 t) (ix3 0 ⟨s.val % 512, by omega⟩ n)
  rw [flushed21] at hf
  have e : ((cfg0.win 21).blk t).view.emb (ix3 0 ⟨s.val % 512, by omega⟩ n) = ix3 b s n := by
    refine idx3_ext (n0 := 2) (n1 := 8192) (n2 := 256) _ _ ?_ ?_ ?_
    · refine (win0_21.rect_emb_val t _ 0).trans ?_
      rw [index21]; show t.val / 16 * 1 + 0 = b.val; omega
    · refine (win0_21.rect_emb_val t _ 1).trans ?_
      rw [index21]; show t.val % 16 * 512 + s.val % 512 = s.val; omega
    · refine (win0_21.rect_emb_val t _ 2).trans ?_
      rw [index21]; show 0 * 256 + n.val = n.val; omega
  have hp := point21 m c t b ⟨s.val / 512, hi⟩ ht' ⟨s.val % 512, by omega⟩ n
  generalize out0_21 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨2064 + n.val, by omega⟩ * eighth) es

theorem arr22 (c : Dev nD) (b : Fin 2) (s : Fin 8192) (n : Fin 256) :
    ((dats m 0 c).arrAt 22 cfg0.N : S2x8192x256.Idx → EReal) (ix3 b s n)
      = prj (aX m c) (aM m c) (aG m c) (aW m c) b s ⟨2320 + n.val, by omega⟩ := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 22 disjoint22 t (flush0_22 t) (ix3 0 ⟨s.val % 512, by omega⟩ n)
  rw [flushed22] at hf
  have e : ((cfg0.win 22).blk t).view.emb (ix3 0 ⟨s.val % 512, by omega⟩ n) = ix3 b s n := by
    refine idx3_ext (n0 := 2) (n1 := 8192) (n2 := 256) _ _ ?_ ?_ ?_
    · refine (win0_22.rect_emb_val t _ 0).trans ?_
      rw [index22]; show t.val / 16 * 1 + 0 = b.val; omega
    · refine (win0_22.rect_emb_val t _ 1).trans ?_
      rw [index22]; show t.val % 16 * 512 + s.val % 512 = s.val; omega
    · refine (win0_22.rect_emb_val t _ 2).trans ?_
      rw [index22]; show 0 * 256 + n.val = n.val; omega
  have hp := point22 m c t b ⟨s.val / 512, hi⟩ ht' ⟨s.val % 512, by omega⟩ n
  generalize out0_22 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨2320 + n.val, by omega⟩) es

theorem arr23 (c : Dev nD) (b : Fin 2) (s : Fin 8192) (n : Fin 256) :
    ((dats m 0 c).arrAt 23 cfg0.N : S2x8192x256.Idx → EReal) (ix3 b s n)
      = prj (aX m c) (aM m c) (aG m c) (aW m c) b s ⟨2576 + n.val, by omega⟩ := by
  obtain ⟨t, ht⟩ : ∃ t : Fin cfg0.N, t.val = b.val * 16 + s.val / 512 :=
    ⟨⟨b.val * 16 + s.val / 512, by show _ < 32; omega⟩, rfl⟩
  have hi : s.val / 512 < 16 := by omega
  have ht' : t.val = b.val * 16 + (⟨s.val / 512, hi⟩ : Fin 16).val := ht
  have hf := (dats m 0 c).arrAt_emb_eq_flushed 23 disjoint23 t (flush0_23 t) (ix3 0 ⟨s.val % 512, by omega⟩ n)
  rw [flushed23] at hf
  have e : ((cfg0.win 23).blk t).view.emb (ix3 0 ⟨s.val % 512, by omega⟩ n) = ix3 b s n := by
    refine idx3_ext (n0 := 2) (n1 := 8192) (n2 := 256) _ _ ?_ ?_ ?_
    · refine (win0_23.rect_emb_val t _ 0).trans ?_
      rw [index23]; show t.val / 16 * 1 + 0 = b.val; omega
    · refine (win0_23.rect_emb_val t _ 1).trans ?_
      rw [index23]; show t.val % 16 * 512 + s.val % 512 = s.val; omega
    · refine (win0_23.rect_emb_val t _ 2).trans ?_
      rw [index23]; show 0 * 256 + n.val = n.val; omega
  have hp := point23 m c t b ⟨s.val / 512, hi⟩ ht' ⟨s.val % 512, by omega⟩ n
  generalize out0_23 (F := Ideal) (iblk m c 0 t) (iblk m c 1 t) (iblk m c 2 t) (iblk m c 3 t) (iblk m c 4 t) (iblk m c 5 t) (iblk m c 6 t) (iblk m c 7 t) (iblk m c 8 t) (iblk m c 9 t) = o at hf hp
  rw [e] at hf
  refine hf.trans (Eq.trans ?_ (hp.trans ?_))
  · rfl
  · have es : (⟨s.val / 512 * 512 + s.val % 512, by omega⟩ : Fin 8192) = s :=
      Fin.ext (by show s.val / 512 * 512 + s.val % 512 = s.val; omega)
    exact congrArg (fun s => prj (aX m c) (aM m c) (aG m c) (aW m c) b s ⟨2576 + n.val, by omega⟩) es

end Cert.Kernel4Ideal.Value

end
-- ==== Proof.InpRefRows.lean ====
/-
  The reference's projected rows: the normalised and modulated rows, their projection, and the parts that are cut from it
  as they are.
-/
module

public import proofs.«01_k».proof.Proof.Gen.Reference4Ideal.Read
public import proofs.«01_k».proof.Proof.InpSpec

@[expose] public section

noncomputable section

namespace Cert.Reference4Ideal.Read

open Cert.Reference4Ideal Cert.Reference4Ideal.Gen Idealize.ShloMosaic Idealize.ShloMosaic.TcCoe Idealize.SL.Sem Idealize.ShloMosaic.StableHlo
open Cert.Ffn (modRow rms meanSq modAt)
open Cert.Inp

variable (x0 : (⟨S2x8192x1024, .f32⟩ : BufTy).Contents (Elt Ideal)) (x1 : (⟨S8x1x6144, .f32⟩ : BufTy).Contents (Elt Ideal))
  (x2 : (⟨S1024, .f32⟩ : BufTy).Contents (Elt Ideal)) (x3 : (⟨S1024x2832, .f32⟩ : BufTy).Contents (Elt Ideal))
  (x4 x5 : (⟨S64, .f32⟩ : BufTy).Contents (Elt Ideal)) (x6 : (⟨S16, .f32⟩ : BufTy).Contents (Elt Ideal))
  (b : Fin 2) (s : Fin 8192)

theorem hid_apply (k : Fin 1024) : val_main_v25 (F := Ideal) x0 x1 x2 (ix3 b s k) = hid x0 x1 x2 b s k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0, val_main_cst,
    val_main_cst_0, val_main_cst_1, val_main_cst_2, hid, modRow, rms, meanSq, modAt]

theorem prj_apply (n : Fin 2832) : val_main_v26 (F := Ideal) x0 x1 x2 x3 (ix3 b s n) = prj x0 x1 x2 x3 b s n := by
  unfold prj
  simp only [← hid_apply]
  pointwise [val_main_v26]

theorem part188_apply (c : Fin 128) :
    val_main_v188 (F := Ideal) x0 x1 x2 x3 (ix3 b s c) = prj x0 x1 x2 x3 b s ⟨384 + c.val, by omega⟩ := by
  rw [← prj_apply]
  unfold val_main_v188 val_main_v29
  generalize val_main_v26 (F := Ideal) x0 x1 x2 x3 = y
  pointwise []

theorem part289_apply (c : Fin 128) :
    val_main_v289 (F := Ideal) x0 x1 x2 x3 (ix3 b s c) = prj x0 x1 x2 x3 b s ⟨896 + c.val, by omega⟩ := by
  rw [← prj_apply]
  unfold val_main_v289 val_main_v32
  generalize val_main_v26 (F := Ideal) x0 x1 x2 x3 = y
  pointwise []

theorem part293_apply (c : Fin 256) :
    val_main_v293 (F := Ideal) x0 x1 x2 x3 (ix3 b s c) = prj x0 x1 x2 x3 b s ⟨1280 + c.val, by omega⟩ := by
  rw [← prj_apply]
  unfold val_main_v293 val_main_v34
  generalize val_main_v26 (F := Ideal) x0 x1 x2 x3 = y
  pointwise []

theorem part294_apply (c : Fin 256) :
    val_main_v294 (F := Ideal) x0 x1 x2 x3 (ix3 b s c) = prj x0 x1 x2 x3 b s ⟨1536 + c.val, by omega⟩ := by
  rw [← prj_apply]
  unfold val_main_v294 val_main_v35
  generalize val_main_v26 (F := Ideal) x0 x1 x2 x3 = y
  pointwise []

theorem part36_apply (c : Fin 256) :
    val_main_v36 (F := Ideal) x0 x1 x2 x3 (ix3 b s c) = prj x0 x1 x2 x3 b s ⟨1792 + c.val, by omega⟩ := by
  rw [← prj_apply]
  unfold val_main_v36
  generalize val_main_v26 (F := Ideal) x0 x1 x2 x3 = y
  pointwise []

theorem part302_apply (c : Fin 256) :
    val_main_v302 (F := Ideal) x0 x1 x2 x3 (ix3 b s c) = prj x0 x1 x2 x3 b s ⟨2320 + c.val, by omega⟩ := by
  rw [← prj_apply]
  unfold val_main_v302 val_main_v39
  generalize val_main_v26 (F := Ideal) x0 x1 x2 x3 = y
  pointwise []

theorem part303_apply (c : Fin 256) :
    val_main_v303 (F := Ideal) x0 x1 x2 x3 (ix3 b s c) = prj x0 x1 x2 x3 b s ⟨2576 + c.val, by omega⟩ := by
  rw [← prj_apply]
  unfold val_main_v303 val_main_v40
  generalize val_main_v26 (F := Ideal) x0 x1 x2 x3 = y
  pointwise []

theorem part292_apply (c : Fin 256) :
    val_main_v292 (F := Ideal) x0 x1 x2 x3 (ix3 b s c) = prj x0 x1 x2 x3 b s ⟨1024 + c.val, by omega⟩ * eighth := by
  rw [← prj_apply]
  unfold val_main_v292 val_main_v291 val_main_v33 val_main_v290 eighth
  generalize val_main_v26 (F := Ideal) x0 x1 x2 x3 = y
  pointwise [val_main_cst_14]

theorem part301_apply (c : Fin 256) :
    val_main_v301 (F := Ideal) x0 x1 x2 x3 (ix3 b s c) = prj x0 x1 x2 x3 b s ⟨2064 + c.val, by omega⟩ * eighth := by
  rw [← prj_apply]
  unfold val_main_v301 val_main_v300 val_main_v38 val_main_v299 eighth
  generalize val_main_v26 (F := Ideal) x0 x1 x2 x3 = y
  pointwise [val_main_cst_16]

theorem gate_apply (c : Fin 128) :
    val_main_v298 (F := Ideal) x0 x1 x2 x3 x6 (ix3 b s c) = cg x0 x1 x2 x3 x6 b s c := by
  unfold cg
  simp only [← prj_apply]
  unfold val_main_v298 val_main_v297 val_main_v296 val_main_v295 val_main_v37
  generalize val_main_v26 (F := Ideal) x0 x1 x2 x3 = y
  pointwise [val_main_call2_v0, val_main_c_15]
  by_cases h : c.val < 16
  · rw [dif_pos h, dif_pos (by omega)]
  · rw [dif_neg h, dif_neg (by omega)]
    show (((0#32 : BitVec 32).toInt : ℝ) : EReal) = 0
    simp

end Cert.Reference4Ideal.Read

end
-- ==== Proof.InpRefRope.lean ====
/-
  The reference's rotated heads: the cut into heads, the normalisation by head, and the rotation by the angles.
-/
module

public import proofs.«01_k».proof.Proof.InpRefRows

@[expose] public section

noncomputable section

namespace Cert.Reference4Ideal.Read

open Cert.Reference4Ideal Cert.Reference4Ideal.Gen Idealize.ShloMosaic Idealize.ShloMosaic.TcCoe Idealize.SL.Sem Idealize.ShloMosaic.StableHlo
open Cert.Ffn (modRow rms meanSq modAt)
open Cert.Inp

variable (x0 : (⟨S2x8192x1024, .f32⟩ : BufTy).Contents (Elt Ideal)) (x1 : (⟨S8x1x6144, .f32⟩ : BufTy).Contents (Elt Ideal))
  (x2 : (⟨S1024, .f32⟩ : BufTy).Contents (Elt Ideal)) (x3 : (⟨S1024x2832, .f32⟩ : BufTy).Contents (Elt Ideal))
  (x4 x5 : (⟨S64, .f32⟩ : BufTy).Contents (Elt Ideal)) (x6 : (⟨S16, .f32⟩ : BufTy).Contents (Elt Ideal))
  (b : Fin 2) (s : Fin 8192)

/-- The angles of row `s`. -/
def angles (s : Fin 8192) : Fin 64 → EReal := ang (val_main_v56 (F := Ideal)) (val_main_v61 (F := Ideal)) s

theorem lanes (d : Fin 64) : ∃ l : Fin 16, d.val = l.val ∨ d.val = 16 + l.val ∨ d.val = 32 + l.val ∨ d.val = 48 + l.val :=
  ⟨⟨d.val % 16, by omega⟩, by show d.val = d.val % 16 ∨ d.val = 16 + d.val % 16 ∨ d.val = 32 + d.val % 16 ∨ d.val = 48 + d.val % 16; omega⟩

theorem rope0 (R C : (⟨2, ![8192, 16]⟩ : Shape).Idx → EReal) (z : Fin 64 → EReal) (l : Fin 16) :
    rope (ang R C s) z ⟨0 + l.val, by omega⟩
      = z ⟨0 + l.val, by omega⟩ * Ideal.cos (R (ix2 s l)) - z ⟨16 + l.val, by omega⟩ * Ideal.sin (R (ix2 s l)) := by
  have hp : pair ⟨0 + l.val, by omega⟩ = ⟨16 + l.val, by omega⟩ := by
    unfold pair
    rw [if_pos (show (0 + l.val) % 32 < 16 by omega)]
    exact Fin.ext (by show (0 + l.val + 16) % 64 = 16 + l.val; omega)
  have ha : ang R C s ⟨0 + l.val, by omega⟩ = R (ix2 s l) := by
    unfold ang
    rw [if_pos (show 0 + l.val < 32 by omega)]
    exact congrArg (fun i => R (ix2 s i)) (Fin.ext (by show (0 + l.val) % 16 = l.val; omega))
  unfold rope sgnSin
  rw [hp, ha, if_pos (show (0 + l.val) % 32 < 16 by omega), mul_neg, sub_eq_add_neg]

theorem rope1 (R C : (⟨2, ![8192, 16]⟩ : Shape).Idx → EReal) (z : Fin 64 → EReal) (l : Fin 16) :
    rope (ang R C s) z ⟨16 + l.val, by omega⟩
      = z ⟨0 + l.val, by omega⟩ * Ideal.sin (R (ix2 s l)) + z ⟨16 + l.val, by omega⟩ * Ideal.cos (R (ix2 s l)) := by
  have hp : pair ⟨16 + l.val, by omega⟩ = ⟨0 + l.val, by omega⟩ := by
    unfold pair
    rw [if_neg (show ¬ (16 + l.val) % 32 < 16 by omega)]
    exact Fin.ext (by show (16 + l.val + 48) % 64 = 0 + l.val; omega)
  have ha : ang R C s ⟨16 + l.val, by omega⟩ = R (ix2 s l) := by
    unfold ang
    rw [if_pos (show 16 + l.val < 32 by omega)]
    exact congrArg (fun i => R (ix2 s i)) (Fin.ext (by show (16 + l.val) % 16 = l.val; omega))
  unfold rope sgnSin
  rw [hp, ha, if_neg (show ¬ (16 + l.val) % 32 < 16 by omega), add_comm]

theorem rope2 (R C : (⟨2, ![8192, 16]⟩ : Shape).Idx → EReal) (z : Fin 64 → EReal) (l : Fin 16) :
    rope (ang R C s) z ⟨32 + l.val, by omega⟩
      = z ⟨32 + l.val, by omega⟩ * Ideal.cos (C (ix2 s l)) - z ⟨48 + l.val, by omega⟩ * Ideal.sin (C (ix2 s l)) := by
  have hp : pair ⟨32 + l.val, by omega⟩ = ⟨48 + l.val, by omega⟩ := by
    unfold pair
    rw [if_pos (show (32 + l.val) % 32 < 16 by omega)]
    exact Fin.ext (by show (32 + l.val + 16) % 64 = 48 + l.val; omega)
  have ha : ang R C s ⟨32 + l.val, by omega⟩ = C (ix2 s l) := by
    unfold ang
    rw [if_neg (show ¬ 32 + l.val < 32 by omega)]
    exact congrArg (fun i => C (ix2 s i)) (Fin.ext (by show (32 + l.val) % 16 = l.val; omega))
  unfold rope sgnSin
  rw [hp, ha, if_pos (show (32 + l.val) % 32 < 16 by omega), mul_neg, sub_eq_add_neg]

theorem rope3 (R C : (⟨2, ![8192, 16]⟩ : Shape).Idx → EReal) (z : Fin 64 → EReal) (l : Fin 16) :
    rope (ang R C s) z ⟨48 + l.val, by omega⟩
      = z ⟨32 + l.val, by omega⟩ * Ideal.sin (C (ix2 s l)) + z ⟨48 + l.val, by omega⟩ * Ideal.cos (C (ix2 s l)) := by
  have hp : pair ⟨48 + l.val, by omega⟩ = ⟨32 + l.val, by omega⟩ := by
    unfold pair
    rw [if_neg (show ¬ (48 + l.val) % 32 < 16 by omega)]
    exact Fin.ext (by show (48 + l.val + 48) % 64 = 32 + l.val; omega)
  have ha : ang R C s ⟨48 + l.val, by omega⟩ = C (ix2 s l) := by
    unfold ang
    rw [if_neg (show ¬ 48 + l.val < 32 by omega)]
    exact congrArg (fun i => C (ix2 s i)) (Fin.ext (by show (48 + l.val) % 16 = l.val; omega))
  unfold rope sgnSin
  rw [hp, ha, if_neg (show ¬ (48 + l.val) % 32 < 16 by omega), add_comm]

theorem aq0_apply (h : Fin 4) (l : Fin 16) : val_main_v90 (F := Ideal) x0 x1 x2 x3 x4 (ix4 b s h l)
    = val_main_v75 (F := Ideal) x0 x1 x2 x3 x4 (ix4 b s h ⟨0 + l.val, by omega⟩) * Ideal.cos (val_main_v56 (F := Ideal) (ix2 s l))
      - val_main_v75 (F := Ideal) x0 x1 x2 x3 x4 (ix4 b s h ⟨16 + l.val, by omega⟩) * Ideal.sin (val_main_v56 (F := Ideal) (ix2 s l)) := by
  unfold val_main_v90 val_main_v86 val_main_v89 val_main_v78 val_main_v79 val_main_v76 val_main_v85 val_main_v88 val_main_v84 val_main_v87 val_main_v81 val_main_v83 val_main_v80 val_main_v82
  generalize val_main_v75 (F := Ideal) x0 x1 x2 x3 x4 = z
  generalize val_main_v56 (F := Ideal) = a
  pointwise []

theorem aq1_apply (h : Fin 4) (l : Fin 16) : val_main_v97 (F := Ideal) x0 x1 x2 x3 x4 (ix4 b s h l)
    = val_main_v75 (F := Ideal) x0 x1 x2 x3 x4 (ix4 b s h ⟨0 + l.val, by omega⟩) * Ideal.sin (val_main_v56 (F := Ideal) (ix2 s l))
      + val_main_v75 (F := Ideal) x0 x1 x2 x3 x4 (ix4 b s h ⟨16 + l.val, by omega⟩) * Ideal.cos (val_main_v56 (F := Ideal) (ix2 s l)) := by
  unfold val_main_v97 val_main_v93 val_main_v96 val_main_v78 val_main_v79 val_main_v76 val_main_v92 val_main_v95 val_main_v91 val_main_v94 val_main_v81 val_main_v83 val_main_v80 val_main_v82
  generalize val_main_v75 (F := Ideal) x0 x1 x2 x3 x4 = z
  generalize val_main_v56 (F := Ideal) = a
  pointwise []

theorem aq2_apply (h : Fin 4) (l : Fin 16) : val_main_v111 (F := Ideal) x0 x1 x2 x3 x4 (ix4 b s h l)
    = val_main_v75 (F := Ideal) x0 x1 x2 x3 x4 (ix4 b s h ⟨32 + l.val, by omega⟩) * Ideal.cos (val_main_v61 (F := Ideal) (ix2 s l))
      - val_main_v75 (F := Ideal) x0 x1 x2 x3 x4 (ix4 b s h ⟨48 + l.val, by omega⟩) * Ideal.sin (val_main_v61 (F := Ideal) (ix2 s l)) := by
  unfold val_main_v111 val_main_v107 val_main_v110 val_main_v99 val_main_v100 val_main_v77 val_main_v106 val_main_v109 val_main_v105 val_main_v108 val_main_v102 val_main_v104 val_main_v101 val_main_v103
  generalize val_main_v75 (F := Ideal) x0 x1 x2 x3 x4 = z
  generalize val_main_v61 (F := Ideal) = a
  pointwise []
  rw [show (⟨32 + (16 + l.val), by omega⟩ : Fin 64) = ⟨48 + l.val, by omega⟩ from Fin.ext (show 32 + (16 + l.val) = 48 + l.val by omega)]

theorem aq3_apply (h : Fin 4) (l : Fin 16) : val_main_v118 (F := Ideal) x0 x1 x2 x3 x4 (ix4 b s h l)
    = val_main_v75 (F := Ideal) x0 x1 x2 x3 x4 (ix4 b s h ⟨32 + l.val, by omega⟩) * Ideal.sin (val_main_v61 (F := Ideal) (ix2 s l))
      + val_main_v75 (F := Ideal) x0 x1 x2 x3 x4 (ix4 b s h ⟨48 + l.val, by omega⟩) * Ideal.cos (val_main_v61 (F := Ideal) (ix2 s l)) := by
  unfold val_main_v118 val_main_v114 val_main_v117 val_main_v99 val_main_v100 val_main_v77 val_main_v113 val_main_v116 val_main_v112 val_main_v115 val_main_v102 val_main_v104 val_main_v101 val_main_v103
  generalize val_main_v75 (F := Ideal) x0 x1 x2 x3 x4 = z
  generalize val_main_v61 (F := Ideal) = a
  pointwise []
  rw [show (⟨32 + (16 + l.val), by omega⟩ : Fin 64) = ⟨48 + l.val, by omega⟩ from Fin.ext (show 32 + (16 + l.val) = 48 + l.val by omega)]

theorem aq_rope (h : Fin 4) (d : Fin 64) : val_main_v120 (F := Ideal) x0 x1 x2 x3 x4 (ix4 b s h d)
    = rope (angles s) (fun d => val_main_v75 (F := Ideal) x0 x1 x2 x3 x4 (ix4 b s h d)) d := by
  unfold angles
  have e0 := aq0_apply x0 x1 x2 x3 x4 b s h
  have e1 := aq1_apply x0 x1 x2 x3 x4 b s h
  have e2 := aq2_apply x0 x1 x2 x3 x4 b s h
  have e3 := aq3_apply x0 x1 x2 x3 x4 b s h
  unfold val_main_v120 val_main_v98 val_main_v119
  generalize val_main_v90 (F := Ideal) x0 x1 x2 x3 x4 = y0 at e0 ⊢
  generalize val_main_v97 (F := Ideal) x0 x1 x2 x3 x4 = y1 at e1 ⊢
  generalize val_main_v111 (F := Ideal) x0 x1 x2 x3 x4 = y2 at e2 ⊢
  generalize val_main_v118 (F := Ideal) x0 x1 x2 x3 x4 = y3 at e3 ⊢
  generalize val_main_v75 (F := Ideal) x0 x1 x2 x3 x4 = z at e0 e1 e2 e3 ⊢
  pointwise []
  obtain ⟨l, hl | hl | hl | hl⟩ := lanes d
  · rw [show d = ⟨0 + l.val, by omega⟩ from Fin.ext (show d.val = 0 + l.val by omega), rope0, ← e0]
    refine (dif_pos (show 0 + l.val < 32 by omega)).trans ?_
    refine (dif_pos (show 0 + l.val < 16 by omega)).trans ?_
    exact congrArg (fun l => y0 (ix4 b s h l)) (Fin.ext (show 0 + l.val = l.val by omega))
  · rw [show d = ⟨16 + l.val, by omega⟩ from Fin.ext hl, rope1, ← e1]
    refine (dif_pos (show 16 + l.val < 32 by omega)).trans ?_
    refine (dif_neg (show ¬ 16 + l.val < 16 by omega)).trans ?_
    exact congrArg (fun l => y1 (ix4 b s h l)) (Fin.ext (show 16 + l.val - 16 = l.val by omega))
  · rw [show d = ⟨32 + l.val, by omega⟩ from Fin.ext hl, rope2, ← e2]
    refine (dif_neg (show ¬ 32 + l.val < 32 by omega)).trans ?_
    refine (dif_pos (show 32 + l.val - 32 < 16 by omega)).trans ?_
    exact congrArg (fun l => y2 (ix4 b s h l)) (Fin.ext (show 32 + l.val - 32 = l.val by omega))
  · rw [show d = ⟨48 + l.val, by omega⟩ from Fin.ext hl, rope3, ← e3]
    refine (dif_neg (show ¬ 48 + l.val < 32 by omega)).trans ?_
    refine (dif_neg (show ¬ 48 + l.val - 32 < 16 by omega)).trans ?_
    exact congrArg (fun l => y3 (ix4 b s h l)) (Fin.ext (show 48 + l.val - 32 - 16 = l.val by omega))

theorem ak0_apply (h : Fin 2) (l : Fin 16) : val_main_v155 (F := Ideal) x0 x1 x2 x3 x5 (ix4 b s h l)
    = val_main_v140 (F := Ideal) x0 x1 x2 x3 x5 (ix4 b s h ⟨0 + l.val, by omega⟩) * Ideal.cos (val_main_v56 (F := Ideal) (ix2 s l))
      - val_main_v140 (F := Ideal) x0 x1 x2 x3 x5 (ix4 b s h ⟨16 + l.val, by omega⟩) * Ideal.sin (val_main_v56 (F := Ideal) (ix2 s l)) := by
  unfold val_main_v155 val_main_v151 val_main_v154 val_main_v143 val_main_v144 val_main_v141 val_main_v150 val_main_v153 val_main_v149 val_main_v152 val_main_v146 val_main_v148 val_main_v145 val_main_v147
  generalize val_main_v140 (F := Ideal) x0 x1 x2 x3 x5 = z
  generalize val_main_v56 (F := Ideal) = a
  pointwise []

theorem ak1_apply (h : Fin 2) (l : Fin 16) : val_main_v162 (F := Ideal) x0 x1 x2 x3 x5 (ix4 b s h l)
    = val_main_v140 (F := Ideal) x0 x1 x2 x3 x5 (ix4 b s h ⟨0 + l.val, by omega⟩) * Ideal.sin (val_main_v56 (F := Ideal) (ix2 s l))
      + val_main_v140 (F := Ideal) x0 x1 x2 x3 x5 (ix4 b s h ⟨16 + l.val, by omega⟩) * Ideal.cos (val_main_v56 (F := Ideal) (ix2 s l)) := by
  unfold val_main_v162 val_main_v158 val_main_v161 val_main_v143 val_main_v144 val_main_v141 val_main_v157 val_main_v160 val_main_v156 val_main_v159 val_main_v146 val_main_v148 val_main_v145 val_main_v147
  generalize val_main_v140 (F := Ideal) x0 x1 x2 x3 x5 = z
  generalize val_main_v56 (F := Ideal) = a
  pointwise []

theorem ak2_apply (h : Fin 2) (l : Fin 16) : val_main_v176 (F := Ideal) x0 x1 x2 x3 x5 (ix4 b s h l)
    = val_main_v140 (F := Ideal) x0 x1 x2 x3 x5 (ix4 b s h ⟨32 + l.val, by omega⟩) * Ideal.cos (val_main_v61 (F := Ideal) (ix2 s l))
      - val_main_v140 (F := Ideal) x0 x1 x2 x3 x5 (ix4 b s h ⟨48 + l.val, by omega⟩) * Ideal.sin (val_main_v61 (F := Ideal) (ix2 s l)) := by
  unfold val_main_v176 val_main_v172 val_main_v175 val_main_v164 val_main_v165 val_main_v142 val_main_v171 val_main_v174 val_main_v170 val_main_v173 val_main_v167 val_main_v169 val_main_v166 val_main_v168
  generalize val_main_v140 (F := Ideal) x0 x1 x2 x3 x5 = z
  generalize val_main_v61 (F := Ideal) = a
  pointwise []
  rw [show (⟨32 + (16 + l.val), by omega⟩ : Fin 64) = ⟨48 + l.val, by omega⟩ from Fin.ext (show 32 + (16 + l.val) = 48 + l.val by omega)]

theorem ak3_apply (h : Fin 2) (l : Fin 16) : val_main_v183 (F := Ideal) x0 x1 x2 x3 x5 (ix4 b s h l)
    = val_main_v140 (F := Ideal) x0 x1 x2 x3 x5 (ix4 b s h ⟨32 + l.val, by omega⟩) * Ideal.sin (val_main_v61 (F := Ideal) (ix2 s l))
      + val_main_v140 (F := Ideal) x0 x1 x2 x3 x5 (ix4 b s h ⟨48 + l.val, by omega⟩) * Ideal.cos (val_main_v61 (F := Ideal) (ix2 s l)) := by
  unfold val_main_v183 val_main_v179 val_main_v182 val_main_v164 val_main_v165 val_main_v142 val_main_v178 val_main_v181 val_main_v177 val_main_v180 val_main_v167 val_main_v169 val_main_v166 val_main_v168
  generalize val_main_v140 (F := Ideal) x0 x1 x2 x3 x5 = z
  generalize val_main_v61 (F := Ideal) = a
  pointwise []
  rw [show (⟨32 + (16 + l.val), by omega⟩ : Fin 64) = ⟨48 + l.val, by omega⟩ from Fin.ext (show 32 + (16 + l.val) = 48 + l.val by omega)]

theorem ak_rope (h : Fin 2) (d : Fin 64) : val_main_v185 (F := Ideal) x0 x1 x2 x3 x5 (ix4 b s h d)
    = rope (angles s) (fun d => val_main_v140 (F := Ideal) x0 x1 x2 x3 x5 (ix4 b s h d)) d := by
  unfold angles
  have e0 := ak0_apply x0 x1 x2 x3 x5 b s h
  have e1 := ak1_apply x0 x1 x2 x3 x5 b s h
  have e2 := ak2_apply x0 x1 x2 x3 x5 b s h
  have e3 := ak3_apply x0 x1 x2 x3 x5 b s h
  unfold val_main_v185 val_main_v163 val_main_v184
  generalize val_main_v155 (F := Ideal) x0 x1 x2 x3 x5 = y0 at e0 ⊢
  generalize val_main_v162 (F := Ideal) x0 x1 x2 x3 x5 = y1 at e1 ⊢
  generalize val_main_v176 (F := Ideal) x0 x1 x2 x3 x5 = y2 at e2 ⊢
  generalize val_main_v183 (F := Ideal) x0 x1 x2 x3 x5 = y3 at e3 ⊢
  generalize val_main_v140 (F := Ideal) x0 x1 x2 x3 x5 = z at e0 e1 e2 e3 ⊢
  pointwise []
  obtain ⟨l, hl | hl | hl | hl⟩ := lanes d
  · rw [show d = ⟨0 + l.val, by omega⟩ from Fin.ext (show d.val = 0 + l.val by omega), rope0, ← e0]
    refine (dif_pos (show 0 + l.val < 32 by omega)).trans ?_
    refine (dif_pos (show 0 + l.val < 16 by omega)).trans ?_
    exact congrArg (fun l => y0 (ix4 b s h l)) (Fin.ext (show 0 + l.val = l.val by omega))
  · rw [show d = ⟨16 + l.val, by omega⟩ from Fin.ext hl, rope1, ← e1]
    refine (dif_pos (show 16 + l.val < 32 by omega)).trans ?_
    refine (dif_neg (show ¬ 16 + l.val < 16 by omega)).trans ?_
    exact congrArg (fun l => y1 (ix4 b s h l)) (Fin.ext (show 16 + l.val - 16 = l.val by omega))
  · rw [show d = ⟨32 + l.val, by omega⟩ from Fin.ext hl, rope2, ← e2]
    refine (dif_neg (show ¬ 32 + l.val < 32 by omega)).trans ?_
    refine (dif_pos (show 32 + l.val - 32 < 16 by omega)).trans ?_
    exact congrArg (fun l => y2 (ix4 b s h l)) (Fin.ext (show 32 + l.val - 32 = l.val by omega))
  · rw [show d = ⟨48 + l.val, by omega⟩ from Fin.ext hl, rope3, ← e3]
    refine (dif_neg (show ¬ 48 + l.val < 32 by omega)).trans ?_
    refine (dif_neg (show ¬ 48 + l.val - 32 < 16 by omega)).trans ?_
    exact congrArg (fun l => y3 (ix4 b s h l)) (Fin.ext (show 48 + l.val - 32 - 16 = l.val by omega))

theorem bq0_apply (h : Fin 4) (l : Fin 16) : val_main_v204 (F := Ideal) x0 x1 x2 x3 (ix4 b s h l)
    = val_main_v189 (F := Ideal) x0 x1 x2 x3 (ix4 b s h ⟨0 + l.val, by omega⟩) * Ideal.cos (val_main_v56 (F := Ideal) (ix2 s l))
      - val_main_v189 (F := Ideal) x0 x1 x2 x3 (ix4 b s h ⟨16 + l.val, by omega⟩) * Ideal.sin (val_main_v56 (F := Ideal) (ix2 s l)) := by
  unfold val_main_v204 val_main_v200 val_main_v203 val_main_v192 val_main_v193 val_main_v190 val_main_v199 val_main_v202 val_main_v198 val_main_v201 val_main_v195 val_main_v197 val_main_v194 val_main_v196
  generalize val_main_v189 (F := Ideal) x0 x1 x2 x3 = z
  generalize val_main_v56 (F := Ideal) = a
  pointwise []

theorem bq1_apply (h : Fin 4) (l : Fin 16) : val_main_v211 (F := Ideal) x0 x1 x2 x3 (ix4 b s h l)
    = val_main_v189 (F := Ideal) x0 x1 x2 x3 (ix4 b s h ⟨0 + l.val, by omega⟩) * Ideal.sin (val_main_v56 (F := Ideal) (ix2 s l))
      + val_main_v189 (F := Ideal) x0 x1 x2 x3 (ix4 b s h ⟨16 + l.val, by omega⟩) * Ideal.cos (val_main_v56 (F := Ideal) (ix2 s l)) := by
  unfold val_main_v211 val_main_v207 val_main_v210 val_main_v192 val_main_v193 val_main_v190 val_main_v206 val_main_v209 val_main_v205 val_main_v208 val_main_v195 val_main_v197 val_main_v194 val_main_v196
  generalize val_main_v189 (F := Ideal) x0 x1 x2 x3 = z
  generalize val_main_v56 (F := Ideal) = a
  pointwise []

theorem bq2_apply (h : Fin 4) (l : Fin 16) : val_main_v225 (F := Ideal) x0 x1 x2 x3 (ix4 b s h l)
    = val_main_v189 (F := Ideal) x0 x1 x2 x3 (ix4 b s h ⟨32 + l.val, by omega⟩) * Ideal.cos (val_main_v61 (F := Ideal) (ix2 s l))
      - val_main_v189 (F := Ideal) x0 x1 x2 x3 (ix4 b s h ⟨48 + l.val, by omega⟩) * Ideal.sin (val_main_v61 (F := Ideal) (ix2 s l)) := by
  unfold val_main_v225 val_main_v221 val_main_v224 val_main_v213 val_main_v214 val_main_v191 val_main_v220 val_main_v223 val_main_v219 val_main_v222 val_main_v216 val_main_v218 val_main_v215 val_main_v217
  generalize val_main_v189 (F := Ideal) x0 x1 x2 x3 = z
  generalize val_main_v61 (F := Ideal) = a
  pointwise []
  rw [show (⟨32 + (16 + l.val), by omega⟩ : Fin 64) = ⟨48 + l.val, by omega⟩ from Fin.ext (show 32 + (16 + l.val) = 48 + l.val by omega)]

theorem bq3_apply (h : Fin 4) (l : Fin 16) : val_main_v232 (F := Ideal) x0 x1 x2 x3 (ix4 b s h l)
    = val_main_v189 (F := Ideal) x0 x1 x2 x3 (ix4 b s h ⟨32 + l.val, by omega⟩) * Ideal.sin (val_main_v61 (F := Ideal) (ix2 s l))
      + val_main_v189 (F := Ideal) x0 x1 x2 x3 (ix4 b s h ⟨48 + l.val, by omega⟩) * Ideal.cos (val_main_v61 (F := Ideal) (ix2 s l)) := by
  unfold val_main_v232 val_main_v228 val_main_v231 val_main_v213 val_main_v214 val_main_v191 val_main_v227 val_main_v230 val_main_v226 val_main_v229 val_main_v216 val_main_v218 val_main_v215 val_main_v217
  generalize val_main_v189 (F := Ideal) x0 x1 x2 x3 = z
  generalize val_main_v61 (F := Ideal) = a
  pointwise []
  rw [show (⟨32 + (16 + l.val), by omega⟩ : Fin 64) = ⟨48 + l.val, by omega⟩ from Fin.ext (show 32 + (16 + l.val) = 48 + l.val by omega)]

theorem bq_rope (h : Fin 4) (d : Fin 64) : val_main_v234 (F := Ideal) x0 x1 x2 x3 (ix4 b s h d)
    = rope (angles s) (fun d => val_main_v189 (F := Ideal) x0 x1 x2 x3 (ix4 b s h d)) d := by
  unfold angles
  have e0 := bq0_apply x0 x1 x2 x3 b s h
  have e1 := bq1_apply x0 x1 x2 x3 b s h
  have e2 := bq2_apply x0 x1 x2 x3 b s h
  have e3 := bq3_apply x0 x1 x2 x3 b s h
  unfold val_main_v234 val_main_v212 val_main_v233
  generalize val_main_v204 (F := Ideal) x0 x1 x2 x3 = y0 at e0 ⊢
  generalize val_main_v211 (F := Ideal) x0 x1 x2 x3 = y1 at e1 ⊢
  generalize val_main_v225 (F := Ideal) x0 x1 x2 x3 = y2 at e2 ⊢
  generalize val_main_v232 (F := Ideal) x0 x1 x2 x3 = y3 at e3 ⊢
  generalize val_main_v189 (F := Ideal) x0 x1 x2 x3 = z at e0 e1 e2 e3 ⊢
  pointwise []
  obtain ⟨l, hl | hl | hl | hl⟩ := lanes d
  · rw [show d = ⟨0 + l.val, by omega⟩ from Fin.ext (show d.val = 0 + l.val by omega), rope0, ← e0]
    refine (dif_pos (show 0 + l.val < 32 by omega)).trans ?_
    refine (dif_pos (show 0 + l.val < 16 by omega)).trans ?_
    exact congrArg (fun l => y0 (ix4 b s h l)) (Fin.ext (show 0 + l.val = l.val by omega))
  · rw [show d = ⟨16 + l.val, by omega⟩ from Fin.ext hl, rope1, ← e1]
    refine (dif_pos (show 16 + l.val < 32 by omega)).trans ?_
    refine (dif_neg (show ¬ 16 + l.val < 16 by omega)).trans ?_
    exact congrArg (fun l => y1 (ix4 b s h l)) (Fin.ext (show 16 + l.val - 16 = l.val by omega))
  · rw [show d = ⟨32 + l.val, by omega⟩ from Fin.ext hl, rope2, ← e2]
    refine (dif_neg (show ¬ 32 + l.val < 32 by omega)).trans ?_
    refine (dif_pos (show 32 + l.val - 32 < 16 by omega)).trans ?_
    exact congrArg (fun l => y2 (ix4 b s h l)) (Fin.ext (show 32 + l.val - 32 = l.val by omega))
  · rw [show d = ⟨48 + l.val, by omega⟩ from Fin.ext hl, rope3, ← e3]
    refine (dif_neg (show ¬ 48 + l.val < 32 by omega)).trans ?_
    refine (dif_neg (show ¬ 48 + l.val - 32 < 16 by omega)).trans ?_
    exact congrArg (fun l => y3 (ix4 b s h l)) (Fin.ext (show 48 + l.val - 32 - 16 = l.val by omega))

theorem bk0_apply (h : Fin 2) (l : Fin 16) : val_main_v256 (F := Ideal) x0 x1 x2 x3 (ix4 b s h l)
    = val_main_v241 (F := Ideal) x0 x1 x2 x3 (ix4 b s h ⟨0 + l.val, by omega⟩) * Ideal.cos (val_main_v56 (F := Ideal) (ix2 s l))
      - val_main_v241 (F := Ideal) x0 x1 x2 x3 (ix4 b s h ⟨16 + l.val, by omega⟩) * Ideal.sin (val_main_v56 (F := Ideal) (ix2 s l)) := by
  unfold val_main_v256 val_main_v252 val_main_v255 val_main_v244 val_main_v245 val_main_v242 val_main_v251 val_main_v254 val_main_v250 val_main_v253 val_main_v247 val_main_v249 val_main_v246 val_main_v248
  generalize val_main_v241 (F := Ideal) x0 x1 x2 x3 = z
  generalize val_main_v56 (F := Ideal) = a
  pointwise []

theorem bk1_apply (h : Fin 2) (l : Fin 16) : val_main_v263 (F := Ideal) x0 x1 x2 x3 (ix4 b s h l)
    = val_main_v241 (F := Ideal) x0 x1 x2 x3 (ix4 b s h ⟨0 + l.val, by omega⟩) * Ideal.sin (val_main_v56 (F := Ideal) (ix2 s l))
      + val_main_v241 (F := Ideal) x0 x1 x2 x3 (ix4 b s h ⟨16 + l.val, by omega⟩) * Ideal.cos (val_main_v56 (F := Ideal) (ix2 s l)) := by
  unfold val_main_v263 val_main_v259 val_main_v262 val_main_v244 val_main_v245 val_main_v242 val_main_v258 val_main_v261 val_main_v257 val_main_v260 val_main_v247 val_main_v249 val_main_v246 val_main_v248
  generalize val_main_v241 (F := Ideal) x0 x1 x2 x3 = z
  generalize val_main_v56 (F := Ideal) = a
  pointwise []

theorem bk2_apply (h : Fin 2) (l : Fin 16) : val_main_v277 (F := Ideal) x0 x1 x2 x3 (ix4 b s h l)
    = val_main_v241 (F := Ideal) x0 x1 x2 x3 (ix4 b s h ⟨32 + l.val, by omega⟩) * Ideal.cos (val_main_v61 (F := Ideal) (ix2 s l))
      - val_main_v241 (F := Ideal) x0 x1 x2 x3 (ix4 b s h ⟨48 + l.val, by omega⟩) * Ideal.sin (val_main_v61 (F := Ideal) (ix2 s l)) := by
  unfold val_main_v277 val_main_v273 val_main_v276 val_main_v265 val_main_v266 val_main_v243 val_main_v272 val_main_v275 val_main_v271 val_main_v274 val_main_v268 val_main_v270 val_main_v267 val_main_v269
  generalize val_main_v241 (F := Ideal) x0 x1 x2 x3 = z
  generalize val_main_v61 (F := Ideal) = a
  pointwise []
  rw [show (⟨32 + (16 + l.val), by omega⟩ : Fin 64) = ⟨48 + l.val, by omega⟩ from Fin.ext (show 32 + (16 + l.val) = 48 + l.val by omega)]

theorem bk3_apply (h : Fin 2) (l : Fin 16) : val_main_v284 (F := Ideal) x0 x1 x2 x3 (ix4 b s h l)
    = val_main_v241 (F := Ideal) x0 x1 x2 x3 (ix4 b s h ⟨32 + l.val, by omega⟩) * Ideal.sin (val_main_v61 (F := Ideal) (ix2 s l))
      + val_main_v241 (F := Ideal) x0 x1 x2 x3 (ix4 b s h ⟨48 + l.val, by omega⟩) * Ideal.cos (val_main_v61 (F := Ideal) (ix2 s l)) := by
  unfold val_main_v284 val_main_v280 val_main_v283 val_main_v265 val_main_v266 val_main_v243 val_main_v279 val_main_v282 val_main_v278 val_main_v281 val_main_v268 val_main_v270 val_main_v267 val_main_v269
  generalize val_main_v241 (F := Ideal) x0 x1 x2 x3 = z
  generalize val_main_v61 (F := Ideal) = a
  pointwise []
  rw [show (⟨32 + (16 + l.val), by omega⟩ : Fin 64) = ⟨48 + l.val, by omega⟩ from Fin.ext (show 32 + (16 + l.val) = 48 + l.val by omega)]

theorem bk_rope (h : Fin 2) (d : Fin 64) : val_main_v286 (F := Ideal) x0 x1 x2 x3 (ix4 b s h d)
    = rope (angles s) (fun d => val_main_v241 (F := Ideal) x0 x1 x2 x3 (ix4 b s h d)) d := by
  unfold angles
  have e0 := bk0_apply x0 x1 x2 x3 b s h
  have e1 := bk1_apply x0 x1 x2 x3 b s h
  have e2 := bk2_apply x0 x1 x2 x3 b s h
  have e3 := bk3_apply x0 x1 x2 x3 b s h
  unfold val_main_v286 val_main_v264 val_main_v285
  generalize val_main_v256 (F := Ideal) x0 x1 x2 x3 = y0 at e0 ⊢
  generalize val_main_v263 (F := Ideal) x0 x1 x2 x3 = y1 at e1 ⊢
  generalize val_main_v277 (F := Ideal) x0 x1 x2 x3 = y2 at e2 ⊢
  generalize val_main_v284 (F := Ideal) x0 x1 x2 x3 = y3 at e3 ⊢
  generalize val_main_v241 (F := Ideal) x0 x1 x2 x3 = z at e0 e1 e2 e3 ⊢
  pointwise []
  obtain ⟨l, hl | hl | hl | hl⟩ := lanes d
  · rw [show d = ⟨0 + l.val, by omega⟩ from Fin.ext (show d.val = 0 + l.val by omega), rope0, ← e0]
    refine (dif_pos (show 0 + l.val < 32 by omega)).trans ?_
    refine (dif_pos (show 0 + l.val < 16 by omega)).trans ?_
    exact congrArg (fun l => y0 (ix4 b s h l)) (Fin.ext (show 0 + l.val = l.val by omega))
  · rw [show d = ⟨16 + l.val, by omega⟩ from Fin.ext hl, rope1, ← e1]
    refine (dif_pos (show 16 + l.val < 32 by omega)).trans ?_
    refine (dif_neg (show ¬ 16 + l.val < 16 by omega)).trans ?_
    exact congrArg (fun l => y1 (ix4 b s h l)) (Fin.ext (show 16 + l.val - 16 = l.val by omega))
  · rw [show d = ⟨32 + l.val, by omega⟩ from Fin.ext hl, rope2, ← e2]
    refine (dif_neg (show ¬ 32 + l.val < 32 by omega)).trans ?_
    refine (dif_pos (show 32 + l.val - 32 < 16 by omega)).trans ?_
    exact congrArg (fun l => y2 (ix4 b s h l)) (Fin.ext (show 32 + l.val - 32 = l.val by omega))
  · rw [show d = ⟨48 + l.val, by omega⟩ from Fin.ext hl, rope3, ← e3]
    refine (dif_neg (show ¬ 48 + l.val < 32 by omega)).trans ?_
    refine (dif_neg (show ¬ 48 + l.val - 32 < 16 by omega)).trans ?_
    exact congrArg (fun l => y3 (ix4 b s h l)) (Fin.ext (show 48 + l.val - 32 - 16 = l.val by omega))

end Cert.Reference4Ideal.Read

end
-- ==== Proof.InpRef.lean ====
/-
  The reference's heads: what is cut from the projection, the normalisation by head, and the parts it returns.
-/
module

public import proofs.«01_k».proof.Proof.InpRefRope

@[expose] public section

noncomputable section

namespace Cert.Reference4Ideal.Read

open Cert.Reference4Ideal Cert.Reference4Ideal.Gen Idealize.ShloMosaic Idealize.ShloMosaic.TcCoe Idealize.SL.Sem Idealize.ShloMosaic.StableHlo
open Cert.Ffn (modRow rms meanSq modAt)
open Cert.Inp

variable (x0 : (⟨S2x8192x1024, .f32⟩ : BufTy).Contents (Elt Ideal)) (x1 : (⟨S8x1x6144, .f32⟩ : BufTy).Contents (Elt Ideal))
  (x2 : (⟨S1024, .f32⟩ : BufTy).Contents (Elt Ideal)) (x3 : (⟨S1024x2832, .f32⟩ : BufTy).Contents (Elt Ideal))
  (x4 x5 : (⟨S64, .f32⟩ : BufTy).Contents (Elt Ideal)) (x6 : (⟨S16, .f32⟩ : BufTy).Contents (Elt Ideal))
  (b : Fin 2) (s : Fin 8192)

theorem hd_from {o o' : ℕ} (e : o = o') (ho : o ≤ 2768) (ho' : o' ≤ 2768) : hd x0 x1 x2 x3 b s o ho = hd x0 x1 x2 x3 b s o' ho' := by
  subst e; rfl

theorem aq_cut (h : Fin 4) : (fun d => val_main_v62 (F := Ideal) x0 x1 x2 x3 (ix4 b s h d))
    = hd x0 x1 x2 x3 b s (0 + h.val * 64) (by omega) := funext fun d => by
  unfold hd
  rw [← prj_apply]
  unfold val_main_v62 val_main_v27
  generalize val_main_v26 (F := Ideal) x0 x1 x2 x3 = y
  pointwise []

theorem ak_cut (h : Fin 2) : (fun d => val_main_v127 (F := Ideal) x0 x1 x2 x3 (ix4 b s h d))
    = hd x0 x1 x2 x3 b s (256 + h.val * 64) (by omega) := funext fun d => by
  unfold hd
  rw [← prj_apply]
  unfold val_main_v127 val_main_v28
  generalize val_main_v26 (F := Ideal) x0 x1 x2 x3 = y
  pointwise []
  exact congrArg (fun n => y (ix3 b s n)) (Fin.ext (by show 256 + (h.val * 64 + d.val) = 256 + h.val * 64 + d.val; omega))

theorem bq_cut (h : Fin 4) : (fun d => val_main_v189 (F := Ideal) x0 x1 x2 x3 (ix4 b s h d))
    = hd x0 x1 x2 x3 b s (512 + h.val * 64) (by omega) := funext fun d => by
  unfold hd
  rw [← prj_apply]
  unfold val_main_v189 val_main_v30
  generalize val_main_v26 (F := Ideal) x0 x1 x2 x3 = y
  pointwise []
  exact congrArg (fun n => y (ix3 b s n)) (Fin.ext (by show 512 + (h.val * 64 + d.val) = 512 + h.val * 64 + d.val; omega))

theorem bk_cut (h : Fin 2) : (fun d => val_main_v241 (F := Ideal) x0 x1 x2 x3 (ix4 b s h d))
    = hd x0 x1 x2 x3 b s (768 + h.val * 64) (by omega) := funext fun d => by
  unfold hd
  rw [← prj_apply]
  unfold val_main_v241 val_main_v31
  generalize val_main_v26 (F := Ideal) x0 x1 x2 x3 = y
  pointwise []
  exact congrArg (fun n => y (ix3 b s n)) (Fin.ext (by show 768 + (h.val * 64 + d.val) = 768 + h.val * 64 + d.val; omega))

theorem aq_sq (h : Fin 4) : val_main_v64 (F := Ideal) x0 x1 x2 x3 (ix3 b s h)
    = ∑ d, val_main_v62 (F := Ideal) x0 x1 x2 x3 (ix4 b s h d) * val_main_v62 (F := Ideal) x0 x1 x2 x3 (ix4 b s h d) := by
  have h0 : val_main_cst_6 (F := Ideal) (Shape.Idx.first h_S_) = 0 := by
    show Ideal.ofBits .f32 0x00000000#32 = 0
    simp [Ideal.ofBits_zero_f32]
  rw [val_main_v64_apply, h0, zero_add]
  refine Finset.sum_congr rfl fun d _ => ?_
  have hi : idx_main_v64 (ix3 b s h) d = ix4 b s h d := funext fun a => match a with
    | ⟨0, _⟩ => rfl
    | ⟨1, _⟩ => rfl
    | ⟨2, _⟩ => rfl
    | ⟨3, _⟩ => rfl
  rw [hi, val_main_v63_apply]
  rfl

theorem aq_gain (h : Fin 4) (d : Fin 64) : val_main_v74 (F := Ideal) x4 (ix4 b s h d) = x4 (ix1 d) := by
  pointwise [val_main_v74, val_main_v73]

theorem aq_inv (h : Fin 4) (d : Fin 64) : val_main_v71 (F := Ideal) x0 x1 x2 x3 (ix4 b s h d)
    = Ideal.rsqrt (Ideal.div (val_main_v64 (F := Ideal) x0 x1 x2 x3 (ix3 b s h)) (Ideal.ofBits .f32 0x42800000#32)
        + Ideal.ofBits .f32 0x358637BD#32) := by
  unfold val_main_v71 val_main_v70 val_main_v69 val_main_v67 val_main_v65
  generalize val_main_v64 (F := Ideal) x0 x1 x2 x3 = y
  pointwise [val_main_v68, val_main_v66, val_main_cst_7, val_main_cst_8]

theorem aq_norm (h : Fin 4) : (fun d => val_main_v75 (F := Ideal) x0 x1 x2 x3 x4 (ix4 b s h d))
    = headNorm (fun d => x4 (ix1 d)) (fun d => val_main_v62 (F := Ideal) x0 x1 x2 x3 (ix4 b s h d)) := funext fun d => by
  unfold headNorm
  rw [val_main_v75_apply, val_main_v72_apply, aq_gain, aq_inv, aq_sq]
  rfl

theorem ak_sq (h : Fin 2) : val_main_v129 (F := Ideal) x0 x1 x2 x3 (ix3 b s h)
    = ∑ d, val_main_v127 (F := Ideal) x0 x1 x2 x3 (ix4 b s h d) * val_main_v127 (F := Ideal) x0 x1 x2 x3 (ix4 b s h d) := by
  have h0 : val_main_cst_10 (F := Ideal) (Shape.Idx.first h_S_) = 0 := by
    show Ideal.ofBits .f32 0x00000000#32 = 0
    simp [Ideal.ofBits_zero_f32]
  rw [val_main_v129_apply, h0, zero_add]
  refine Finset.sum_congr rfl fun d _ => ?_
  have hi : idx_main_v129 (ix3 b s h) d = ix4 b s h d := funext fun a => match a with
    | ⟨0, _⟩ => rfl
    | ⟨1, _⟩ => rfl
    | ⟨2, _⟩ => rfl
    | ⟨3, _⟩ => rfl
  rw [hi, val_main_v128_apply]
  rfl

theorem ak_gain (h : Fin 2) (d : Fin 64) : val_main_v139 (F := Ideal) x5 (ix4 b s h d) = x5 (ix1 d) := by
  pointwise [val_main_v139, val_main_v138]

theorem ak_inv (h : Fin 2) (d : Fin 64) : val_main_v136 (F := Ideal) x0 x1 x2 x3 (ix4 b s h d)
    = Ideal.rsqrt (Ideal.div (val_main_v129 (F := Ideal) x0 x1 x2 x3 (ix3 b s h)) (Ideal.ofBits .f32 0x42800000#32)
        + Ideal.ofBits .f32 0x358637BD#32) := by
  unfold val_main_v136 val_main_v135 val_main_v134 val_main_v132 val_main_v130
  generalize val_main_v129 (F := Ideal) x0 x1 x2 x3 = y
  pointwise [val_main_v133, val_main_v131, val_main_cst_11, val_main_cst_12]

theorem ak_norm (h : Fin 2) : (fun d => val_main_v140 (F := Ideal) x0 x1 x2 x3 x5 (ix4 b s h d))
    = headNorm (fun d => x5 (ix1 d)) (fun d => val_main_v127 (F := Ideal) x0 x1 x2 x3 (ix4 b s h d)) := funext fun d => by
  unfold headNorm
  rw [val_main_v140_apply, val_main_v137_apply, ak_gain, ak_inv, ak_sq]
  rfl

theorem aq_scale (h : Fin 4) (d : Fin 64) : val_main_v122 (F := Ideal) x0 x1 x2 x3 x4 (ix4 b s h d)
    = val_main_v120 (F := Ideal) x0 x1 x2 x3 x4 (ix4 b s h d) * eighth := by
  unfold val_main_v122 val_main_v121 eighth
  generalize val_main_v120 (F := Ideal) x0 x1 x2 x3 x4 = y
  pointwise [val_main_cst_9]

theorem aq_order (h : Fin 4) (d : Fin 64) : val_main_v126 (F := Ideal) x0 x1 x2 x3 x4 (ix3 b s (hc h d))
    = val_main_v122 (F := Ideal) x0 x1 x2 x3 x4 (ix4 b s (swap h) d) := by
  unfold val_main_v126 val_main_v125 val_main_v124 val_main_v123
  generalize val_main_v122 (F := Ideal) x0 x1 x2 x3 x4 = y
  pointwise []
  have hv : (hc h d).val = h.val * 64 + d.val := rfl
  have hs : (swap h).val = h.val % 2 * 2 + h.val / 2 := rfl
  have e1 : (h.val * 64 + d.val) / 64 = h.val := by omega
  have e2 : (h.val * 64 + d.val) / 128 = h.val / 2 := by omega
  congr 2
  · exact Fin.ext (by show _ = (swap h).val; simp only [hv, hs, e1, e2])
  · exact Fin.ext (by simp only [hv]; omega)

/-- The part of the reference's result that is `Inp.aq`. -/
theorem aq_apply (h : Fin 4) (d : Fin 64) : val_main_v126 (F := Ideal) x0 x1 x2 x3 x4 (ix3 b s (hc h d))
    = aq x0 x1 x2 x3 x4 (val_main_v56 (F := Ideal)) (val_main_v61 (F := Ideal)) b s h d := by
  rw [aq_order, aq_scale, aq_rope, aq_norm, aq_cut, hd_from x0 x1 x2 x3 b s (Nat.zero_add ((swap h).val * 64)) _ (by omega)]
  rfl

theorem bq_scale (h : Fin 4) (d : Fin 64) : val_main_v236 (F := Ideal) x0 x1 x2 x3 (ix4 b s h d)
    = val_main_v234 (F := Ideal) x0 x1 x2 x3 (ix4 b s h d) * eighth := by
  unfold val_main_v236 val_main_v235 eighth
  generalize val_main_v234 (F := Ideal) x0 x1 x2 x3 = y
  pointwise [val_main_cst_13]

theorem bq_order (h : Fin 4) (d : Fin 64) : val_main_v240 (F := Ideal) x0 x1 x2 x3 (ix3 b s (hc h d))
    = val_main_v236 (F := Ideal) x0 x1 x2 x3 (ix4 b s (swap h) d) := by
  unfold val_main_v240 val_main_v239 val_main_v238 val_main_v237
  generalize val_main_v236 (F := Ideal) x0 x1 x2 x3 = y
  pointwise []
  have hv : (hc h d).val = h.val * 64 + d.val := rfl
  have hs : (swap h).val = h.val % 2 * 2 + h.val / 2 := rfl
  have e1 : (h.val * 64 + d.val) / 64 = h.val := by omega
  have e2 : (h.val * 64 + d.val) / 128 = h.val / 2 := by omega
  congr 2
  · exact Fin.ext (by show _ = (swap h).val; simp only [hv, hs, e1, e2])
  · exact Fin.ext (by simp only [hv]; omega)

/-- The part of the reference's result that is `Inp.bq`. -/
theorem bq_apply (h : Fin 4) (d : Fin 64) : val_main_v240 (F := Ideal) x0 x1 x2 x3 (ix3 b s (hc h d))
    = bq x0 x1 x2 x3 (val_main_v56 (F := Ideal)) (val_main_v61 (F := Ideal)) b s h d := by
  rw [bq_order, bq_scale, bq_rope, bq_cut]
  unfold bq

  rfl

theorem flat_index (h : Fin 2) (d : Fin 64) : idx_main_v186 (ix3 b s (hc2 h d)) = ix4 b s h d := by
  have hb := b.isLt
  have hs := s.isLt
  have hh := h.isLt
  have hd := d.isLt
  funext a
  match a with
  | ⟨0, _⟩ => exact Fin.ext (by show ((b.val * 8192 + s.val) * 128 + (h.val * 64 + d.val)) / 1048576 = b.val; omega)
  | ⟨1, _⟩ => exact Fin.ext (by show ((b.val * 8192 + s.val) * 128 + (h.val * 64 + d.val)) / 128 % 8192 = s.val; omega)
  | ⟨2, _⟩ => exact Fin.ext (by show ((b.val * 8192 + s.val) * 128 + (h.val * 64 + d.val)) / 64 % 2 = h.val; omega)
  | ⟨3, _⟩ => exact Fin.ext (by show ((b.val * 8192 + s.val) * 128 + (h.val * 64 + d.val)) % 64 = d.val; omega)

theorem ak_flat (h : Fin 2) (d : Fin 64) : val_main_v187 (F := Ideal) x0 x1 x2 x3 x5 (ix3 b s (hc2 h d))
    = val_main_v185 (F := Ideal) x0 x1 x2 x3 x5 (ix4 b s h d) := by
  have e : val_main_v186 (F := Ideal) x0 x1 x2 x3 x5 (ix3 b s (hc2 h d)) = val_main_v185 (F := Ideal) x0 x1 x2 x3 x5 (ix4 b s h d) := by
    rw [val_main_v186_apply]
    exact congrArg _ (flat_index b s h d)
  rw [val_main_v187_apply, e]
  generalize val_main_v185 (F := Ideal) x0 x1 x2 x3 x5 (ix4 b s h d) = z
  rfl

/-- The part of the reference's result that is `Inp.ak`. -/
theorem ak_apply (h : Fin 2) (d : Fin 64) : val_main_v187 (F := Ideal) x0 x1 x2 x3 x5 (ix3 b s (hc2 h d))
    = ak x0 x1 x2 x3 x5 (val_main_v56 (F := Ideal)) (val_main_v61 (F := Ideal)) b s h d := by
  rw [ak_flat, ak_rope, ak_norm, ak_cut]
  rfl

theorem bk_flat (h : Fin 2) (d : Fin 64) : val_main_v288 (F := Ideal) x0 x1 x2 x3 (ix3 b s (hc2 h d))
    = val_main_v286 (F := Ideal) x0 x1 x2 x3 (ix4 b s h d) := by
  have e : val_main_v287 (F := Ideal) x0 x1 x2 x3 (ix3 b s (hc2 h d)) = val_main_v286 (F := Ideal) x0 x1 x2 x3 (ix4 b s h d) := by
    rw [val_main_v287_apply]
    exact congrArg _ (flat_index b s h d)
  rw [val_main_v288_apply, e]
  generalize val_main_v286 (F := Ideal) x0 x1 x2 x3 (ix4 b s h d) = z
  rfl

/-- The part of the reference's result that is `Inp.bk`. -/
theorem bk_apply (h : Fin 2) (d : Fin 64) : val_main_v288 (F := Ideal) x0 x1 x2 x3 (ix3 b s (hc2 h d))
    = bk x0 x1 x2 x3 (val_main_v56 (F := Ideal)) (val_main_v61 (F := Ideal)) b s h d := by
  rw [bk_flat, bk_rope, bk_cut]
  rfl

end Cert.Reference4Ideal.Read

end
-- ==== Proof.InpEquation.lean ====
/-
  The fourteen results of the input projection are equal: the arrays the kernel leaves and the arrays the reference leaves
  hold the same elements, where the modulation, the gains of the norm and the weights are numbers.
-/
module

public import proofs.«01_k».proof.Defs
public import proofs.«01_k».proof.Proof.InpFinal
public import proofs.«01_k».proof.Proof.InpRef
public import proofs.«01_k».proof.Proof.Gen.Kernel4.Frame
public import proofs.«01_k».proof.Proof.Gen.Reference4Ideal.Run
public import Idealize.ShloMosaic.Lib.Quiescent

@[expose] public section

noncomputable section

namespace Cert.Inp

open Idealize.ShloMosaic Idealize.ShloMosaic.TcCoe Idealize.SL.Sem
open Cert.Attn (Num)

section Arrays

variable (m : (ℓ : Loc Cert.Kernel4Ideal.nD Cert.Kernel4Ideal.τ Cert.Kernel4Ideal.sig) → Buf (Elt Ideal) ℓ)
  (c : Dev Cert.Kernel4Ideal.nD)

theorem eq10 (hM : ∀ i, Num (Cert.Kernel4Ideal.Value.aM m c i)) (hG : ∀ i, Num (Cert.Kernel4Ideal.Value.aG m c i))
    (hW : ∀ i, Num (Cert.Kernel4Ideal.Value.aW m c i)) : Cert.Reference4Ideal.Read.val_main_v126 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
    = (Cert.Kernel4Ideal.Gen.dats m 0 c).arrAt 10 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  obtain ⟨h, d, rfl⟩ := exists_hc n
  exact (Cert.Reference4Ideal.Read.aq_apply _ _ _ _ _ b s h d).trans (Cert.Kernel4Ideal.Value.arr10 m c hM hG hW b s h d).symm

theorem eq11 (hM : ∀ i, Num (Cert.Kernel4Ideal.Value.aM m c i)) (hG : ∀ i, Num (Cert.Kernel4Ideal.Value.aG m c i))
    (hW : ∀ i, Num (Cert.Kernel4Ideal.Value.aW m c i)) : Cert.Reference4Ideal.Read.val_main_v187 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg5))
    = (Cert.Kernel4Ideal.Gen.dats m 0 c).arrAt 11 Cert.Kernel4Ideal.cfg0.N := by
  funext i
  obtain ⟨b, s, n, rfl⟩ : ∃ (b : Fin 2) (s : Fin 8192) (n : Fin 128), i = ix3 b s n :=
    ⟨i 0, i 1, i 2, Cert.KernelIdeal.Value.idx3_ext (n0 := 2) (n1 := 8192) (n2 := 128) _ _ rfl rfl rfl⟩
  obtain ⟨h, d, rfl⟩ := exists_hc2 n
  exact (Cert.Reference4Ideal.Read.ak_apply _ _ _ _ _ b s h d).trans (Cert.Kernel4Ideal.Value.arr11 m c hM hG hW b s h d).symm

theorem eq12 : Cert.Reference4Ideal.Read.val_main_v188 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 12 Cert.Kernel4Ideal.cfg0.N := by
  funext i
  obtain ⟨b, s, n, rfl⟩ : ∃ (b : Fin 2) (s : Fin 8192) (n : Fin 128), i = ix3 b s n :=
    ⟨i 0, i 1, i 2, Cert.KernelIdeal.Value.idx3_ext (n0 := 2) (n1 := 8192) (n2 := 128) _ _ rfl rfl rfl⟩
  exact (Cert.Reference4Ideal.Read.part188_apply _ _ _ _ b s n).trans (Cert.Kernel4Ideal.Value.arr12 m c b s n).symm

theorem eq13 : Cert.Reference4Ideal.Read.val_main_v240 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 13 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  obtain ⟨h, d, rfl⟩ := exists_hc n
  exact (Cert.Reference4Ideal.Read.bq_apply _ _ _ _ b s h d).trans (Cert.Kernel4Ideal.Value.arr13 m c b s h d).symm

theorem eq14 : Cert.Reference4Ideal.Read.val_main_v288 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 14 Cert.Kernel4Ideal.cfg0.N := by
  funext i
  obtain ⟨b, s, n, rfl⟩ : ∃ (b : Fin 2) (s : Fin 8192) (n : Fin 128), i = ix3 b s n :=
    ⟨i 0, i 1, i 2, Cert.KernelIdeal.Value.idx3_ext (n0 := 2) (n1 := 8192) (n2 := 128) _ _ rfl rfl rfl⟩
  obtain ⟨h, d, rfl⟩ := exists_hc2 n
  exact (Cert.Reference4Ideal.Read.bk_apply _ _ _ _ b s h d).trans (Cert.Kernel4Ideal.Value.arr14 m c b s h d).symm

theorem eq15 : Cert.Reference4Ideal.Read.val_main_v289 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 15 Cert.Kernel4Ideal.cfg0.N := by
  funext i
  obtain ⟨b, s, n, rfl⟩ : ∃ (b : Fin 2) (s : Fin 8192) (n : Fin 128), i = ix3 b s n :=
    ⟨i 0, i 1, i 2, Cert.KernelIdeal.Value.idx3_ext (n0 := 2) (n1 := 8192) (n2 := 128) _ _ rfl rfl rfl⟩
  exact (Cert.Reference4Ideal.Read.part289_apply _ _ _ _ b s n).trans (Cert.Kernel4Ideal.Value.arr15 m c b s n).symm

theorem eq16 : Cert.Reference4Ideal.Read.val_main_v292 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 16 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  exact (Cert.Reference4Ideal.Read.part292_apply _ _ _ _ b s n).trans (Cert.Kernel4Ideal.Value.arr16 m c b s n).symm

theorem eq17 : Cert.Reference4Ideal.Read.val_main_v293 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 17 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  exact (Cert.Reference4Ideal.Read.part293_apply _ _ _ _ b s n).trans (Cert.Kernel4Ideal.Value.arr17 m c b s n).symm

theorem eq18 : Cert.Reference4Ideal.Read.val_main_v294 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 18 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  exact (Cert.Reference4Ideal.Read.part294_apply _ _ _ _ b s n).trans (Cert.Kernel4Ideal.Value.arr18 m c b s n).symm

theorem eq19 : Cert.Reference4Ideal.Read.val_main_v36 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 19 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  exact (Cert.Reference4Ideal.Read.part36_apply _ _ _ _ b s n).trans (Cert.Kernel4Ideal.Value.arr19 m c b s n).symm

theorem eq20 : Cert.Reference4Ideal.Read.val_main_v298 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg6))
    = (Cert.Kernel4Ideal.Gen.dats m 0 c).arrAt 20 Cert.Kernel4Ideal.cfg0.N := by
  funext i
  obtain ⟨b, s, n, rfl⟩ : ∃ (b : Fin 2) (s : Fin 8192) (n : Fin 128), i = ix3 b s n :=
    ⟨i 0, i 1, i 2, Cert.KernelIdeal.Value.idx3_ext (n0 := 2) (n1 := 8192) (n2 := 128) _ _ rfl rfl rfl⟩
  exact (Cert.Reference4Ideal.Read.gate_apply _ _ _ _ _ b s n).trans (Cert.Kernel4Ideal.Value.arr20 m c b s n).symm

theorem eq21 : Cert.Reference4Ideal.Read.val_main_v301 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 21 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  exact (Cert.Reference4Ideal.Read.part301_apply _ _ _ _ b s n).trans (Cert.Kernel4Ideal.Value.arr21 m c b s n).symm

theorem eq22 : Cert.Reference4Ideal.Read.val_main_v302 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 22 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  exact (Cert.Reference4Ideal.Read.part302_apply _ _ _ _ b s n).trans (Cert.Kernel4Ideal.Value.arr22 m c b s n).symm

theorem eq23 : Cert.Reference4Ideal.Read.val_main_v303 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
    = (Cert.Kernel4Ideal.Gen.dats m 0 c).arrAt 23 Cert.Kernel4Ideal.cfg0.N := by
  funext i
  obtain ⟨b, s, n, rfl⟩ : ∃ (b : Fin 2) (s : Fin 8192) (n : Fin 256), i = ix3 b s n :=
    ⟨i 0, i 1, i 2, Cert.KernelIdeal.Value.idx3_ext (n0 := 2) (n1 := 8192) (n2 := 256) _ _ rfl rfl rfl⟩
  exact (Cert.Reference4Ideal.Read.part303_apply _ _ _ _ b s n).trans (Cert.Kernel4Ideal.Value.arr23 m c b s n).symm

end Arrays

/-- What the reference leaves, by the stages its values are read at. -/
theorem ref_run (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => ∀ c : Dev Cert.Reference4Ideal.nD,
      r.2.mem ((c.tc : Thread Cert.Reference4Ideal.nD Cert.Reference4Ideal.τ).loc Cert.Reference4Ideal.main_v126) = Cert.Reference4Ideal.Read.val_main_v126 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))
      ∧ r.2.mem ((c.tc : Thread Cert.Reference4Ideal.nD Cert.Reference4Ideal.τ).loc Cert.Reference4Ideal.main_v187) = Cert.Reference4Ideal.Read.val_main_v187 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg5))
      ∧ r.2.mem ((c.tc : Thread Cert.Reference4Ideal.nD Cert.Reference4Ideal.τ).loc Cert.Reference4Ideal.main_v188) = Cert.Reference4Ideal.Read.val_main_v188 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v240) = Cert.Reference4Ideal.Read.val_main_v240 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v288) = Cert.Reference4Ideal.Read.val_main_v288 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v289) = Cert.Reference4Ideal.Read.val_main_v289 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v292) = Cert.Reference4Ideal.Read.val_main_v292 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v293) = Cert.Reference4Ideal.Read.val_main_v293 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v294) = Cert.Reference4Ideal.Read.val_main_v294 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v36) = Cert.Reference4Ideal.Read.val_main_v36 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v298) = Cert.Reference4Ideal.Read.val_main_v298 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg6))
      ∧ r.2.mem ((c.tc : Thread Cert.Reference4Ideal.nD Cert.Reference4Ideal.τ).loc Cert.Reference4Ideal.main_v301) = Cert.Reference4Ideal.Read.val_main_v301 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v302) = Cert.Reference4Ideal.Read.val_main_v302 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_v303) = Cert.Reference4Ideal.Read.val_main_v303 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)) :=
  (θ_run _ _ _).mono (fun r h c => by
    obtain ⟨r10, r11, r12, r13, r14, r15, r16, r17, r18, r19, r20, r21, r22, r23, hr⟩ := h c
    exact ⟨r10.trans (Cert.Reference4Ideal.Read.val_main_v126_eq _),
      r11.trans (Cert.Reference4Ideal.Read.val_main_v187_eq _),
      r12.trans (Cert.Reference4Ideal.Read.val_main_v188_eq _),
      r13.trans (Cert.Reference4Ideal.Read.val_main_v240_eq _),
      r14.trans (Cert.Reference4Ideal.Read.val_main_v288_eq _),
      r15.trans (Cert.Reference4Ideal.Read.val_main_v289_eq _),
      r16.trans (Cert.Reference4Ideal.Read.val_main_v292_eq _),
      r17.trans (Cert.Reference4Ideal.Read.val_main_v293_eq _),
      r18.trans (Cert.Reference4Ideal.Read.val_main_v294_eq _),
      r19.trans (Cert.Reference4Ideal.Read.val_main_v36_eq _),
      r20.trans (Cert.Reference4Ideal.Read.val_main_v298_eq _),
      r21.trans (Cert.Reference4Ideal.Read.val_main_v301_eq _),
      r22.trans (Cert.Reference4Ideal.Read.val_main_v302_eq _),
      r23.trans (Cert.Reference4Ideal.Read.val_main_v303_eq _), hr⟩)
    (Cert.Reference4Ideal.Value.run m g)

/-- The reference ends with its arguments unchanged and no counter raised. -/
theorem ref_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0) :=
  (θ_run _ _ _).mono (fun r h => ⟨fun c => (h c).2.2.2.2.2.2.2.2.2.2.2.2.2.2, Idealize.ShloMosaic.sem_eq_zero_of_no_sems (by decide) r.2⟩)
    (Cert.Reference4Ideal.Value.run m g)

set_option maxHeartbeats 2000000 in
/-- The value claim. -/
theorem algebraic : Cert.algebraic_Kernel4Ideal_Reference4Ideal_pre_numbers := by
  intro m g m' g' hpre hagree
  refine ⟨fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    fun c => (Cert.Kernel4Ideal.Gen.dats m 0 c).arrAt 18 Cert.Kernel4Ideal.cfg0.N,
    fun c => (Cert.Kernel4Ideal.Gen.dats m 0 c).arrAt 19 Cert.Kernel4Ideal.cfg0.N,
    fun c => (Cert.Kernel4Ideal.Gen.dats m 0 c).arrAt 20 Cert.Kernel4Ideal.cfg0.N,
    fun c => (Cert.Kernel4Ideal.Gen.dats m 0 c).arrAt 21 Cert.Kernel4Ideal.cfg0.N,
    fun c => (Cert.Kernel4Ideal.Gen.dats m 0 c).arrAt 22 Cert.Kernel4Ideal.cfg0.N,
    fun c => (Cert.Kernel4Ideal.Gen.dats m 0 c).arrAt 23 Cert.Kernel4Ideal.cfg0.N,
    Cert.Kernel4Ideal.Value.run_blocks m g, (θ_run _ _ _).mono (fun r h c => ?_) (ref_run m' g')⟩
  obtain ⟨hM, hG, hW⟩ := Cert.Pre_numbers.nums _ _ _ _ _ _ _ (hpre c)
  obtain ⟨h0, h1, h2, h3, h4, h5, h6⟩ := hagree c
  obtain ⟨r10, r11, r12, r13, r14, r15, r16, r17, r18, r19, r20, r21, r22, r23, hr⟩ := h c
  refine ⟨r10.trans ?_, r11.trans ?_, r12.trans ?_, r13.trans ?_, r14.trans ?_, r15.trans ?_, r16.trans ?_, r17.trans ?_, r18.trans ?_, r19.trans ?_, r20.trans ?_, r21.trans ?_, r22.trans ?_, r23.trans ?_, hr⟩
  · rw [h0, h1, h2, h3, h4]
    exact eq10 m c hM hG hW
  · rw [h0, h1, h2, h3, h5]
    exact eq11 m c hM hG hW
  · rw [h0, h1, h2, h3]
    exact eq12 m c
  · rw [h0, h1, h2, h3]
    exact eq13 m c
  · rw [h0, h1, h2, h3]
    exact eq14 m c
  · rw [h0, h1, h2, h3]
    exact eq15 m c
  · rw [h0, h1, h2, h3]
    exact eq16 m c
  · rw [h0, h1, h2, h3]
    exact eq17 m c
  · rw [h0, h1, h2, h3]
    exact eq18 m c
  · rw [h0, h1, h2, h3]
    exact eq19 m c
  · rw [h0, h1, h2, h3, h6]
    exact eq20 m c
  · rw [h0, h1, h2, h3]
    exact eq21 m c
  · rw [h0, h1, h2, h3]
    exact eq22 m c
  · rw [h0, h1, h2, h3]
    exact eq23 m c

end Cert.Inp

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import proofs.«01_k».proof.Proof.FfnEquation
public import proofs.«01_k».proof.Proof.OutpEquation
public import proofs.«01_k».proof.Proof.InpEquation
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts, Cert.Pre_numbers.facts,
  fun m g _ => Cert.Kernel.Gen.frame m g,
  fun m g _ => Cert.KernelIdeal.Gen.frame m g,
  fun m g _ => Cert.KernelIdeal.Gen.frame m g,
  fun m g _ => Cert.Attn.ref_frame m g,
  fun m g _ => Cert.Attn.ref_frame m g,
  fun m g _ => Cert.Kernel2.Gen.frame m g,
  fun m g _ => Cert.Kernel2Ideal.Gen.frame m g,
  fun m g _ => Cert.Ffn.ref_frame m g,
  fun m g _ => Cert.Kernel3.Gen.frame m g,
  fun m g _ => Cert.Kernel3Ideal.Gen.frame m g,
  fun m g _ => Cert.Outp.ref_frame m g,
  fun m g _ => Cert.Kernel4.Gen.frame m g,
  fun m g _ => Cert.Kernel4Ideal.Gen.frame m g,
  fun m g _ => Cert.Kernel4Ideal.Gen.frame m g,
  fun m g _ => Cert.Inp.ref_frame m g,
  fun m g _ => Cert.Inp.ref_frame m g,
  trivial,
  Cert.Attn.algebraic,
  trivial,
  Cert.Ffn.algebraic,
  trivial,
  Cert.Outp.algebraic,
  trivial,
  Cert.Inp.algebraic⟩

end Cert.Proof

end
